-- ==== Defs.lean ====
def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2RefIdeal (m : (ℓ : Loc Cert.Ln2RefIdeal.nD Cert.Ln2RefIdeal.τ Cert.Ln2RefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_Gquant (m : (ℓ : Loc Cert.Gquant.nD Cert.Gquant.τ Cert.Gquant.sig) → Buf (Elt Bits) ℓ) : Prop :=
  True

def Pre_GquantIdeal (m : (ℓ : Loc Cert.GquantIdeal.nD Cert.GquantIdeal.τ Cert.GquantIdeal.sig) → Buf (Elt Ideal) ℓ) : Prop :=
  True

def Pre_GquantRefIdeal (m : (ℓ : Loc Cert.GquantRefIdeal.nD Cert.GquantRefIdeal.τ Cert.GquantRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3)
      ∧ r.2.mem ((c.tc : Thread Cert.FcRefIdeal.nD Cert.FcRefIdeal.τ).loc Cert.FcRefIdeal.main_arg4) = m ((c.tc : Thread Cert.FcRefIdeal.nD Cert.FcRefIdeal.τ).loc Cert.FcRefIdeal.main_arg4))
      ∧ r.2.sem = fun _ => 0)

def quiescent_Gquant [hGquant : Cert.Gquant.Facts] : Prop :=
  ∀ (m : (ℓ : Loc Cert.Gquant.nD Cert.Gquant.τ Cert.Gquant.sig) → Buf (Elt Bits) ℓ) (g : Dev Cert.Gquant.nD → PrngReg), Pre_Gquant m →
    θ_run (Cert.Gquant.defs (F := Bits)) (onTc (τ := Cert.Gquant.τ) (Cert.Gquant.main (F := Bits))) ⟨m, fun _ => 0, g⟩ (fun r => (∀ c : Dev Cert.Gquant.nD,
      r.2.mem ((c.tc : Thread Cert.Gquant.nD Cert.Gquant.τ).loc Cert.Gquant.main_arg0) = m ((c.tc : Thread Cert.Gquant.nD Cert.Gquant.τ).loc Cert.Gquant.main_arg0)
      ∧ r.2.mem ((c.tc : Thread Cert.Gquant.nD Cert.Gquant.τ).loc Cert.Gquant.main_arg1) = m ((c.tc : Thread Cert.Gquant.nD Cert.Gquant.τ).loc Cert.Gquant.main_arg1))
      ∧ r.2.sem = fun _ => 0)

def quiescent_GquantIdeal [hGquantIdeal : Cert.GquantIdeal.Facts] : Prop :=
  ∀ (m : (ℓ : Loc Cert.GquantIdeal.nD Cert.GquantIdeal.τ Cert.GquantIdeal.sig) → Buf (Elt Ideal) ℓ) (g : Dev Cert.GquantIdeal.nD → PrngReg), Pre_GquantIdeal m →
    θ_run (Cert.GquantIdeal.defs (F := Ideal)) (onTc (τ := Cert.GquantIdeal.τ) (Cert.GquantIdeal.main (F := Ideal))) ⟨m, fun _ => 0, g⟩ (fun r => (∀ c : Dev Cert.GquantIdeal.nD,
      r.2.mem ((c.tc : Thread Cert.GquantIdeal.nD Cert.GquantIdeal.τ).loc Cert.GquantIdeal.main_arg0) = m ((c.tc : Thread Cert.GquantIdeal.nD Cert.GquantIdeal.τ).loc Cert.GquantIdeal.main_arg0)
      ∧ r.2.mem ((c.tc : Thread Cert.GquantIdeal.nD Cert.GquantIdeal.τ).loc Cert.GquantIdeal.main_arg1) = m ((c.tc : Thread Cert.GquantIdeal.nD Cert.GquantIdeal.τ).loc Cert.GquantIdeal.main_arg1))
      ∧ r.2.sem = fun _ => 0)

def quiescent_GquantRefIdeal [hGquantRefIdeal : Cert.GquantRefIdeal.Facts] : Prop :=
  ∀ (m : (ℓ : Loc Cert.GquantRefIdeal.nD Cert.GquantRefIdeal.τ Cert.GquantRefIdeal.sig) → Buf (Elt Ideal) ℓ) (g : Dev Cert.GquantRefIdeal.nD → PrngReg), Pre_GquantRefIdeal m →
    θ_run (Cert.GquantRefIdeal.defs (F := Ideal)) (onTc (τ := Cert.GquantRefIdeal.τ) (Cert.GquantRefIdeal.main (F := Ideal))) ⟨m, fun _ => 0, g⟩ (fun r => (∀ c : Dev Cert.GquantRefIdeal.nD,
      r.2.mem ((c.tc : Thread Cert.GquantRefIdeal.nD Cert.GquantRefIdeal.τ).loc Cert.GquantRefIdeal.main_arg0) = m ((c.tc : Thread Cert.GquantRefIdeal.nD Cert.GquantRefIdeal.τ).loc Cert.GquantRefIdeal.main_arg0)
      ∧ r.2.mem ((c.tc : Thread Cert.GquantRefIdeal.nD Cert.GquantRefIdeal.τ).loc Cert.GquantRefIdeal.main_arg1) = m ((c.tc : Thread Cert.GquantRefIdeal.nD Cert.GquantRefIdeal.τ).loc Cert.GquantRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Ln1_Ln1Ideal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)) →
    ∃ (v0 : (c : Dev Cert.Ln1Ideal.nD) → Buf (Elt Ideal) ((c.tc : Thread Cert.Ln1Ideal.nD Cert.Ln1Ideal.τ).loc Cert.Ln1Ideal.main_v2_0)) (v1 : (c : Dev Cert.Ln1Ideal.nD) → Buf (Elt Ideal) ((c.tc : Thread Cert.Ln1Ideal.nD Cert.Ln1Ideal.τ).loc Cert.Ln1Ideal.main_v4)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v2_0) = v0 c
          ∧ r.2.mem ((c.tc : Thread Cert.Ln1Ideal.nD Cert.Ln1Ideal.τ).loc Cert.Ln1Ideal.main_v4) = v1 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v2_0) = v0 c
          ∧ r.2.mem ((c.tc : Thread Cert.Ln1RefIdeal.nD Cert.Ln1RefIdeal.τ).loc Cert.Ln1RefIdeal.main_v3) = v1 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v11)) (v3 : (c : Dev Cert.QkvIdeal.nD) → Buf (Elt Ideal) ((c.tc : Thread Cert.QkvIdeal.nD Cert.QkvIdeal.τ).loc Cert.QkvIdeal.main_v7_2)) (v4 : (c : Dev Cert.QkvIdeal.nD) → Buf (Elt Ideal) ((c.tc : Thread Cert.QkvIdeal.nD Cert.QkvIdeal.τ).loc Cert.QkvIdeal.main_v15)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v11) = v2 c
          ∧ r.2.mem ((c.tc : Thread Cert.QkvIdeal.nD Cert.QkvIdeal.τ).loc Cert.QkvIdeal.main_v7_2) = v3 c
          ∧ r.2.mem ((c.tc : Thread Cert.QkvIdeal.nD Cert.QkvIdeal.τ).loc Cert.QkvIdeal.main_v15) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3_0) = v0 c
          ∧ r.2.mem ((c.tc : Thread Cert.QkvRefIdeal.nD Cert.QkvRefIdeal.τ).loc Cert.QkvRefIdeal.main_v3_1) = v1 c
          ∧ r.2.mem ((c.tc : Thread Cert.QkvRefIdeal.nD Cert.QkvRefIdeal.τ).loc Cert.QkvRefIdeal.main_v3_2) = v2 c
          ∧ r.2.mem ((c.tc : Thread Cert.QkvRefIdeal.nD Cert.QkvRefIdeal.τ).loc Cert.QkvRefIdeal.main_v3_3) = v3 c
          ∧ r.2.mem ((c.tc : Thread Cert.QkvRefIdeal.nD Cert.QkvRefIdeal.τ).loc Cert.QkvRefIdeal.main_v3_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v6)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v6) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v1) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Ln2_Ln2Ideal : Prop :=
  True

def algebraic_Ln2Ideal_Ln2RefIdeal [hLn2Ideal : Cert.Ln2Ideal.Facts] [hLn2RefIdeal : Cert.Ln2RefIdeal.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)) →
    ∃ (v0 : (c : Dev Cert.Ln2Ideal.nD) → Buf (Elt Ideal) ((c.tc : Thread Cert.Ln2Ideal.nD Cert.Ln2Ideal.τ).loc Cert.Ln2Ideal.main_v2_0)) (v1 : (c : Dev Cert.Ln2Ideal.nD) → Buf (Elt Ideal) ((c.tc : Thread Cert.Ln2Ideal.nD Cert.Ln2Ideal.τ).loc Cert.Ln2Ideal.main_v4)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v2_0) = v0 c
          ∧ r.2.mem ((c.tc : Thread Cert.Ln2Ideal.nD Cert.Ln2Ideal.τ).loc Cert.Ln2Ideal.main_v4) = v1 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v2_0) = v0 c
          ∧ r.2.mem ((c.tc : Thread Cert.Ln2RefIdeal.nD Cert.Ln2RefIdeal.τ).loc Cert.Ln2RefIdeal.main_v3) = v1 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2))

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)
      ∧ m' ((c.tc : Thread Cert.FcRefIdeal.nD Cert.FcRefIdeal.τ).loc Cert.FcRefIdeal.main_arg4) = m ((c.tc : Thread Cert.FcIdeal.nD Cert.FcIdeal.τ).loc Cert.FcIdeal.main_arg4)) →
    ∃ (v0 : (c : Dev Cert.FcIdeal.nD) → Buf (Elt Ideal) ((c.tc : Thread Cert.FcIdeal.nD Cert.FcIdeal.τ).loc Cert.FcIdeal.main_v4_0)) (v1 : (c : Dev Cert.FcIdeal.nD) → Buf (Elt Ideal) ((c.tc : Thread Cert.FcIdeal.nD Cert.FcIdeal.τ).loc Cert.FcIdeal.main_v4_1)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v4_0) = v0 c
          ∧ r.2.mem ((c.tc : Thread Cert.FcIdeal.nD Cert.FcIdeal.τ).loc Cert.FcIdeal.main_v4_1) = v1 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v3_0) = v0 c
          ∧ r.2.mem ((c.tc : Thread Cert.FcRefIdeal.nD Cert.FcRefIdeal.τ).loc Cert.FcRefIdeal.main_v3_1) = v1 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3)
          ∧ r.2.mem ((c.tc : Thread Cert.FcRefIdeal.nD Cert.FcRefIdeal.τ).loc Cert.FcRefIdeal.main_arg4) = m' ((c.tc : Thread Cert.FcRefIdeal.nD Cert.FcRefIdeal.τ).loc Cert.FcRefIdeal.main_arg4))

def preserves_Gquant_GquantIdeal : Prop :=
  True

def algebraic_GquantIdeal_GquantRefIdeal [hGquantIdeal : Cert.GquantIdeal.Facts] [hGquantRefIdeal : Cert.GquantRefIdeal.Facts] : Prop :=
  ∀ (m : (ℓ : Loc Cert.GquantIdeal.nD Cert.GquantIdeal.τ Cert.GquantIdeal.sig) → Buf (Elt Ideal) ℓ) (g : Dev Cert.GquantIdeal.nD → PrngReg)
    (m' : (ℓ : Loc Cert.GquantRefIdeal.nD Cert.GquantRefIdeal.τ Cert.GquantRefIdeal.sig) → Buf (Elt Ideal) ℓ) (g' : Dev Cert.GquantRefIdeal.nD → PrngReg), Pre_GquantIdeal m →
    (∀ c : Dev Cert.GquantIdeal.nD,
      m' ((c.tc : Thread Cert.GquantRefIdeal.nD Cert.GquantRefIdeal.τ).loc Cert.GquantRefIdeal.main_arg0) = m ((c.tc : Thread Cert.GquantIdeal.nD Cert.GquantIdeal.τ).loc Cert.GquantIdeal.main_arg0)
      ∧ m' ((c.tc : Thread Cert.GquantRefIdeal.nD Cert.GquantRefIdeal.τ).loc Cert.GquantRefIdeal.main_arg1) = m ((c.tc : Thread Cert.GquantIdeal.nD Cert.GquantIdeal.τ).loc Cert.GquantIdeal.main_arg1)) →
    ∃ (v0 : (c : Dev Cert.GquantIdeal.nD) → Buf (Elt Ideal) ((c.tc : Thread Cert.GquantIdeal.nD Cert.GquantIdeal.τ).loc Cert.GquantIdeal.main_v0_0)) (v1 : (c : Dev Cert.GquantIdeal.nD) → Buf (Elt Ideal) ((c.tc : Thread Cert.GquantIdeal.nD Cert.GquantIdeal.τ).loc Cert.GquantIdeal.main_v2)),
      θ_run (Cert.GquantIdeal.defs (F := Ideal)) (onTc (τ := Cert.GquantIdeal.τ) (Cert.GquantIdeal.main (F := Ideal))) ⟨m, fun _ => 0, g⟩ (fun r => ∀ c : Dev Cert.GquantIdeal.nD,
          r.2.mem ((c.tc : Thread Cert.GquantIdeal.nD Cert.GquantIdeal.τ).loc Cert.GquantIdeal.main_v0_0) = v0 c
          ∧ r.2.mem ((c.tc : Thread Cert.GquantIdeal.nD Cert.GquantIdeal.τ).loc Cert.GquantIdeal.main_v2) = v1 c
          ∧ r.2.mem ((c.tc : Thread Cert.GquantIdeal.nD Cert.GquantIdeal.τ).loc Cert.GquantIdeal.main_arg0) = m ((c.tc : Thread Cert.GquantIdeal.nD Cert.GquantIdeal.τ).loc Cert.GquantIdeal.main_arg0)
          ∧ r.2.mem ((c.tc : Thread Cert.GquantIdeal.nD Cert.GquantIdeal.τ).loc Cert.GquantIdeal.main_arg1) = m ((c.tc : Thread Cert.GquantIdeal.nD Cert.GquantIdeal.τ).loc Cert.GquantIdeal.main_arg1))
      ∧ θ_run (Cert.GquantRefIdeal.defs (F := Ideal)) (onTc (τ := Cert.GquantRefIdeal.τ) (Cert.GquantRefIdeal.main (F := Ideal))) ⟨m', fun _ => 0, g'⟩ (fun r => ∀ c : Dev Cert.GquantRefIdeal.nD,
          r.2.mem ((c.tc : Thread Cert.GquantRefIdeal.nD Cert.GquantRefIdeal.τ).loc Cert.GquantRefIdeal.main_v0_0) = v0 c
          ∧ r.2.mem ((c.tc : Thread Cert.GquantRefIdeal.nD Cert.GquantRefIdeal.τ).loc Cert.GquantRefIdeal.main_v1) = v1 c
          ∧ r.2.mem ((c.tc : Thread Cert.GquantRefIdeal.nD Cert.GquantRefIdeal.τ).loc Cert.GquantRefIdeal.main_arg0) = m' ((c.tc : Thread Cert.GquantRefIdeal.nD Cert.GquantRefIdeal.τ).loc Cert.GquantRefIdeal.main_arg0)
          ∧ r.2.mem ((c.tc : Thread Cert.GquantRefIdeal.nD Cert.GquantRefIdeal.τ).loc Cert.GquantRefIdeal.main_arg1) = m' ((c.tc : Thread Cert.GquantRefIdeal.nD Cert.GquantRefIdeal.τ).loc Cert.GquantRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hLn1 : Cert.Ln1.Facts) (hLn1Ideal : Cert.Ln1Ideal.Facts) (hLn1RefIdeal : Cert.Ln1RefIdeal.Facts) (hQkv : Cert.Qkv.Facts) (hQkvIdeal : Cert.QkvIdeal.Facts) (hQkvRefIdeal : Cert.QkvRefIdeal.Facts) (hSlots : Cert.Slots.Facts) (hSlotsIdeal : Cert.SlotsIdeal.Facts) (hSlotsRefIdeal : Cert.SlotsRefIdeal.Facts) (hOproj : Cert.Oproj.Facts) (hOprojIdeal : Cert.OprojIdeal.Facts) (hOprojRefIdeal : Cert.OprojRefIdeal.Facts) (hLn2 : Cert.Ln2.Facts) (hLn2Ideal : Cert.Ln2Ideal.Facts) (hLn2RefIdeal : Cert.Ln2RefIdeal.Facts) (hFc : Cert.Fc.Facts) (hFcIdeal : Cert.FcIdeal.Facts) (hFcRefIdeal : Cert.FcRefIdeal.Facts) (hGquant : Cert.Gquant.Facts) (hGquantIdeal : Cert.GquantIdeal.Facts) (hGquantRefIdeal : Cert.GquantRefIdeal.Facts) (hProj : Cert.Proj.Facts) (hProjIdeal : Cert.ProjIdeal.Facts) (hProjRefIdeal : Cert.ProjRefIdeal.Facts),
    quiescent_Ln1 (hLn1 := hLn1)
    ∧ quiescent_Ln1Ideal (hLn1Ideal := hLn1Ideal)
    ∧ quiescent_Ln1RefIdeal (hLn1RefIdeal := hLn1RefIdeal)
    ∧ quiescent_Qkv (hQkv := hQkv)
    ∧ quiescent_QkvIdeal (hQkvIdeal := hQkvIdeal)
    ∧ quiescent_QkvRefIdeal (hQkvRefIdeal := hQkvRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Ln2 (hLn2 := hLn2)
    ∧ quiescent_Ln2Ideal (hLn2Ideal := hLn2Ideal)
    ∧ quiescent_Ln2RefIdeal (hLn2RefIdeal := hLn2RefIdeal)
    ∧ quiescent_Fc (hFc := hFc)
    ∧ quiescent_FcIdeal (hFcIdeal := hFcIdeal)
    ∧ quiescent_FcRefIdeal (hFcRefIdeal := hFcRefIdeal)
    ∧ quiescent_Gquant (hGquant := hGquant)
    ∧ quiescent_GquantIdeal (hGquantIdeal := hGquantIdeal)
    ∧ quiescent_GquantRefIdeal (hGquantRefIdeal := hGquantRefIdeal)
    ∧ quiescent_Proj (hProj := hProj)
    ∧ quiescent_ProjIdeal (hProjIdeal := hProjIdeal)
    ∧ quiescent_ProjRefIdeal (hProjRefIdeal := hProjRefIdeal)
    ∧ preserves_Ln1_Ln1Ideal
    ∧ algebraic_Ln1Ideal_Ln1RefIdeal (hLn1Ideal := hLn1Ideal) (hLn1RefIdeal := hLn1RefIdeal)
    ∧ preserves_Qkv_QkvIdeal
    ∧ algebraic_QkvIdeal_QkvRefIdeal (hQkvIdeal := hQkvIdeal) (hQkvRefIdeal := hQkvRefIdeal)
    ∧ preserves_Slots_SlotsIdeal
    ∧ algebraic_SlotsIdeal_SlotsRefIdeal (hSlotsIdeal := hSlotsIdeal) (hSlotsRefIdeal := hSlotsRefIdeal)
    ∧ preserves_Oproj_OprojIdeal
    ∧ algebraic_OprojIdeal_OprojRefIdeal (hOprojIdeal := hOprojIdeal) (hOprojRefIdeal := hOprojRefIdeal)
    ∧ preserves_Ln2_Ln2Ideal
    ∧ algebraic_Ln2Ideal_Ln2RefIdeal (hLn2Ideal := hLn2Ideal) (hLn2RefIdeal := hLn2RefIdeal)
    ∧ preserves_Fc_FcIdeal
    ∧ algebraic_FcIdeal_FcRefIdeal (hFcIdeal := hFcIdeal) (hFcRefIdeal := hFcRefIdeal)
    ∧ preserves_Gquant_GquantIdeal
    ∧ algebraic_GquantIdeal_GquantRefIdeal (hGquantIdeal := hGquantIdeal) (hGquantRefIdeal := hGquantRefIdeal)
    ∧ preserves_Proj_ProjIdeal
    ∧ algebraic_ProjIdeal_ProjRefIdeal (hProjIdeal := hProjIdeal) (hProjRefIdeal := hProjRefIdeal)
-- ==== Ln1.lean ====
abbrev S16384x6144 : Shape := ⟨2, ![16384, 6144]⟩
abbrev S6144 : Shape := ⟨1, ![6144]⟩
abbrev S1x6144 : Shape := ⟨2, ![1, 6144]⟩
abbrev S16384x128 : Shape := ⟨2, ![16384, 128]⟩
abbrev S256x6144 : Shape := ⟨2, ![256, 6144]⟩
abbrev S256x128 : Shape := ⟨2, ![256, 128]⟩
abbrev S256 : Shape := ⟨1, ![256]⟩
abbrev S256x1 : Shape := ⟨2, ![256, 1]⟩
abbrev S16384x1 : Shape := ⟨2, ![16384, 1]⟩
abbrev S16384 : Shape := ⟨1, ![16384]⟩

abbrev nBuf : Space → Nat
  | .hbm => 9
  | .vmem => 8
  | .smem => 0
  | _ => 0

abbrev bufTy : (tb : Table) → Fin (tcTables nBuf tb) → BufTy
  | .hbm, ⟨0, _⟩ => ⟨S16384x6144, .bf16⟩
  | .hbm, ⟨1, _⟩ => ⟨S6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S16384x6144, .i8⟩
  | .hbm, ⟨6, _⟩ => ⟨S16384x128, .f32⟩
  | .hbm, ⟨7, _⟩ => ⟨S16384x1, .f32⟩
  | .hbm, ⟨8, _⟩ => ⟨S16384, .f32⟩
  | .local _ .vmem, ⟨0, _⟩ => ⟨S256x6144, .bf16⟩
  | .local _ .vmem, ⟨1, _⟩ => ⟨S256x6144, .bf16⟩
  | .local _ .vmem, ⟨2, _⟩ => ⟨S1x6144, .f32⟩
  | .local _ .vmem, ⟨3, _⟩ => ⟨S1x6144, .f32⟩
  | .local _ .vmem, ⟨4, _⟩ => ⟨S256x6144, .i8⟩
  | .local _ .vmem, ⟨5, _⟩ => ⟨S256x6144, .i8⟩
  | .local _ .vmem, ⟨6, _⟩ => ⟨S256x128, .f32⟩
  | .local _ .vmem, ⟨7, _⟩ => ⟨S256x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Ln1RefIdeal.lean ====
abbrev S16384x6144 : Shape := ⟨2, ![16384, 6144]⟩
abbrev S6144 : Shape := ⟨1, ![6144]⟩
abbrev S1x6144 : Shape := ⟨2, ![1, 6144]⟩
abbrev S16384x1 : Shape := ⟨2, ![16384, 1]⟩
abbrev S16384 : Shape := ⟨1, ![16384]⟩

abbrev nBuf : Space → Nat
  | .hbm => 8
  | .vmem => 5
  | .smem => 0
  | _ => 0

abbrev bufTy : (tb : Table) → Fin (tcTables nBuf tb) → BufTy
  | .hbm, ⟨0, _⟩ => ⟨S16384x6144, .bf16⟩
  | .hbm, ⟨1, _⟩ => ⟨S6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S16384x6144, .i8⟩
  | .hbm, ⟨6, _⟩ => ⟨S16384x1, .f32⟩
  | .hbm, ⟨7, _⟩ => ⟨S16384, .f32⟩
  | .local _ .vmem, ⟨0, _⟩ => ⟨S16384x6144, .bf16⟩
  | .local _ .vmem, ⟨1, _⟩ => ⟨S1x6144, .f32⟩
  | .local _ .vmem, ⟨2, _⟩ => ⟨S1x6144, .f32⟩
  | .local _ .vmem, ⟨3, _⟩ => ⟨S16384x6144, .i8⟩
  | .local _ .vmem, ⟨4, _⟩ => ⟨S16384x1, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv.lean ====
abbrev S16384x6144 : Shape := ⟨2, ![16384, 6144]⟩
abbrev S16384 : Shape := ⟨1, ![16384]⟩
abbrev S6144x3584 : Shape := ⟨2, ![6144, 3584]⟩
abbrev S3584 : Shape := ⟨1, ![3584]⟩
abbrev S16384x64 : Shape := ⟨2, ![16384, 64]⟩
abbrev S16384x128 : Shape := ⟨2, ![16384, 128]⟩
abbrev S16384x1 : Shape := ⟨2, ![16384, 1]⟩
abbrev S1x3584 : Shape := ⟨2, ![1, 3584]⟩
abbrev S24x16384x128 : Shape := ⟨3, ![24, 16384, 128]⟩
abbrev S16384x256 : Shape := ⟨2, ![16384, 256]⟩
abbrev S4x16384x128 : Shape := ⟨3, ![4, 16384, 128]⟩
abbrev S1024x6144 : Shape := ⟨2, ![1024, 6144]⟩
abbrev S1024x128 : Shape := ⟨2, ![1024, 128]⟩
abbrev S6144x512 : Shape := ⟨2, ![6144, 512]⟩
abbrev S1x512 : Shape := ⟨2, ![1, 512]⟩
abbrev S4x1024x128 : Shape := ⟨3, ![4, 1024, 128]⟩
abbrev S1024x256 : Shape := ⟨2, ![1024, 256]⟩
abbrev S1024x512 : Shape := ⟨2, ![1024, 512]⟩
abbrev S1x128 : Shape := ⟨2, ![1, 128]⟩
abbrev S1x1024x128 : Shape := ⟨3, ![1, 1024, 128]⟩
abbrev S1024 : Shape := ⟨1, ![1024]⟩
abbrev S1024x1 : Shape := ⟨2, ![1024, 1]⟩
abbrev S2x16384x128 : Shape := ⟨3, ![2, 16384, 128]⟩
abbrev S2x16384x1 : Shape := ⟨3, ![2, 16384, 1]⟩
abbrev S2x16384 : Shape := ⟨2, ![2, 16384]⟩
abbrev S16384x2 : Shape := ⟨2, ![16384, 2]⟩

abbrev nBuf : Space → Nat
  | .hbm => 26
  | .vmem => 23
  | .smem => 0
  | _ => 0

abbrev bufTy : (tb : Table) → Fin (tcTables nBuf tb) → BufTy
  | .hbm, ⟨0, _⟩ => ⟨S16384x6144, .i8⟩
  | .hbm, ⟨1, _⟩ => ⟨S16384, .f32⟩
  | .hbm, ⟨2, _⟩ => ⟨S6144x3584, .i8⟩
  | .hbm, ⟨3, _⟩ => ⟨S3584, .f32⟩
  | .hbm, ⟨4, _⟩ => ⟨S3584, .f32⟩
  | .hbm, ⟨5, _⟩ => ⟨S16384x64, .f32⟩
  | .hbm, ⟨6, _⟩ => ⟨S16384x64, .f32⟩
  | .hbm, ⟨7, _⟩ => ⟨S16384x128, .f32⟩
  | .hbm, ⟨8, _⟩ => ⟨S16384x64, .f32⟩
  | .hbm, ⟨9, _⟩ => ⟨S16384x128, .f32⟩
  | .hbm, ⟨10, _⟩ => ⟨S16384x1, .f32⟩
  | .hbm, ⟨11, _⟩ => ⟨S16384x128, .f32⟩
  | .hbm, ⟨12, _⟩ => ⟨S1x3584, .f32⟩
  | .hbm, ⟨13, _⟩ => ⟨S1x3584, .f32⟩
  | .hbm, ⟨14, _⟩ => ⟨S24x16384x128, .bf16⟩
  | .hbm, ⟨15, _⟩ => ⟨S16384x256, .i8⟩
  | .hbm, ⟨16, _⟩ => ⟨S16384x256, .i8⟩
  | .hbm, ⟨17, _⟩ => ⟨S4x16384x128, .f32⟩
  | .hbm, ⟨18, _⟩ => ⟨S2x16384x128, .f32⟩
  | .hbm, ⟨19, _⟩ => ⟨S2x16384x1, .f32⟩
  | .hbm, ⟨20, _⟩ => ⟨S2x16384, .f32⟩
  | .hbm, ⟨21, _⟩ => ⟨S16384x2, .f32⟩
  | .hbm, ⟨22, _⟩ => ⟨S2x16384x128, .f32⟩
  | .hbm, ⟨23, _⟩ => ⟨S2x16384x1, .f32⟩
  | .hbm, ⟨24, _⟩ => ⟨S2x16384, .f32⟩
  | .hbm, ⟨25, _⟩ => ⟨S16384x2, .f32⟩
  | .local _ .vmem, ⟨0, _⟩ => ⟨S1024x6144, .i8⟩
  | .local _ .vmem, ⟨1, _⟩ => ⟨S1024x6144, .i8⟩
  | .local _ .vmem, ⟨2, _⟩ => ⟨S1024x128, .f32⟩
  | .local _ .vmem, ⟨3, _⟩ => ⟨S1024x128, .f32⟩
  | .local _ .vmem, ⟨4, _⟩ => ⟨S6144x512, .i8⟩
  | .local _ .vmem, ⟨5, _⟩ => ⟨S6144x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S4x1024x128, .bf16⟩
  | .local _ .vmem, ⟨15, _⟩ => ⟨S4x1024x128, .bf16⟩
  | .local _ .vmem, ⟨16, _⟩ => ⟨S1024x256, .i8⟩
  | .local _ .vmem, ⟨17, _⟩ => ⟨S1024x256, .i8⟩
  | .local _ .vmem, ⟨18, _⟩ => ⟨S1024x256, .i8⟩
  | .local _ .vmem, ⟨19, _⟩ => ⟨S1024x256, .i8⟩
  | .local _ .vmem, ⟨20, _⟩ => ⟨S4x1024x128, .f32⟩
  | .local _ .vmem, ⟨21, _⟩ => ⟨S4x1024x128, .f32⟩
  | .local _ .vmem, ⟨22, _⟩ => ⟨S1024x6144, .bf16⟩
  | _, _ => ⟨S16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![v0.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x6144 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== QkvRefIdeal.lean ====
abbrev S16384x6144 : Shape := ⟨2, ![16384, 6144]⟩
abbrev S16384 : Shape := ⟨1, ![16384]⟩
abbrev S6144x3584 : Shape := ⟨2, ![6144, 3584]⟩
abbrev S3584 : Shape := ⟨1, ![3584]⟩
abbrev S16384x64 : Shape := ⟨2, ![16384, 64]⟩
abbrev S16384x1 : Shape := ⟨2, ![16384, 1]⟩
abbrev S1x3584 : Shape := ⟨2, ![1, 3584]⟩
abbrev S24x16384x128 : Shape := ⟨3, ![24, 16384, 128]⟩
abbrev S16384x256 : Shape := ⟨2, ![16384, 256]⟩
abbrev S16384x2 : Shape := ⟨2, ![16384, 2]⟩
abbrev S16384x3584 : Shape := ⟨2, ![16384, 3584]⟩
abbrev S16384x128 : Shape := ⟨2, ![16384, 128]⟩
abbrev S1x16384x128 : Shape := ⟨3, ![1, 16384, 128]⟩

abbrev nBuf : Space → Nat
  | .hbm => 15
  | .vmem => 12
  | .smem => 0
  | _ => 0

abbrev bufTy : (tb : Table) → Fin (tcTables nBuf tb) → BufTy
  | .hbm, ⟨0, _⟩ => ⟨S16384x6144, .i8⟩
  | .hbm, ⟨1, _⟩ => ⟨S16384, .f32⟩
  | .hbm, ⟨2, _⟩ => ⟨S6144x3584, .i8⟩
  | .hbm, ⟨3, _⟩ => ⟨S3584, .f32⟩
  | .hbm, ⟨4, _⟩ => ⟨S3584, .f32⟩
  | .hbm, ⟨5, _⟩ => ⟨S16384x64, .f32⟩
  | .hbm, ⟨6, _⟩ => ⟨S16384x64, .f32⟩
  | .hbm, ⟨7, _⟩ => ⟨S16384x1, .f32⟩
  | .hbm, ⟨8, _⟩ => ⟨S1x3584, .f32⟩
  | .hbm, ⟨9, _⟩ => ⟨S1x3584, .f32⟩
  | .hbm, ⟨10, _⟩ => ⟨S24x16384x128, .bf16⟩
  | .hbm, ⟨11, _⟩ => ⟨S16384x256, .i8⟩
  | .hbm, ⟨12, _⟩ => ⟨S16384x2, .f32⟩
  | .hbm, ⟨13, _⟩ => ⟨S16384x256, .i8⟩
  | .hbm, ⟨14, _⟩ => ⟨S16384x2, .f32⟩
  | .local _ .vmem, ⟨0, _⟩ => ⟨S16384x6144, .i8⟩
  | .local _ .vmem, ⟨1, _⟩ => ⟨S16384x1, .f32⟩
  | .local _ .vmem, ⟨2, _⟩ => ⟨S6144x3584, .i8⟩
  | .local _ .vmem, ⟨3, _⟩ => ⟨S1x3584, .f32⟩
  | .local _ .vmem, ⟨4, _⟩ => ⟨S1x3584, .f32⟩
  | .local _ .vmem, ⟨5, _⟩ => ⟨S16384x64, .f32⟩
  | .local _ .vmem, ⟨6, _⟩ => ⟨S16384x64, .f32⟩
  | .local _ .vmem, ⟨7, _⟩ => ⟨S24x16384x128, .bf16⟩
  | .local _ .vmem, ⟨8, _⟩ => ⟨S16384x256, .i8⟩
  | .local _ .vmem, ⟨9, _⟩ => ⟨S16384x2, .f32⟩
  | .local _ .vmem, ⟨10, _⟩ => ⟨S16384x256, .i8⟩
  | .local _ .vmem, ⟨11, _⟩ => ⟨S16384x2, .f32⟩
  | _, _ => ⟨S16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x16384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Slots.lean ====
abbrev S8 : Shape := ⟨1, ![8]⟩
abbrev S8x1 : Shape := ⟨2, ![8, 1]⟩
abbrev S2048 : Shape := ⟨1, ![2048]⟩
abbrev S1x2048 : Shape := ⟨2, ![1, 2048]⟩
abbrev S8x2048 : Shape := ⟨2, ![8, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1, .i32⟩
  | .hbm, ⟨2, _⟩ => ⟨S2048, .i32⟩
  | .hbm, ⟨3, _⟩ => ⟨S1x2048, .i32⟩
  | .hbm, ⟨4, _⟩ => ⟨S8x2048, .i32⟩
  | .hbm, ⟨5, _⟩ => ⟨S8x2048, .i32⟩
  | .hbm, ⟨6, _⟩ => ⟨S8x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S_, .i32⟩
  | .hbm, ⟨16, _⟩ => ⟨S8x2048, .i32⟩
  | .hbm, ⟨17, _⟩ => ⟨S8x2048, .i1⟩
  | .hbm, ⟨18, _⟩ => ⟨S_, .i32⟩
  | .hbm, ⟨19, _⟩ => ⟨S8x2048, .i32⟩
  | .hbm, ⟨20, _⟩ => ⟨S8x2048, .i1⟩
  | .hbm, ⟨21, _⟩ => ⟨S_, .i32⟩
  | .hbm, ⟨22, _⟩ => ⟨S_, .i1⟩
  | .hbm, ⟨23, _⟩ => ⟨S8x2048, .i1⟩
  | .hbm, ⟨24, _⟩ => ⟨S8x2048, .i1⟩
  | .hbm, ⟨25, _⟩ => ⟨S8x2048, .i1⟩
  | .hbm, ⟨26, _⟩ => ⟨S8x2048, .i32⟩
  | .hbm, ⟨27, _⟩ => ⟨S8x2048, .i32⟩
  | .hbm, ⟨28, _⟩ => ⟨S8x2048, .i32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩

abbrev nD : Nat := 1
abbrev τ : Topo := Topo.v7x

variable {F : FTy → Type} [FloatOps F]
-- ==== SlotsRefIdeal.lean ====
abbrev S8 : Shape := ⟨1, ![8]⟩
abbrev S8x1 : Shape := ⟨2, ![8, 1]⟩
abbrev S8x2048 : Shape := ⟨2, ![8, 2048]⟩

abbrev nBuf : Space → Nat
  | .hbm => 3
  | .vmem => 2
  | .smem => 0
  | _ => 0

abbrev bufTy : (tb : Table) → Fin (tcTables nBuf tb) → BufTy
  | .hbm, ⟨0, _⟩ => ⟨S8, .i32⟩
  | .hbm, ⟨1, _⟩ => ⟨S8x1, .i32⟩
  | .hbm, ⟨2, _⟩ => ⟨S8x2048, .i32⟩
  | .local _ .vmem, ⟨0, _⟩ => ⟨S8x1, .i32⟩
  | .local _ .vmem, ⟨1, _⟩ => ⟨S8x2048, .i32⟩
  | _, _ => ⟨S8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Oproj.lean ====
abbrev S16384x3072 : Shape := ⟨2, ![16384, 3072]⟩
abbrev S16384 : Shape := ⟨1, ![16384]⟩
abbrev S3072x6144 : Shape := ⟨2, ![3072, 6144]⟩
abbrev S6144 : Shape := ⟨1, ![6144]⟩
abbrev S16384x6144 : Shape := ⟨2, ![16384, 6144]⟩
abbrev S16384x1 : Shape := ⟨2, ![16384, 1]⟩
abbrev S16384x128 : Shape := ⟨2, ![16384, 128]⟩
abbrev S1x6144 : Shape := ⟨2, ![1, 6144]⟩
abbrev S1024x3072 : Shape := ⟨2, ![1024, 3072]⟩
abbrev S1024x128 : Shape := ⟨2, ![1024, 128]⟩
abbrev S3072x1024 : Shape := ⟨2, ![3072, 1024]⟩
abbrev S1x1024 : Shape := ⟨2, ![1, 1024]⟩
abbrev S1024x1024 : Shape := ⟨2, ![1024, 1024]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S16384x3072, .i8⟩
  | .hbm, ⟨1, _⟩ => ⟨S16384, .f32⟩
  | .hbm, ⟨2, _⟩ => ⟨S3072x6144, .i8⟩
  | .hbm, ⟨3, _⟩ => ⟨S6144, .f32⟩
  | .hbm, ⟨4, _⟩ => ⟨S6144, .f32⟩
  | .hbm, ⟨5, _⟩ => ⟨S16384x6144, .bf16⟩
  | .hbm, ⟨6, _⟩ => ⟨S16384x1, .f32⟩
  | .hbm, ⟨7, _⟩ => ⟨S16384x128, .f32⟩
  | .hbm, ⟨8, _⟩ => ⟨S1x6144, .f32⟩
  | .hbm, ⟨9, _⟩ => ⟨S1x6144, .f32⟩
  | .hbm, ⟨10, _⟩ => ⟨S16384x6144, .f32⟩
  | .local _ .vmem, ⟨0, _⟩ => ⟨S1024x3072, .i8⟩
  | .local _ .vmem, ⟨1, _⟩ => ⟨S1024x3072, .i8⟩
  | .local _ .vmem, ⟨2, _⟩ => ⟨S1024x128, .f32⟩
  | .local _ .vmem, ⟨3, _⟩ => ⟨S1024x128, .f32⟩
  | .local _ .vmem, ⟨4, _⟩ => ⟨S3072x1024, .i8⟩
  | .local _ .vmem, ⟨5, _⟩ => ⟨S3072x1024, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x3072, .bf16⟩
  | _, _ => ⟨S16384x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OprojRefIdeal.lean ====
abbrev S16384x3072 : Shape := ⟨2, ![16384, 3072]⟩
abbrev S16384 : Shape := ⟨1, ![16384]⟩
abbrev S3072x6144 : Shape := ⟨2, ![3072, 6144]⟩
abbrev S6144 : Shape := ⟨1, ![6144]⟩
abbrev S16384x6144 : Shape := ⟨2, ![16384, 6144]⟩
abbrev S16384x1 : Shape := ⟨2, ![16384, 1]⟩
abbrev S1x6144 : Shape := ⟨2, ![1, 6144]⟩

abbrev nBuf : Space → Nat
  | .hbm => 10
  | .vmem => 7
  | .smem => 0
  | _ => 0

abbrev bufTy : (tb : Table) → Fin (tcTables nBuf tb) → BufTy
  | .hbm, ⟨0, _⟩ => ⟨S16384x3072, .i8⟩
  | .hbm, ⟨1, _⟩ => ⟨S16384, .f32⟩
  | .hbm, ⟨2, _⟩ => ⟨S3072x6144, .i8⟩
  | .hbm, ⟨3, _⟩ => ⟨S6144, .f32⟩
  | .hbm, ⟨4, _⟩ => ⟨S6144, .f32⟩
  | .hbm, ⟨5, _⟩ => ⟨S16384x6144, .bf16⟩
  | .hbm, ⟨6, _⟩ => ⟨S16384x1, .f32⟩
  | .hbm, ⟨7, _⟩ => ⟨S1x6144, .f32⟩
  | .hbm, ⟨8, _⟩ => ⟨S1x6144, .f32⟩
  | .hbm, ⟨9, _⟩ => ⟨S16384x6144, .f32⟩
  | .local _ .vmem, ⟨0, _⟩ => ⟨S16384x3072, .i8⟩
  | .local _ .vmem, ⟨1, _⟩ => ⟨S16384x1, .f32⟩
  | .local _ .vmem, ⟨2, _⟩ => ⟨S3072x6144, .i8⟩
  | .local _ .vmem, ⟨3, _⟩ => ⟨S1x6144, .f32⟩
  | .local _ .vmem, ⟨4, _⟩ => ⟨S1x6144, .f32⟩
  | .local _ .vmem, ⟨5, _⟩ => ⟨S16384x6144, .bf16⟩
  | .local _ .vmem, ⟨6, _⟩ => ⟨S16384x6144, .f32⟩
  | _, _ => ⟨S16384x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Ln2.lean ====
abbrev S16384x6144 : Shape := ⟨2, ![16384, 6144]⟩
abbrev S6144 : Shape := ⟨1, ![6144]⟩
abbrev S1x6144 : Shape := ⟨2, ![1, 6144]⟩
abbrev S16384x128 : Shape := ⟨2, ![16384, 128]⟩
abbrev S256x6144 : Shape := ⟨2, ![256, 6144]⟩
abbrev S256x128 : Shape := ⟨2, ![256, 128]⟩
abbrev S256 : Shape := ⟨1, ![256]⟩
abbrev S256x1 : Shape := ⟨2, ![256, 1]⟩
abbrev S16384x1 : Shape := ⟨2, ![16384, 1]⟩
abbrev S16384 : Shape := ⟨1, ![16384]⟩

abbrev nBuf : Space → Nat
  | .hbm => 9
  | .vmem => 8
  | .smem => 0
  | _ => 0

abbrev bufTy : (tb : Table) → Fin (tcTables nBuf tb) → BufTy
  | .hbm, ⟨0, _⟩ => ⟨S16384x6144, .f32⟩
  | .hbm, ⟨1, _⟩ => ⟨S6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S16384x6144, .i8⟩
  | .hbm, ⟨6, _⟩ => ⟨S16384x128, .f32⟩
  | .hbm, ⟨7, _⟩ => ⟨S16384x1, .f32⟩
  | .hbm, ⟨8, _⟩ => ⟨S16384, .f32⟩
  | .local _ .vmem, ⟨0, _⟩ => ⟨S256x6144, .f32⟩
  | .local _ .vmem, ⟨1, _⟩ => ⟨S256x6144, .f32⟩
  | .local _ .vmem, ⟨2, _⟩ => ⟨S1x6144, .f32⟩
  | .local _ .vmem, ⟨3, _⟩ => ⟨S1x6144, .f32⟩
  | .local _ .vmem, ⟨4, _⟩ => ⟨S256x6144, .i8⟩
  | .local _ .vmem, ⟨5, _⟩ => ⟨S256x6144, .i8⟩
  | .local _ .vmem, ⟨6, _⟩ => ⟨S256x128, .f32⟩
  | .local _ .vmem, ⟨7, _⟩ => ⟨S256x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Ln2RefIdeal.lean ====
abbrev S16384x6144 : Shape := ⟨2, ![16384, 6144]⟩
abbrev S6144 : Shape := ⟨1, ![6144]⟩
abbrev S1x6144 : Shape := ⟨2, ![1, 6144]⟩
abbrev S16384x1 : Shape := ⟨2, ![16384, 1]⟩
abbrev S16384 : Shape := ⟨1, ![16384]⟩

abbrev nBuf : Space → Nat
  | .hbm => 8
  | .vmem => 5
  | .smem => 0
  | _ => 0

abbrev bufTy : (tb : Table) → Fin (tcTables nBuf tb) → BufTy
  | .hbm, ⟨0, _⟩ => ⟨S16384x6144, .f32⟩
  | .hbm, ⟨1, _⟩ => ⟨S6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S16384x6144, .i8⟩
  | .hbm, ⟨6, _⟩ => ⟨S16384x1, .f32⟩
  | .hbm, ⟨7, _⟩ => ⟨S16384, .f32⟩
  | .local _ .vmem, ⟨0, _⟩ => ⟨S16384x6144, .f32⟩
  | .local _ .vmem, ⟨1, _⟩ => ⟨S1x6144, .f32⟩
  | .local _ .vmem, ⟨2, _⟩ => ⟨S1x6144, .f32⟩
  | .local _ .vmem, ⟨3, _⟩ => ⟨S16384x6144, .i8⟩
  | .local _ .vmem, ⟨4, _⟩ => ⟨S16384x1, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Fc.lean ====
abbrev S16384x6144 : Shape := ⟨2, ![16384, 6144]⟩
abbrev S16384 : Shape := ⟨1, ![16384]⟩
abbrev S6144x12288 : Shape := ⟨2, ![6144, 12288]⟩
abbrev S12288 : Shape := ⟨1, ![12288]⟩
abbrev S16384x1 : Shape := ⟨2, ![16384, 1]⟩
abbrev S16384x128 : Shape := ⟨2, ![16384, 128]⟩
abbrev S1x12288 : Shape := ⟨2, ![1, 12288]⟩
abbrev S16384x12288 : Shape := ⟨2, ![16384, 12288]⟩
abbrev S1024x6144 : Shape := ⟨2, ![1024, 6144]⟩
abbrev S1024x128 : Shape := ⟨2, ![1024, 128]⟩
abbrev S6144x1024 : Shape := ⟨2, ![6144, 1024]⟩
abbrev S1x1024 : Shape := ⟨2, ![1, 1024]⟩
abbrev S1024x1024 : Shape := ⟨2, ![1024, 1024]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S16384x6144, .i8⟩
  | .hbm, ⟨1, _⟩ => ⟨S16384, .f32⟩
  | .hbm, ⟨2, _⟩ => ⟨S6144x12288, .i8⟩
  | .hbm, ⟨3, _⟩ => ⟨S12288, .f32⟩
  | .hbm, ⟨4, _⟩ => ⟨S12288, .f32⟩
  | .hbm, ⟨5, _⟩ => ⟨S16384x1, .f32⟩
  | .hbm, ⟨6, _⟩ => ⟨S16384x128, .f32⟩
  | .hbm, ⟨7, _⟩ => ⟨S1x12288, .f32⟩
  | .hbm, ⟨8, _⟩ => ⟨S1x12288, .f32⟩
  | .hbm, ⟨9, _⟩ => ⟨S16384x12288, .f32⟩
  | .hbm, ⟨10, _⟩ => ⟨S16384x128, .f32⟩
  | .local _ .vmem, ⟨0, _⟩ => ⟨S1024x6144, .i8⟩
  | .local _ .vmem, ⟨1, _⟩ => ⟨S1024x6144, .i8⟩
  | .local _ .vmem, ⟨2, _⟩ => ⟨S1024x128, .f32⟩
  | .local _ .vmem, ⟨3, _⟩ => ⟨S1024x128, .f32⟩
  | .local _ .vmem, ⟨4, _⟩ => ⟨S6144x1024, .i8⟩
  | .local _ .vmem, ⟨5, _⟩ => ⟨S6144x1024, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x6144, .bf16⟩
  | _, _ => ⟨S16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6144 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FcRefIdeal.lean ====
abbrev S16384x6144 : Shape := ⟨2, ![16384, 6144]⟩
abbrev S16384 : Shape := ⟨1, ![16384]⟩
abbrev S6144x12288 : Shape := ⟨2, ![6144, 12288]⟩
abbrev S12288 : Shape := ⟨1, ![12288]⟩
abbrev S16384x1 : Shape := ⟨2, ![16384, 1]⟩
abbrev S1x12288 : Shape := ⟨2, ![1, 12288]⟩
abbrev S16384x12288 : Shape := ⟨2, ![16384, 12288]⟩
abbrev S16384x128 : Shape := ⟨2, ![16384, 128]⟩
abbrev S16384x96x128 : Shape := ⟨3, ![16384, 96, 128]⟩

abbrev nBuf : Space → Nat
  | .hbm => 10
  | .vmem => 7
  | .smem => 0
  | _ => 0

abbrev bufTy : (tb : Table) → Fin (tcTables nBuf tb) → BufTy
  | .hbm, ⟨0, _⟩ => ⟨S16384x6144, .i8⟩
  | .hbm, ⟨1, _⟩ => ⟨S16384, .f32⟩
  | .hbm, ⟨2, _⟩ => ⟨S6144x12288, .i8⟩
  | .hbm, ⟨3, _⟩ => ⟨S12288, .f32⟩
  | .hbm, ⟨4, _⟩ => ⟨S12288, .f32⟩
  | .hbm, ⟨5, _⟩ => ⟨S16384x1, .f32⟩
  | .hbm, ⟨6, _⟩ => ⟨S1x12288, .f32⟩
  | .hbm, ⟨7, _⟩ => ⟨S1x12288, .f32⟩
  | .hbm, ⟨8, _⟩ => ⟨S16384x12288, .f32⟩
  | .hbm, ⟨9, _⟩ => ⟨S16384x128, .f32⟩
  | .local _ .vmem, ⟨0, _⟩ => ⟨S16384x6144, .i8⟩
  | .local _ .vmem, ⟨1, _⟩ => ⟨S16384x1, .f32⟩
  | .local _ .vmem, ⟨2, _⟩ => ⟨S6144x12288, .i8⟩
  | .local _ .vmem, ⟨3, _⟩ => ⟨S1x12288, .f32⟩
  | .local _ .vmem, ⟨4, _⟩ => ⟨S1x12288, .f32⟩
  | .local _ .vmem, ⟨5, _⟩ => ⟨S16384x12288, .f32⟩
  | .local _ .vmem, ⟨6, _⟩ => ⟨S16384x128, .f32⟩
  | _, _ => ⟨S16384x6144, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x6144 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Gquant.lean ====
abbrev S16384x12288 : Shape := ⟨2, ![16384, 12288]⟩
abbrev S16384x128 : Shape := ⟨2, ![16384, 128]⟩
abbrev S128x12288 : Shape := ⟨2, ![128, 12288]⟩
abbrev S128x128 : Shape := ⟨2, ![128, 128]⟩
abbrev S128 : Shape := ⟨1, ![128]⟩
abbrev S128x1 : Shape := ⟨2, ![128, 1]⟩
abbrev S16384x1 : Shape := ⟨2, ![16384, 1]⟩
abbrev S16384 : Shape := ⟨1, ![16384]⟩

abbrev nBuf : Space → Nat
  | .hbm => 6
  | .vmem => 8
  | .smem => 0
  | _ => 0

abbrev bufTy : (tb : Table) → Fin (tcTables nBuf tb) → BufTy
  | .hbm, ⟨0, _⟩ => ⟨S16384x12288, .f32⟩
  | .hbm, ⟨1, _⟩ => ⟨S16384x128, .f32⟩
  | .hbm, ⟨2, _⟩ => ⟨S16384x12288, .i8⟩
  | .hbm, ⟨3, _⟩ => ⟨S16384x128, .f32⟩
  | .hbm, ⟨4, _⟩ => ⟨S16384x1, .f32⟩
  | .hbm, ⟨5, _⟩ => ⟨S16384, .f32⟩
  | .local _ .vmem, ⟨0, _⟩ => ⟨S128x12288, .f32⟩
  | .local _ .vmem, ⟨1, _⟩ => ⟨S128x12288, .f32⟩
  | .local _ .vmem, ⟨2, _⟩ => ⟨S128x128, .f32⟩
  | .local _ .vmem, ⟨3, _⟩ => ⟨S128x128, .f32⟩
  | .local _ .vmem, ⟨4, _⟩ => ⟨S128x12288, .i8⟩
  | .local _ .vmem, ⟨5, _⟩ => ⟨S128x12288, .i8⟩
  | .local _ .vmem, ⟨6, _⟩ => ⟨S128x128, .f32⟩
  | .local _ .vmem, ⟨7, _⟩ => ⟨S128x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x12288 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GquantRefIdeal.lean ====
abbrev S16384x12288 : Shape := ⟨2, ![16384, 12288]⟩
abbrev S16384x128 : Shape := ⟨2, ![16384, 128]⟩
abbrev S16384x1 : Shape := ⟨2, ![16384, 1]⟩
abbrev S16384 : Shape := ⟨1, ![16384]⟩

abbrev nBuf : Space → Nat
  | .hbm => 5
  | .vmem => 4
  | .smem => 0
  | _ => 0

abbrev bufTy : (tb : Table) → Fin (tcTables nBuf tb) → BufTy
  | .hbm, ⟨0, _⟩ => ⟨S16384x12288, .f32⟩
  | .hbm, ⟨1, _⟩ => ⟨S16384x128, .f32⟩
  | .hbm, ⟨2, _⟩ => ⟨S16384x12288, .i8⟩
  | .hbm, ⟨3, _⟩ => ⟨S16384x1, .f32⟩
  | .hbm, ⟨4, _⟩ => ⟨S16384, .f32⟩
  | .local _ .vmem, ⟨0, _⟩ => ⟨S16384x12288, .f32⟩
  | .local _ .vmem, ⟨1, _⟩ => ⟨S16384x128, .f32⟩
  | .local _ .vmem, ⟨2, _⟩ => ⟨S16384x12288, .i8⟩
  | .local _ .vmem, ⟨3, _⟩ => ⟨S16384x1, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x12288 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proj.lean ====
abbrev S16384x12288 : Shape := ⟨2, ![16384, 12288]⟩
abbrev S16384 : Shape := ⟨1, ![16384]⟩
abbrev S12288x6144 : Shape := ⟨2, ![12288, 6144]⟩
abbrev S6144 : Shape := ⟨1, ![6144]⟩
abbrev S16384x6144 : Shape := ⟨2, ![16384, 6144]⟩
abbrev S16384x1 : Shape := ⟨2, ![16384, 1]⟩
abbrev S16384x128 : Shape := ⟨2, ![16384, 128]⟩
abbrev S1x6144 : Shape := ⟨2, ![1, 6144]⟩
abbrev S512x12288 : Shape := ⟨2, ![512, 12288]⟩
abbrev S512x128 : Shape := ⟨2, ![512, 128]⟩
abbrev S12288x512 : Shape := ⟨2, ![12288, 512]⟩
abbrev S1x512 : Shape := ⟨2, ![1, 512]⟩
abbrev S512x512 : Shape := ⟨2, ![512, 512]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S16384x12288, .i8⟩
  | .hbm, ⟨1, _⟩ => ⟨S16384, .f32⟩
  | .hbm, ⟨2, _⟩ => ⟨S12288x6144, .i8⟩
  | .hbm, ⟨3, _⟩ => ⟨S6144, .f32⟩
  | .hbm, ⟨4, _⟩ => ⟨S6144, .f32⟩
  | .hbm, ⟨5, _⟩ => ⟨S16384x6144, .f32⟩
  | .hbm, ⟨6, _⟩ => ⟨S16384x1, .f32⟩
  | .hbm, ⟨7, _⟩ => ⟨S16384x128, .f32⟩
  | .hbm, ⟨8, _⟩ => ⟨S1x6144, .f32⟩
  | .hbm, ⟨9, _⟩ => ⟨S1x6144, .f32⟩
  | .hbm, ⟨10, _⟩ => ⟨S16384x6144, .bf16⟩
  | .local _ .vmem, ⟨0, _⟩ => ⟨S512x12288, .i8⟩
  | .local _ .vmem, ⟨1, _⟩ => ⟨S512x12288, .i8⟩
  | .local _ .vmem, ⟨2, _⟩ => ⟨S512x128, .f32⟩
  | .local _ .vmem, ⟨3, _⟩ => ⟨S512x128, .f32⟩
  | .local _ .vmem, ⟨4, _⟩ => ⟨S12288x512, .i8⟩
  | .local _ .vmem, ⟨5, _⟩ => ⟨S12288x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x12288, .bf16⟩
  | _, _ => ⟨S16384x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x12288 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12288x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S16384x12288 : Shape := ⟨2, ![16384, 12288]⟩
abbrev S16384 : Shape := ⟨1, ![16384]⟩
abbrev S12288x6144 : Shape := ⟨2, ![12288, 6144]⟩
abbrev S6144 : Shape := ⟨1, ![6144]⟩
abbrev S16384x6144 : Shape := ⟨2, ![16384, 6144]⟩
abbrev S16384x1 : Shape := ⟨2, ![16384, 1]⟩
abbrev S1x6144 : Shape := ⟨2, ![1, 6144]⟩

abbrev nBuf : Space → Nat
  | .hbm => 10
  | .vmem => 7
  | .smem => 0
  | _ => 0

abbrev bufTy : (tb : Table) → Fin (tcTables nBuf tb) → BufTy
  | .hbm, ⟨0, _⟩ => ⟨S16384x12288, .i8⟩
  | .hbm, ⟨1, _⟩ => ⟨S16384, .f32⟩
  | .hbm, ⟨2, _⟩ => ⟨S12288x6144, .i8⟩
  | .hbm, ⟨3, _⟩ => ⟨S6144, .f32⟩
  | .hbm, ⟨4, _⟩ => ⟨S6144, .f32⟩
  | .hbm, ⟨5, _⟩ => ⟨S16384x6144, .f32⟩
  | .hbm, ⟨6, _⟩ => ⟨S16384x1, .f32⟩
  | .hbm, ⟨7, _⟩ => ⟨S1x6144, .f32⟩
  | .hbm, ⟨8, _⟩ => ⟨S1x6144, .f32⟩
  | .hbm, ⟨9, _⟩ => ⟨S16384x6144, .bf16⟩
  | .local _ .vmem, ⟨0, _⟩ => ⟨S16384x12288, .i8⟩
  | .local _ .vmem, ⟨1, _⟩ => ⟨S16384x1, .f32⟩
  | .local _ .vmem, ⟨2, _⟩ => ⟨S12288x6144, .i8⟩
  | .local _ .vmem, ⟨3, _⟩ => ⟨S1x6144, .f32⟩
  | .local _ .vmem, ⟨4, _⟩ => ⟨S1x6144, .f32⟩
  | .local _ .vmem, ⟨5, _⟩ => ⟨S16384x6144, .f32⟩
  | .local _ .vmem, ⟨6, _⟩ => ⟨S16384x6144, .bf16⟩
  | _, _ => ⟨S16384x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QkvRuns.lean ====
/-
  What the frame and the runs of the projection kernel share: the conditions decided over the grid, the
  fresh-buffer table of the query window, the staging buffers.
-/
module

public import proofs.«01_k».proof.Proof.Gen.Qkv.Launch
public import proofs.«01_k».proof.Proof.Gen.Qkv.Skeleton
public import proofs.«01_k».proof.Proof.Gen.Qkv.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v13, main_v14, main_v15, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`); see `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`); see `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`); see `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`); see `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`); see `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`); see `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`); see `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `RDat.FramePostR` read at the argument arrays — a staged input by the library's
    `RDat.FramePostR.arr_in`, an array no window stages (none is in `T0`) by the post's second clause, each then by `V_…` — is the frame
    claim's post (`Cert.frame_Qkv`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 5 — decided over the grid. -/
theorem hcond0_1 : ∀ t : Fin cfg0.N, cond0_1 (grid0.coords t) ↔ t.val % 7 ≤ 5 :=
  (by decide +kernel : ∀ t : Fin grid0.N, cond0_1 (grid0.coords t) ↔ t.val % 7 ≤ 5)

/-- The condition of the body's `scf.if` 2 (`k0_h3`), from the grid coordinates (the skeleton's scalar
    chain substituted). -/
abbrev cond0_2 (i : grid0.Coords) : Prop := k0_cond3 i = 1#1
/-- It holds at the points ≡ 6 (mod 7) — decided over the grid. -/
theorem hcond0_2 : ∀ t : Fin cfg0.N, cond0_2 (grid0.coords t) ↔ t.val % 7 = 6 :=
  (by decide +kernel : ∀ t : Fin grid0.N, cond0_2 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x6144 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x1024x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x6144 .bf16 := Memref.whole cc0_scratch0

/-- The frame's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Qkv.Gen

end
-- ==== Proof.QkvRunA.lean ====
/-
  The run of the projection kernel at the first column step of a row block.
-/
module

public import proofs.«01_k».proof.Proof.QkvRuns

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken: points 0, 7, … 105: 16 of 112): on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

end Cert.Qkv.Gen

end
-- ==== Proof.QkvRunB.lean ====
/-
  The run of the projection kernel at a later column step of the query heads.
-/
module

public import proofs.«01_k».proof.Proof.QkvRunA

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken: points 1, 2, … 110: 80 of 112): on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_B (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

end Cert.Qkv.Gen

end
-- ==== Proof.QkvRunC.lean ====
/-
  The run of the projection kernel at the key and value step.
-/
module

public import proofs.«01_k».proof.Proof.QkvRunB

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken: points 6, 13, … 111: 16 of 112): on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_C (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

end Cert.Qkv.Gen

end
-- ==== Proof.QkvFrame.lean ====
/-
  What the projection kernel leaves at every point, the obligation of its body, the run of the program, and its frame.
  The query block is kept as the last query step left it when the key and value step passes over it.
-/
module

public import proofs.«01_k».proof.Proof.QkvRunC
public import Idealize.ShloMosaic.Lib.Claim

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10): nothing reads what the kernel leaves in them, so nothing
    of it is named (Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 112 := lt_of_lt_of_eq t.isLt (show cfg0.N = 112 from N_0)
  by_cases h0 : t.val % 7 = 0
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · exfalso; omega
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · by_cases h2 : t.val % 7 = 6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- For any values, from any memory with zero counters: every weakly fair execution of @main on the
    TensorCores terminates, and every final state has every INPUT array of the pipeline unchanged, nothing stated of the
    FORGOTTEN outputs (windows 7, 8, 9, 10) (Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Qkv.Gen

end
-- ==== Proof.QkvIdealRuns.lean ====
/-
  What the frame and the runs of the projection kernel share: the conditions decided over the grid, the
  fresh-buffer table of the query window, the staging buffers.
-/
module

public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`); see `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`); see `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`); see `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`); see `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`); see `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`); see `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`); see `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by the library's
    `Dat.arrAt_in`, an array no window stages by the post's second clause, each then by `W_…` / `V_…` — is the frame
    claim's post (`Cert.frame_QkvIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      ((h c).1 2).trans (((dats 0 c).arrAt_in 2 rfl _).trans ((hA c 2).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin cfg0.N, cond0_0 (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 5 — decided over the grid. -/
theorem hcond0_1 : ∀ t : Fin cfg0.N, cond0_1 (grid0.coords t) ↔ t.val % 7 ≤ 5 :=
  (by decide +kernel : ∀ t : Fin grid0.N, cond0_1 (grid0.coords t) ↔ t.val % 7 ≤ 5)

/-- The condition of the body's `scf.if` 2 (`k0_h3`), from the grid coordinates (the skeleton's scalar
    chain substituted). -/
abbrev cond0_2 (i : grid0.Coords) : Prop := k0_cond3 i = 1#1
/-- It holds at the points ≡ 6 (mod 7) — decided over the grid. -/
theorem hcond0_2 : ∀ t : Fin cfg0.N, cond0_2 (grid0.coords t) ↔ t.val % 7 = 6 :=
  (by decide +kernel : ∀ t : Fin grid0.N, cond0_2 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask,
    bit `n` for position `n + 1`; position 0 is fresh. `freshTab0_7_step` checks it against the configuration's own
    step point by point and `Cfg.fresh_tab` makes it `Cfg.fresh` (`fresh0_7_eq`). -/
def freshTab0_7 : ℕ → Bool
  | 0 => true
  | n + 1 => (0xbf7efdfbf7efdfbf7efdfbf7efdf : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cond0_1 (grid0.coords t) → ¬cond0_2 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → ¬cond0_2 (grid0.coords t) → cfg0.idle 7 (grid0.coords t) = false := by decide +kernel
/-- At the points of case C the printed configuration (`Cfg.idle`) calls output 7 live: the case stores into it. -/
theorem idleAt0_7_C : ∀ t : Fin cfg0.N, ¬cond0_0 (grid0.coords t) → ¬cond0_1 (grid0.coords t) → cond0_2 (grid0.coords t) → cfg0.idle 7 (grid0.coords t) = true := by decide +kernel
/-- At the points of case C the pipeline writes output 7's block back. -/
theorem yesFlush0_7_C : ∀ t : Fin cfg0.N, ¬cond0_0 (grid0.coords t) → ¬cond0_1 (grid0.coords t) → cond0_2 (grid0.coords t) → (cfg0.win 7).flush t = true := by decide +kernel
/-- At the points of case C, which keeps output 7's prior contents (reads it before covering, or covers it in part), the
    window's buffer is not FRESH: something was stored into it since the region's entry or its last write-back, idle points
    between or not (TableIdle.lean `Cfg.fresh`, by the table `freshTab0_7`). -/
theorem notFresh0_7_C : ∀ t : Fin cfg0.N, ¬cond0_0 (grid0.coords t) → ¬cond0_1 (grid0.coords t) → cond0_2 (grid0.coords t) → cfg0.fresh 7 t.val = false := by
  intro t; rw [fresh0_7_eq t]; revert t; decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → cond0_1 (grid0.coords t) → ¬cond0_2 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → cfg0.idle 10 (grid0.coords t) = true := by decide +kernel
/-- At the points of case A the pipeline does not write output 10's block back. -/
theorem noFlush0_10_A : ∀ t : Fin cfg0.N, cond0_0 (grid0.coords t) → cond0_1 (grid0.coords t) → ¬cond0_2 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → cfg0.idle 10 (grid0.coords t) = true := by decide +kernel
/-- At the points of case B the pipeline does not write output 10's block back. -/
theorem noFlush0_10_B : ∀ t : Fin cfg0.N, ¬cond0_0 (grid0.coords t) → cond0_1 (grid0.coords t) → ¬cond0_2 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → cfg0.idle 10 (grid0.coords t) = false := by decide +kernel

/-! ## The kernel body on any staging memrefs: a subtype the run finds -/

/-- One staging buffer of output window 7, through which its contents are stated (`View.read_writes_of_cover`: the
    choice does not matter). -/
abbrev VO0_7 : View sig .tc .vmem S4x1024x128 .bf16 := (Memref.whole cc0_stg7_0 : Memref sig .tc .vmem S4x1024x128 .bf16).view
/-- One staging buffer of output window 8, through which its contents are stated (`View.read_writes_of_cover`: the
    choice does not matter). -/
abbrev VO0_8 : View sig .tc .vmem S1024x256 .i8 := (Memref.whole cc0_stg8_0 : Memref sig .tc .vmem S1024x256 .i8).view
/-- One staging buffer of output window 9, through which its contents are stated (`View.read_writes_of_cover`: the
    choice does not matter). -/
abbrev VO0_9 : View sig .tc .vmem S1024x256 .i8 := (Memref.whole cc0_stg9_0 : Memref sig .tc .vmem S1024x256 .i8).view
/-- One staging buffer of output window 10, through which its contents are stated (`View.read_writes_of_cover`: the
    choice does not matter). -/
abbrev VO0_10 : View sig .tc .vmem S4x1024x128 .f32 := (Memref.whole cc0_stg10_0 : Memref sig .tc .vmem S4x1024x128 .f32).view
/-- Each window's current staging memref at point `t`, spelled as the pipeline passes it (`bodyAt0`), and its wholeness. -/
abbrev ms0_0 (t : Fin cfg0.N) : Memref sig .tc .vmem S1024x6144 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x1024x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x6144 .bf16 := Memref.whole cc0_scratch0
/-- The scratch `arg13` the kernel carries between points, as a view: what it holds is stated through it. -/
abbrev VS0_0 : View sig .tc .vmem S1024x6144 .bf16 := scM0_0.view

/-- The frame's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.QkvIdeal.Gen

end
-- ==== Proof.QkvIdealRunA.lean ====
/-
  The run of the projection kernel at the first column step of a row block.
-/
module

public import proofs.«01_k».proof.Proof.QkvIdealRuns

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 7, … 105: 16 of 112), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) :
    Σ' (L7 : List (View.Piece (Elt F) S4x1024x128 .bf16)), Σ' (L8 : List (View.Piece (Elt F) S1024x256 .i8)), Σ' (L9 : List (View.Piece (Elt F) S1024x256 .i8)), Σ' (L10 : List (View.Piece (Elt F) S4x1024x128 .f32)), { LS0 : List (View.Piece (Elt F) S1024x6144 .bf16) //
      ∀ (xi8 : Vec F S1024x256 .i8) (xi9 : Vec F S1024x256 .i8) (xi10 : Vec F S4x1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K } := by
  refine ⟨?_, [], [], [], ?_, fun xi8 xi9 xi10 E K => ?run⟩
  case run =>
    simp only [cc0_qkv_eq_skeleton]; unfold cc0_qkv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.QkvIdeal.Gen

end
-- ==== Proof.QkvIdealRunB.lean ====
/-
  The run of the projection kernel at a later column step of the query heads.
-/
module

public import proofs.«01_k».proof.Proof.QkvIdealRunA

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 110: 80 of 112), WITH the
    proof that on whole staging memrefs — the inputs' at their contents, the outputs it leaves idle (8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_B (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) :
    Σ' (L7 : List (View.Piece (Elt F) S4x1024x128 .bf16)), Σ' (L8 : List (View.Piece (Elt F) S1024x256 .i8)), Σ' (L9 : List (View.Piece (Elt F) S1024x256 .i8)), Σ' (L10 : List (View.Piece (Elt F) S4x1024x128 .f32)), { LS0 : List (View.Piece (Elt F) S1024x6144 .bf16) //
      ∀ (xi8 : Vec F S1024x256 .i8) (xi9 : Vec F S1024x256 .i8) (xi10 : Vec F S4x1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xi10 ∗ owns (c : Thread nD τ) arg13 fullShare xs0) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K } := by
  refine ⟨?_, [], [], [], [], fun xi8 xi9 xi10 E K => ?run⟩
  case run =>
    simp only [cc0_qkv_eq_skeleton]; unfold cc0_qkv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; · ipureintro; exact harg13.read_unread _
    iexact HS0

end Cert.QkvIdeal.Gen

end
-- ==== Proof.QkvIdealRunC.lean ====
/-
  The run of the projection kernel at the key and value step.
-/
module

public import proofs.«01_k».proof.Proof.QkvIdealRunB

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 6, 13, … 111: 16 of 112), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs — each `scf.if` decided by the case's hypotheses `hc·`; the pieces are
    the witness that run finds (assigned when `iexact` hands the buffer to the continuation). -/
noncomputable def kernelRun0_C (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) :
    Σ' (L7 : List (View.Piece (Elt F) S4x1024x128 .bf16)), Σ' (L8 : List (View.Piece (Elt F) S1024x256 .i8)), Σ' (L9 : List (View.Piece (Elt F) S1024x256 .i8)), Σ' (L10 : List (View.Piece (Elt F) S4x1024x128 .f32)), { LS0 : List (View.Piece (Elt F) S1024x6144 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13) K } := by
  refine ⟨[], ?_, ?_, ?_, [], fun E K => ?run⟩
  case run =>
    simp only [cc0_qkv_eq_skeleton]; unfold cc0_qkv_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    iexists _; isplitr; · ipureintro; exact harg13.read_unread _
    iexact HS0

end Cert.QkvIdeal.Gen

end
-- ==== Proof.QkvIdealFrame.lean ====
/-
  What the projection kernel leaves at every point, the obligation of its body, the run of the program, and its frame.
  The query block is kept as the last query step left it when the key and value step passes over it.
-/
module

public import proofs.«01_k».proof.Proof.QkvIdealRunC
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (4 stores of `S1x1024x128`, checked by evaluation), so they cover it. -/
theorem cover0_A_7 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (y : S4x1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1 S1x1024x128.size (by sl_kernel_rfl) y

/-- What case A leaves in output 7's staging buffer: its pieces read back over junk. -/
def out0_A_7 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) : Vec F S4x1024x128 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1)

/-- Case A stores nothing into output 8 (the window is idle at its points and not written back there):
    no pieces — a placeholder (junk read back) that nothing consults, since at these points the window is neither
    written back nor read at the next point. -/
def out0_A_8 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) : Vec F S1024x256 .i8 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1)

/-- Case A stores nothing into output 9 (the window is idle at its points and not written back there):
    no pieces — a placeholder (junk read back) that nothing consults, since at these points the window is neither
    written back nor read at the next point. -/
def out0_A_9 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) : Vec F S1024x256 .i8 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1)

/-- Case A stores nothing into output 10 (the window is idle at its points and not written back there):
    no pieces — a placeholder (junk read back) that nothing consults, since at these points the window is neither
    written back nor read at the next point. -/
def out0_A_10 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) : Vec F S4x1024x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1)

/-- Case A's pieces for scratch `arg13`, which the kernel carries between points, cover it: 1 piece of `S1024x6144` tiling it. -/
theorem scover0_A_0 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (y : S1024x6144.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1 S1024x6144.size (by sl_kernel_rfl) y

/-- What case A leaves in scratch `arg13`: its pieces read back over junk. -/
def sout0_A_0 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) : Vec F S1024x6144 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1)

/-- Case B's pieces for output 7 tile its block (4 stores of `S1x1024x128`, checked by evaluation), so they cover it. -/
theorem cover0_B_7 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) (y : S4x1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).1 S1x1024x128.size (by sl_kernel_rfl) y

/-- What case B leaves in output 7's staging buffer: its pieces read back over junk. -/
def out0_B_7 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) : Vec F S4x1024x128 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).1)

/-- Case B stores nothing into output 8 (the window is idle at its points and not written back there):
    no pieces — a placeholder (junk read back) that nothing consults, since at these points the window is neither
    written back nor read at the next point. -/
def out0_B_8 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) : Vec F S1024x256 .i8 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).2.1)

/-- Case B stores nothing into output 9 (the window is idle at its points and not written back there):
    no pieces — a placeholder (junk read back) that nothing consults, since at these points the window is neither
    written back nor read at the next point. -/
def out0_B_9 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) : Vec F S1024x256 .i8 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).2.2.1)

/-- Case B stores nothing into output 10 (the window is idle at its points and not written back there):
    no pieces — a placeholder (junk read back) that nothing consults, since at these points the window is neither
    written back nor read at the next point. -/
def out0_B_10 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) : Vec F S4x1024x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0).2.2.2.1)

/-- Case B stores nothing into scratch `arg13`: it holds what the point before left. -/
def sout0_B_0 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xs0 : Vec F S1024x6144 .bf16) : Vec F S1024x6144 .bf16 := xs0

/-- Case C stores nothing into output 7, a live window: its staging buffer holds what the point before left. -/
def out0_C_7 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) : Vec F S4x1024x128 .bf16 := xo7

/-- Case C's pieces for output 8 tile its block (2 stores of `S1024x128`, checked by evaluation), so they cover it. -/
theorem cover0_C_8 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.1 S1024x128.size (by sl_kernel_rfl) y

/-- What case C leaves in output 8's staging buffer: its pieces read back over junk. -/
def out0_C_8 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) : Vec F S1024x256 .i8 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.1)

/-- Case C's pieces for output 9 tile its block (2 stores of `S1024x128`, checked by evaluation), so they cover it. -/
theorem cover0_C_9 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.1 S1024x128.size (by sl_kernel_rfl) y

/-- What case C leaves in output 9's staging buffer: its pieces read back over junk. -/
def out0_C_9 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) : Vec F S1024x256 .i8 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.1)

/-- Case C's pieces for output 10 tile its block (4 stores of `S1x1024x128`, checked by evaluation), so they cover it. -/
theorem cover0_C_10 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) (y : S4x1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.2.1 S1x1024x128.size (by sl_kernel_rfl) y

/-- What case C leaves in output 10's staging buffer: its pieces read back over junk. -/
def out0_C_10 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) : Vec F S4x1024x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0).2.2.2.1)

/-- Case C stores nothing into scratch `arg13`: it holds what the point before left. -/
def sout0_C_0 (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
    (x0 : Vec F S1024x6144 .i8) (x1 : Vec F S1024x128 .f32) (x2 : Vec F S6144x512 .i8) (x3 : Vec F S1x512 .f32) (x4 : Vec F S1x512 .f32) (x5 : Vec F S1024x128 .f32) (x6 : Vec F S1024x128 .f32) (xo7 : Vec F S4x1024x128 .bf16) (xs0 : Vec F S1024x6144 .bf16) : Vec F S1024x6144 .bf16 := xs0

/-! ## What the outputs hold after each point -/

/-- What a point of case A leaves. -/
def outsA (c : Dev nD) (t : Fin cfg0.N) (h0 : t.val % 7 = 0) (h1 : t.val % 7 ≤ 5) (h2 : ¬t.val % 7 = 6) : Vec F S4x1024x128 .bf16 × Vec F S1024x256 .i8 × Vec F S1024x256 .i8 × Vec F S4x1024x128 .f32 × Vec F S1024x6144 .bf16 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t))

/-- What a point of case B leaves, over what the point before left. -/
def outsB (c : Dev nD) (t : Fin cfg0.N) (h0 : ¬t.val % 7 = 0) (h1 : t.val % 7 ≤ 5) (h2 : ¬t.val % 7 = 6) (p : Vec F S4x1024x128 .bf16 × Vec F S1024x256 .i8 × Vec F S1024x256 .i8 × Vec F S4x1024x128 .f32 × Vec F S1024x6144 .bf16) : Vec F S4x1024x128 .bf16 × Vec F S1024x256 .i8 × Vec F S1024x256 .i8 × Vec F S4x1024x128 .f32 × Vec F S1024x6144 .bf16 :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) p.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) p.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) p.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) p.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) p.2.2.2.2)

/-- What a point of case C leaves, over what the point before left. -/
def outsC (c : Dev nD) (t : Fin cfg0.N) (h0 : ¬t.val % 7 = 0) (h1 : ¬t.val % 7 ≤ 5) (h2 : t.val % 7 = 6) (p : Vec F S4x1024x128 .bf16 × Vec F S1024x256 .i8 × Vec F S1024x256 .i8 × Vec F S4x1024x128 .f32 × Vec F S1024x6144 .bf16) : Vec F S4x1024x128 .bf16 × Vec F S1024x256 .i8 × Vec F S1024x256 .i8 × Vec F S4x1024x128 .f32 × Vec F S1024x6144 .bf16 :=
  (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.1 p.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.1 p.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.1 p.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.1 p.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) p.1 p.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S4x1024x128 .bf16 × Vec F S1024x256 .i8 × Vec F S1024x256 .i8 × Vec F S4x1024x128 .f32 × Vec F S1024x6144 .bf16
  | 0, hn => outsA m c ⟨0, hn⟩ (Nat.zero_mod _) (by (try dsimp only) <;> omega) (by (try dsimp only) <;> omega)
  | n + 1, hn =>
    if h0 : (n + 1) % 7 = 0 then
      if h1 : (n + 1) % 7 ≤ 5 then
        if h2 : (n + 1) % 7 = 6 then
          False.elim (by have hN : n + 1 < 112 := lt_of_lt_of_eq hn (show cfg0.N = 112 from N_0); omega)
        else
          outsA m c ⟨n + 1, hn⟩ h0 h1 h2
      else
        False.elim (by have hN : n + 1 < 112 := lt_of_lt_of_eq hn (show cfg0.N = 112 from N_0); omega)
    else
      if h1 : (n + 1) % 7 ≤ 5 then
        if h2 : (n + 1) % 7 = 6 then
          False.elim (by have hN : n + 1 < 112 := lt_of_lt_of_eq hn (show cfg0.N = 112 from N_0); omega)
        else
          outsB m c ⟨n + 1, hn⟩ h0 h1 h2 (outsAt0 c n (Nat.lt_of_succ_lt hn))
      else
        if h2 : (n + 1) % 7 = 6 then
          outsC m c ⟨n + 1, hn⟩ h0 h1 h2 (outsAt0 c n (Nat.lt_of_succ_lt hn))
        else
          False.elim (by have hN : n + 1 < 112 := lt_of_lt_of_eq hn (show cfg0.N = 112 from N_0); omega)

/-- `outsAt0` at a point of case A: that case's contents. -/
theorem outsAt0_A (c : Dev nD) (t : Fin cfg0.N) (h0 : t.val % 7 = 0) (h1 : t.val % 7 ≤ 5) (h2 : ¬t.val % 7 = 6) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 7 = 0) (h1 : t.val % 7 ≤ 5) (h2 : ¬t.val % 7 = 6) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 7 = 0) (h1 : ¬t.val % 7 ≤ 5) (h2 : t.val % 7 = 6) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 7's contents CARRY through the points that leave it idle: at such a point, its buffer not fresh, the proof data's
    `after` is the point before's (the case there stores nothing into the window and its term says so; a case that stores
    into it is not idle there by `liveAt0_7_κ`) — the hypothesis of `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 112 := lt_of_lt_of_eq t.isLt (show cfg0.N = 112 from N_0)
  rw [after0_7, after0_7]
  by_cases h0 : t.val % 7 = 0
  · by_cases h1 : t.val % 7 ≤ 5
    · by_cases h2 : t.val % 7 = 6
      · exfalso; omega
      · rw [liveAt0_7_A t ((hcond0_0 t).mpr h0) ((hcond0_1 t).mpr h1) (fun h => h2 ((hcond0_2 t).mp h))] at hi
        exact absurd hi Bool.false_ne_true
    · exfalso; omega
  · by_cases h1 : t.val % 7 ≤ 5
    · by_cases h2 : t.val % 7 = 6
      · exfalso; omega
      · rw [liveAt0_7_B t (fun h => h0 ((hcond0_0 t).mp h)) ((hcond0_1 t).mpr h1) (fun h => h2 ((hcond0_2 t).mp h))] at hi
        exact absurd hi Bool.false_ne_true
    · by_cases h2 : t.val % 7 = 6
      · rw [outsAt0_C m c t h0 h1 h2]
        dsimp only
        unfold out0_C_7
        rfl
      · exfalso; omega
/-- At a point of case C output 7's current staging buffer holds what the point before left: the buffer is not fresh
    there (`notFresh0_7_C`: stored into since the region's entry or the last write-back, carried through the points that
    leave it idle by `hcarry0_7`; `Dat.before_out_traj`). -/
theorem before0_7_C (c : Dev nD) (t : Fin cfg0.N) (h0 : ¬t.val % 7 = 0) (h1 : ¬t.val % 7 ≤ 5) (h2 : t.val % 7 = 6) (d) :
    (dats m 0 c).before 7 t d = (outsAt0 m c (t.val - 1) (Nat.lt_of_le_of_lt (Nat.sub_le _ _) t.isLt)).1 := by
  rw [Dat.before_out_traj _ 7 rfl (fun _ _ => rfl) (hcarry0_7 m c) t.val t rfl d,
    if_neg (by rw [notFresh0_7_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 7 = 0
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
        rw [Dat.leavesExact_idle (dats m 0 c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
        rw [Dat.leavesExact_idle (dats m 0 c) 10 t (idleAt0_10_A t ((hcond0_0 t).mpr h0) ((hcond0_1 t).mpr h1) (fun h => h2 ((hcond0_2 t).mp h))) (noFlush0_10_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_7 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [HS0]; · iexact HS0
          iintro ⟨H0, H1, H2, H3, H4, H5, H6, ⟨%e7, H7⟩, H8, H9, H10, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _)
          isplitl [H8]; · iexists _; iexact H8
          isplitl [H9]; · iexists _; iexact H9
          iexists _; iexact H10
        · rw [PhiS_castSucc m c t, PhiS_pos m c _ _ hz]
          rw [outsAt0_A m c t h0 h1 h2]
          unfold out0_A_7 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [HS0]; · iexists _; iexact HS0
          iintro ⟨H0, H1, H2, H3, H4, H5, H6, ⟨%e7, H7⟩, H8, H9, H10, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _)
          isplitl [H8]; · iexists _; iexact H8
          isplitl [H9]; · iexists _; iexact H9
          iexists _; iexact H10
    · exfalso; omega
  · by_cases h1 : t.val % 7 ≤ 5
    · by_cases h2 : t.val % 7 = 6
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h))], after0_7]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        rw [Dat.leavesExact_idle (dats m 0 c) 9 t (idleAt0_9_B t (fun h => h0 ((hcond0_0 t).mp h)) ((hcond0_1 t).mpr h1) (fun h => h2 ((hcond0_2 t).mp h))) (noFlush0_9_B t (fun h => h0 ((hcond0_0 t).mp h)) ((hcond0_1 t).mpr h1) (fun h => h2 ((hcond0_2 t).mp h)))]
        rw [Dat.leavesExact_idle (dats m 0 c) 10 t (idleAt0_10_B t (fun h => h0 ((hcond0_0 t).mp h)) ((hcond0_1 t).mpr h1) (fun h => h2 ((hcond0_2 t).mp h))) (noFlush0_10_B t (fun h => h0 ((hcond0_0 t).mp h)) ((hcond0_1 t).mpr h1) (fun h => h2 ((hcond0_2 t).mp h)))]
        by_cases hz : t.val = 0
        · exfalso; have hN : t.val < 112 := lt_of_lt_of_eq t.isLt (show cfg0.N = 112 from N_0); omega
        · rw [PhiS_castSucc m c t, PhiS_pos m c _ _ hz]
          rw [outsAt0_B m c t h0 h1 h2]
          unfold out0_B_7 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexact H8
          isplitl [H9]; · iexact H9
          isplitl [H10]; · iexact H10
          isplitl [HS0]; · iexact HS0
          iintro ⟨H0, H1, H2, H3, H4, H5, H6, ⟨%e7, H7⟩, H8, H9, H10, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _)
          isplitl [H8]; · iexists _; iexact H8
          isplitl [H9]; · iexists _; iexact H9
          iexists _; iexact H10
    · by_cases h2 : t.val % 7 = 6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [idleAt0_7_C t (fun h => h0 ((hcond0_0 t).mp h)) (fun h => h1 ((hcond0_1 t).mp h)) ((hcond0_2 t).mpr h2), yesFlush0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        by_cases hz : t.val = 0
        · exfalso; have hN : t.val < 112 := lt_of_lt_of_eq t.isLt (show cfg0.N = 112 from N_0); omega
        · rw [PhiS_castSucc m c t, PhiS_pos m c _ _ hz]
          rw [outsAt0_C m c t h0 h1 h2]
          simp only [before0_7_C m c t h0 h1 h2]
          unfold out0_C_7 out0_C_8 out0_C_9 out0_C_10 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          iintro ⟨H0, H1, H2, H3, H4, H5, H6, H7, ⟨%e8, H8⟩, ⟨%e9, H9⟩, ⟨%e10, H10⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- For any values, from any memory with zero counters: every weakly fair execution of @main on the
    TensorCores terminates, and every final state has every array of the pipeline at what the library computes from the
    proof data and every other unscoped buffer as the lines after the region leave it (Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.QkvIdeal.Gen

end
-- ==== Proof.Common.lean ====
/-
  Vocabulary the products share: a row of int8 codes times a column of int8 weights, scaled and biased, as one extended
  real per element; and how the 128-lane stores of a block sit in it.
-/
module

public import Idealize.ShloMosaic.Lib.Pipeline.Value
public import Idealize.ShloMosaic.Lib.Pointwise

@[expose] public section

noncomputable section

namespace Cert.Common

open Idealize.ShloMosaic Idealize.ShloMosaic.Pointwise

/-- Two zero offsets. -/
theorem hz : (![0, 0] : Fin 2 → Nat) = fun _ => 0 := funext fun a => by fin_cases a <;> rfl

/-- The element a quantised linear layer computes at row `r`, column `n`: the integer dot product of the codes with the
    weight column, times the row's scale, times the column's scale, plus the column's bias. -/
def linAt {M K N : ℕ} (a : Vec Ideal ⟨2, ![M, K]⟩ .i8) (s : Vec Ideal ⟨1, ![M]⟩ .f32) (w : Vec Ideal ⟨2, ![K, N]⟩ .i8)
    (sw b : Vec Ideal ⟨1, ![N]⟩ .f32) (r : Fin M) (n : Fin N) : EReal :=
  (∑ k : Fin K, (FloatOps.sitofp (F := Ideal) .bf16 (a (ix2 r k)) : EReal) * (FloatOps.sitofp (F := Ideal) .bf16 (w (ix2 k n)) : EReal))
    * s (ix1 r) * sw (ix1 n) + b (ix1 n)

/-- The same element inside a tile: the codes already widened, the row scale repeated over 128 lanes, the column scale
    and the bias as rows. -/
def tileAt {R K C : ℕ} (s : Vec Ideal ⟨2, ![R, K]⟩ .bf16) (x1 : Vec Ideal ⟨2, ![R, 128]⟩ .f32)
    (x2 : Vec Ideal ⟨2, ![K, C]⟩ .i8) (x3 x4 : Vec Ideal ⟨2, ![1, C]⟩ .f32) (r : Fin R) (n : Fin C) : EReal :=
  (∑ k : Fin K, s (ix2 r k) * (FloatOps.sitofp (F := Ideal) .bf16 (x2 (ix2 k n)) : EReal))
    * x1 (ix2 r ⟨n.val % 128, Nat.mod_lt _ (by decide)⟩) * x3 (ix2 0 n) + x4 (ix2 0 n)

/-- A tile's element is the layer's element when each of its operands is the array's entry at the element's place. -/
theorem tile_eq_lin {R K C M N : ℕ} {s : Vec Ideal ⟨2, ![R, K]⟩ .bf16} {x1 : Vec Ideal ⟨2, ![R, 128]⟩ .f32}
    {x2 : Vec Ideal ⟨2, ![K, C]⟩ .i8} {x3 x4 : Vec Ideal ⟨2, ![1, C]⟩ .f32} {r : Fin R} {n : Fin C}
    {a : Vec Ideal ⟨2, ![M, K]⟩ .i8} {sc : Vec Ideal ⟨1, ![M]⟩ .f32} {w : Vec Ideal ⟨2, ![K, N]⟩ .i8}
    {sw b : Vec Ideal ⟨1, ![N]⟩ .f32} {r' : Fin M} {n' : Fin N}
    (h0 : ∀ j, s (ix2 r j) = FloatOps.sitofp (F := Ideal) .bf16 (a (ix2 r' j)))
    (h1 : x1 (ix2 r ⟨n.val % 128, Nat.mod_lt _ (by decide)⟩) = sc (ix1 r')) (h2 : ∀ j, x2 (ix2 j n) = w (ix2 j n'))
    (h3 : x3 (ix2 0 n) = sw (ix1 n')) (h4 : x4 (ix2 0 n) = b (ix1 n')) :
    tileAt s x1 x2 x3 x4 r n = linAt a sc w sw b r' n' := by
  unfold tileAt linAt
  simp only [h0, h1, h2, h3, h4]

/-- The residual plus a quantised linear layer, as an array. -/
def residual {M K N : ℕ} (a : Vec Ideal ⟨2, ![M, K]⟩ .i8) (s : Vec Ideal ⟨1, ![M]⟩ .f32)
    (w : Vec Ideal ⟨2, ![K, N]⟩ .i8) (sw b : Vec Ideal ⟨1, ![N]⟩ .f32) (x : (⟨2, ![M, N]⟩ : Shape).Idx → EReal) :
    (⟨2, ![M, N]⟩ : Shape).Idx → EReal :=
  fun i => x i + linAt a s w sw b (i 0) (i 1)

/-- Where a store of `L` columns at column `o` puts its element `(r, l)`. -/
theorem emb_lane {R C L o : ℕ} (inb : ∀ a, (![0, o] : Fin 2 → ℕ) a + (![R, L] : Fin 2 → ℕ) a ≤ (⟨2, ![R, C]⟩ : Shape).size a)
    (r : Fin R) (l : Fin L) :
    (Rect.unit (s := ⟨2, ![R, C]⟩) ![0, o] ![R, L] inb).emb (ix2 r l)
      = ix2 r (⟨o + l.val, Nat.lt_of_lt_of_le (Nat.add_lt_add_left l.isLt o) (inb 1)⟩ : Fin C) := by
  funext a
  apply Fin.ext
  match a with
  | ⟨0, _⟩ => show 0 + 1 * r.val = r.val; omega
  | ⟨1, _⟩ => show o + 1 * l.val = o + l.val; omega

/-- The lane of a column: its number modulo 128. -/
theorem lane_eq (l : Fin 128) (n : ℕ) (h : n % 128 < 128) (hn : n % 128 = l.val) : (⟨n % 128, h⟩ : Fin 128) = l := Fin.ext hn

end Cert.Common
end
-- ==== Proof.Rows.lean ====
/-
  Vocabulary of one row of activations over the extended reals: the tanh form of GELU, the magnitude of an element, the
  largest magnitude of a row, and the int8 quantiser with its scale.
-/
module

public import proofs.«01_k».proof.Proof.Common

@[expose] public section

noncomputable section

namespace Cert.Common

open Idealize.ShloMosaic Idealize.ShloMosaic.Pointwise

/-- GELU in its tanh form, with the program's constants. -/
def gelu (f : EReal) : EReal :=
  Ideal.ofBits FTy.f32 1056964608#32 * f
    * (1 + Ideal.tanh (Ideal.ofBits FTy.f32 1061962282#32 * (f + Ideal.ofBits FTy.f32 1027024659#32 * f * f * f)))

/-- The magnitude of an element. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (by simpa using EReal.neg_le_neg_iff.2 h)

/-- The program's bottom element, from which it takes its maxima. -/
def bot : EReal := Ideal.ofBits FTy.f32 4286578688#32

theorem bot_le_zero : bot ≤ 0 := by
  show Ideal.ofBits FTy.f32 4286578688#32 ≤ 0
  simp [Ideal.ofBits, Ideal.ieee]

/-- The largest of finitely many magnitudes. -/
def maxMag {n : ℕ} (f : Fin n → EReal) : EReal := Finset.fold max bot (fun j => mag (f j)) Finset.univ

theorem maxMag_le {n : ℕ} (f : Fin n → EReal) (x : EReal) : maxMag f ≤ x ↔ bot ≤ x ∧ ∀ j, mag (f j) ≤ x := by
  unfold maxMag
  rw [Finset.fold_max_le]
  simp

/-- A vector of row values read as a column. -/
theorem col_cast {R : ℕ} {α : Type} (v : (⟨1, ![R]⟩ : Shape).Idx → α) (h : (⟨1, ![R]⟩ : Shape).ShapeCasts ⟨2, ![R, 1]⟩) :
    shapeCast ⟨2, ![R, 1]⟩ v h = fun i => v (ix1 (i 0)) := by
  funext i
  refine shapeCast_apply v h _ _ ?_
  have h1 : (i 1).val < 1 := (i 1).isLt
  rw [Shape.rowMajor_val_one, Shape.rowMajor_val_two]
  show (i 0).val = (i 0).val * 1 + (i 1).val
  omega

end Cert.Common
end
-- ==== Proof.Quant.lean ====
/-
  The int8 quantiser of a row and the layer norm before it, over the extended reals, with the programs' constants; and how
  a column of row values is read back as a vector.
-/
module

public import proofs.«01_k».proof.Proof.Rows

@[expose] public section

noncomputable section

namespace Cert.Common

open Idealize.ShloMosaic Idealize.ShloMosaic.Pointwise

/-- A row's scale, from its largest magnitude: that magnitude over 127, or one for a row of zeros. -/
def scaleOf (a : EReal) : EReal := if a = 0 then 1 else Ideal.div a (Ideal.ofBits FTy.f32 1123942400#32)

/-- The code of a value under a scale: the quotient rounded to the nearest integer, ties to even, clipped to ±127. -/
def codeOf (v s : EReal) : BitVec 8 :=
  FloatOps.fptosi (F := Ideal) (φ := .f32) 8
    (min (((127#32).toInt : ℝ) : EReal) (max (((4294967169#32).toInt : ℝ) : EReal) (Ideal.liftRound Ideal.roundHalfEven (Ideal.div v s))))

/-- The mean of a row of 6144. -/
def meanOf {n : ℕ} (x : Fin n → EReal) : EReal := Ideal.div (∑ j, x j) (Ideal.ofBits FTy.f32 1170210816#32)

/-- The layer norm of a row: the centred row over the root of its variance, times the gain, plus the bias. -/
def normAt {n : ℕ} (x g b : Fin n → EReal) (k : Fin n) : EReal :=
  Ideal.div (x k - meanOf x)
      (Ideal.sqrt (Ideal.div (∑ j, (x j - meanOf x) * (x j - meanOf x)) (Ideal.ofBits FTy.f32 1170210816#32) + Ideal.ofBits FTy.f32 925353388#32))
    * g k + b k

/-- The scale of a normed row. -/
def normScale {n : ℕ} (x g b : Fin n → EReal) : EReal := scaleOf (maxMag (normAt x g b))

end Cert.Common
end
-- ==== Proof.Norm.lean ====
/-
  The two results of layer norm and quantisation as closed forms of the argument arrays: the codes and the row scales.
-/
module

public import proofs.«01_k».proof.Proof.Quant

@[expose] public section

noncomputable section

namespace Cert.Common

open Idealize.ShloMosaic Idealize.ShloMosaic.Pointwise

/-- The code of one element of a normed row. -/
def normCode {n : ℕ} (x g b : Fin n → EReal) (k : Fin n) : BitVec 8 := codeOf (normAt x g b k) (normScale x g b)

theorem normCode_congr {n : ℕ} {x g b x' g' b' : Fin n → EReal} (k : Fin n) (hx : ∀ j, x j = x' j) (hg : ∀ j, g j = g' j)
    (hb : ∀ j, b j = b' j) : normCode x g b k = normCode x' g' b' k := by
  rw [funext hx, funext hg, funext hb]

theorem normScale_congr {n : ℕ} {x g b x' g' b' : Fin n → EReal} (hx : ∀ j, x j = x' j) (hg : ∀ j, g j = g' j)
    (hb : ∀ j, b j = b' j) : normScale x g b = normScale x' g' b' := by
  rw [funext hx, funext hg, funext hb]

/-- The array of codes. -/
def normCodes {M n : ℕ} (x : (⟨2, ![M, n]⟩ : Shape).Idx → EReal) (g b : (⟨1, ![n]⟩ : Shape).Idx → EReal) :
    (⟨2, ![M, n]⟩ : Shape).Idx → BitVec 8 :=
  fun i => normCode (fun j => x (ix2 (i 0) j)) (fun j => g (ix1 j)) (fun j => b (ix1 j)) (i 1)

/-- The array of row scales, every row's repeated over `L` columns. -/
def normScales {M n : ℕ} (L : ℕ) (x : (⟨2, ![M, n]⟩ : Shape).Idx → EReal) (g b : (⟨1, ![n]⟩ : Shape).Idx → EReal) :
    (⟨2, ![M, L]⟩ : Shape).Idx → EReal :=
  fun i => normScale (fun j => x (ix2 (i 0) j)) (fun j => g (ix1 j)) (fun j => b (ix1 j))

/-- The vector of row scales. -/
def rowScales {M n : ℕ} (x : (⟨2, ![M, n]⟩ : Shape).Idx → EReal) (g b : (⟨1, ![n]⟩ : Shape).Idx → EReal) :
    (⟨1, ![M]⟩ : Shape).Idx → EReal :=
  fun i => normScale (fun j => x (ix2 (i 0) j)) (fun j => g (ix1 j)) (fun j => b (ix1 j))

/-- A column read as a vector of row values. -/
theorem row_cast {R : ℕ} {α : Type} (v : (⟨2, ![R, 1]⟩ : Shape).Idx → α) (h : (⟨2, ![R, 1]⟩ : Shape).ShapeCasts ⟨1, ![R]⟩) :
    shapeCast ⟨1, ![R]⟩ v h = fun i => v (ix2 (i 0) 0) := by
  funext i
  refine shapeCast_apply v h _ _ ?_
  rw [Shape.rowMajor_val_one, Shape.rowMajor_val_two]
  show (i 0).val * 1 + 0 = (i 0).val
  omega

end Cert.Common
end
-- ==== Proof.Cols.lean ====
/-
  Steps of a row's layer norm and quantiser on whole arrays of any number of rows, read at an index: a column of row values
  broadcast over the row, one row broadcast over many, the row means, the normed rows, the row scales and the codes.
-/
module

public import proofs.«01_k».proof.Proof.Norm
public import Idealize.ShloMosaic.Lib.Tactic

@[expose] public section

set_option maxRecDepth 16384

noncomputable section

namespace Cert.Common

open Idealize.ShloMosaic Idealize.ShloMosaic.Pointwise Idealize.ShloMosaic.TcCoe

/-- A column of row values broadcast over the row, at an index. -/
theorem col_bcast {M K : ℕ} {α : Type} (s : (⟨2, ![M, 1]⟩ : Shape).Idx → α)
    (h : (⟨2, ![M, 1]⟩ : Shape).Broadcasts ⟨2, ![M, K]⟩) (r : Fin M) (k : Fin K) :
    broadcastTo ⟨2, ![M, K]⟩ s h (ix2 r k) = s (ix2 r 0) := by
  refine broadcastTo_apply s h (ix2 r k) (ix2 r (0 : Fin 1)) fun ax => ?_
  match ax with
  | ⟨0, _⟩ =>
    show r.val = if M = 1 then 0 else r.val
    split
    · have := r.isLt; omega
    · rfl
  | ⟨1, _⟩ => rfl

/-- The array of codes, at an index. -/
theorem codes_apply {M K : ℕ} (g : FVec Ideal ⟨2, ![M, K]⟩ .f32) (s : FVec Ideal ⟨2, ![M, 1]⟩ .f32)
    (h : (⟨2, ![M, 1]⟩ : Shape).Broadcasts ⟨2, ![M, K]⟩) (r : Fin M) (k : Fin K) :
    fptosi 8 (minimumf (broadcast ⟨2, ![M, K]⟩ (Scalar.sitofp (F := Ideal) .f32 127#32))
      (maximumf (broadcast ⟨2, ![M, K]⟩ (Scalar.sitofp (F := Ideal) .f32 4294967169#32))
        (roundeven (divf g (broadcastTo ⟨2, ![M, K]⟩ s h))))) (ix2 r k) = codeOf (g (ix2 r k)) (s (ix2 r 0)) := by
  have e := col_bcast s h r k
  generalize broadcastTo ⟨2, ![M, K]⟩ s h = w at e ⊢
  rw [← e]
  pointwise [codeOf]

/-- One row broadcast over many rows, at an index. -/
theorem row_bcast {M K : ℕ} {α : Type} (s : (⟨2, ![1, K]⟩ : Shape).Idx → α) (h : (⟨2, ![1, K]⟩ : Shape).Broadcasts ⟨2, ![M, K]⟩)
    (h1 : (⟨2, ![1, K]⟩ : Shape).ShapeCasts ⟨2, ![1, K]⟩) (r : Fin M) (k : Fin K) :
    broadcastTo ⟨2, ![M, K]⟩ (shapeCast ⟨2, ![1, K]⟩ s h1) h (ix2 r k) = s (ix2 0 k) := by
  refine Eq.trans (broadcastTo_apply _ h (ix2 r k) (ix2 (0 : Fin 1) k) fun ax => ?_) (shapeCast_apply s h1 _ _ rfl)
  match ax with
  | ⟨0, _⟩ => rfl
  | ⟨1, _⟩ =>
    show k.val = if K = 1 then 0 else k.val
    split
    · have := k.isLt; omega
    · rfl

/-- The column of row means, at a row. -/
theorem mean_apply {M K : ℕ} (x : FVec Ideal ⟨2, ![M, K]⟩ .f32) (hr : (⟨2, ![M, K]⟩ : Shape).Reduces [1] ⟨1, ![M]⟩)
    (hc : (⟨1, ![M]⟩ : Shape).ShapeCasts ⟨2, ![M, 1]⟩) (r : Fin M) :
    divf (shapeCast ⟨2, ![M, 1]⟩ (multiReduction .add [1] ⟨1, ![M]⟩ x 0x00000000#32 hr (.inl rfl) rfl) hc)
      (broadcast ⟨2, ![M, 1]⟩ (Scalar.ofBits (F := Ideal) .f32 0x45C00000#32)) (ix2 r 0) = meanOf fun j => x (ix2 r j) := by
  rw [col_cast]
  pointwise [meanOf]

/-- The column of row scales, at a row. -/
theorem scales_apply {M K : ℕ} (x : FVec Ideal ⟨2, ![M, K]⟩ .f32) (hr : (⟨2, ![M, K]⟩ : Shape).Reduces [1] ⟨1, ![M]⟩)
    (hc hc' : (⟨1, ![M]⟩ : Shape).ShapeCasts ⟨2, ![M, 1]⟩) (r : Fin M) :
    select (cmpf .oeq (shapeCast ⟨2, ![M, 1]⟩ (multiReduction .maximumf [1] ⟨1, ![M]⟩ (absf x) 0xFF800000#32 hr (.inl rfl) rfl) hc)
        (broadcast ⟨2, ![M, 1]⟩ (Scalar.ofBits (F := Ideal) .f32 0x00000000#32)))
      (broadcast ⟨2, ![M, 1]⟩ (Scalar.ofBits (F := Ideal) .f32 0x3F800000#32))
      (divf (shapeCast ⟨2, ![M, 1]⟩ (multiReduction .maximumf [1] ⟨1, ![M]⟩ (absf x) 0xFF800000#32 hr (.inl rfl) rfl) hc')
        (broadcast ⟨2, ![M, 1]⟩ (Scalar.ofBits (F := Ideal) .f32 0x42FE0000#32))) (ix2 r 0)
      = scaleOf (maxMag fun j => x (ix2 r j)) := by
  rw [col_cast]
  pointwise [scaleOf, maxMag, mag, bot]

/-- The layer norm of the rows of an array, at an index. -/
theorem norms_apply {M K : ℕ} (x : FVec Ideal ⟨2, ![M, K]⟩ .f32) (g b : FVec Ideal ⟨2, ![1, K]⟩ .f32)
    (hr : (⟨2, ![M, K]⟩ : Shape).Reduces [1] ⟨1, ![M]⟩) (hc : (⟨1, ![M]⟩ : Shape).ShapeCasts ⟨2, ![M, 1]⟩)
    (hb : (⟨2, ![M, 1]⟩ : Shape).Broadcasts ⟨2, ![M, K]⟩) (h : (⟨2, ![1, K]⟩ : Shape).Broadcasts ⟨2, ![M, K]⟩)
    (h1 : (⟨2, ![1, K]⟩ : Shape).ShapeCasts ⟨2, ![1, K]⟩)
    (m v : FVec Ideal ⟨2, ![M, 1]⟩ .f32) (d : FVec Ideal ⟨2, ![M, K]⟩ .f32)
    (hm : m = divf (shapeCast ⟨2, ![M, 1]⟩ (multiReduction .add [1] ⟨1, ![M]⟩ x 0x00000000#32 hr (.inl rfl) rfl) hc)
      (broadcast ⟨2, ![M, 1]⟩ (Scalar.ofBits (F := Ideal) .f32 0x45C00000#32)))
    (hd : d = subf x (broadcastTo ⟨2, ![M, K]⟩ m hb))
    (hv : v = divf (shapeCast ⟨2, ![M, 1]⟩ (multiReduction .add [1] ⟨1, ![M]⟩ (mulf d d) 0x00000000#32 hr (.inl rfl) rfl) hc)
      (broadcast ⟨2, ![M, 1]⟩ (Scalar.ofBits (F := Ideal) .f32 0x45C00000#32))) (r : Fin M) (k : Fin K) :
    addf (mulf (divf d (broadcastTo ⟨2, ![M, K]⟩
        (sqrt (addf v (broadcast ⟨2, ![M, 1]⟩ (Scalar.ofBits (F := Ideal) .f32 0x3727C5AC#32)))) hb))
        (broadcastTo ⟨2, ![M, K]⟩ (shapeCast ⟨2, ![1, K]⟩ g h1) h))
      (broadcastTo ⟨2, ![M, K]⟩ (shapeCast ⟨2, ![1, K]⟩ b h1) h) (ix2 r k)
      = normAt (fun j => x (ix2 r j)) (fun j => g (ix2 0 j)) (fun j => b (ix2 0 j)) k := by
  have em : m (ix2 r 0) = meanOf fun j => x (ix2 r j) := by rw [hm]; exact mean_apply x hr hc r
  have ed : ∀ j, d (ix2 r j) = x (ix2 r j) - meanOf fun j => x (ix2 r j) := by
    intro j
    rw [hd, ← em, ← col_bcast m hb r j]
    rfl
  have ev : v (ix2 r 0) = meanOf fun j => d (ix2 r j) * d (ix2 r j) := by rw [hv]; exact mean_apply (mulf d d) hr hc r
  have es := col_bcast (sqrt (addf v (broadcast ⟨2, ![M, 1]⟩ (Scalar.ofBits (F := Ideal) .f32 0x3727C5AC#32)))) hb r k
  have eg := row_bcast g h h1 r k
  have eb := row_bcast b h h1 r k
  show Ideal.div (d (ix2 r k)) (broadcastTo ⟨2, ![M, K]⟩ _ hb (ix2 r k)) * broadcastTo ⟨2, ![M, K]⟩ _ h (ix2 r k)
    + broadcastTo ⟨2, ![M, K]⟩ _ h (ix2 r k) = _
  rw [es, eg, eb]
  show Ideal.div (d (ix2 r k)) (Ideal.sqrt (v (ix2 r 0) + Ideal.ofBits FTy.f32 925353388#32)) * g (ix2 0 k) + b (ix2 0 k) = _
  rw [ev, ed k]
  simp only [ed]
  rfl

/-- The first column of an array whose rows repeat one value, read as a vector: that value for every row. -/
theorem first_col {M L : ℕ} [NeZero L] {α : Type} (f : Fin M → α) (h : (⟨2, ![M, L]⟩ : Shape).Slices ![0, 0] ⟨2, ![M, 1]⟩)
    (hc : (⟨2, ![M, 1]⟩ : Shape).ShapeCasts ⟨1, ![M]⟩) :
    shapeCast ⟨1, ![M]⟩ (extractStridedSlice ⟨2, ![M, 1]⟩ ![0, 0] (fun i : (⟨2, ![M, L]⟩ : Shape).Idx => f (i 0)) h) hc
      = fun i => f (i 0) := by
  rw [row_cast]
  funext i
  refine extractStridedSlice_apply _ _ h (ix2 (i 0) 0) (ix2 (i 0) 0) fun a => ?_
  match a with
  | ⟨0, _⟩ => exact (Nat.zero_add _).symm
  | ⟨1, _⟩ => rfl

end Cert.Common
end
-- ==== Proof.Ln1Block.lean ====
/-
  Layer norm and quantisation of a block of rows: what one grid point leaves in its two output blocks, and what the
  reference's one body leaves, element by element over the extended reals.
-/
module

public import proofs.«01_k».proof.Proof.Gen.Ln1Ideal.Frame
public import proofs.«01_k».proof.Proof.Gen.Ln1RefIdeal.Frame
public import proofs.«01_k».proof.Proof.Cols
public import Idealize.ShloMosaic.Lib.Tactic

@[expose] public section

set_option maxRecDepth 16384

noncomputable section

namespace Cert.Ln1Ideal.Blocks

open Cert.Ln1Ideal Cert.Ln1Ideal.Gen Idealize.ShloMosaic Idealize.ShloMosaic.TcCoe Idealize.SL.Sem
open Idealize.ShloMosaic.Pointwise Cert.Common

/-- The normed block, element by element. -/
theorem norm_apply (x0 : Vec Ideal S256x6144 .bf16) (x1 x2 : Vec Ideal S1x6144 .f32) (r : Fin 256) (k : Fin 6144) :
    k0_pay3 x0 x1 x2 (ix2 r k) = normAt (fun j => x0 (ix2 r j)) (fun j => x1 (ix2 0 j)) (fun j => x2 (ix2 0 j)) k := by
  unfold k0_pay3
  exact norms_apply (extf .f32 x0 bitsLt_bf16_f32) x1 x2 _ _ _ _ _ _ _ _ rfl rfl rfl r k

/-- The scale of each of its rows. -/
theorem scale_apply (x0 : Vec Ideal S256x6144 .bf16) (x1 x2 : Vec Ideal S1x6144 .f32) (r : Fin 256) :
    k0_pay4 x0 x1 x2 (ix2 r 0) = scaleOf (maxMag (fun j => k0_pay3 x0 x1 x2 (ix2 r j))) := by
  unfold k0_pay4
  generalize k0_pay3 x0 x1 x2 = h
  exact scales_apply h _ _ _ r

/-- Its codes. -/
theorem code_apply (x0 : Vec Ideal S256x6144 .bf16) (x1 x2 : Vec Ideal S1x6144 .f32) (r : Fin 256) (k : Fin 6144) :
    k0_pay1 (k0_pay5 x0 x1 x2) (k0_pay6 (F := Ideal)) (ix2 r k) = codeOf (k0_pay3 x0 x1 x2 (ix2 r k)) (k0_pay4 x0 x1 x2 (ix2 r 0)) := by
  unfold k0_pay1 k0_pay5 k0_pay6
  generalize k0_pay4 x0 x1 x2 = s
  generalize k0_pay3 x0 x1 x2 = h
  exact codes_apply h s _ r k

/-- The block of codes the body stores. -/
theorem out3_apply (x0 : Vec Ideal S256x6144 .bf16) (x1 x2 : Vec Ideal S1x6144 .f32) (r : Fin 256) (k : Fin 6144) :
    out0_3 x0 x1 x2 (ix2 r k)
      = codeOf (normAt (fun j => x0 (ix2 r j)) (fun j => x1 (ix2 0 j)) (fun j => x2 (ix2 0 j)) k)
          (normScale (fun j => x0 (ix2 r j)) (fun j => x1 (ix2 0 j)) (fun j => x2 (ix2 0 j))) := by
  unfold out0_3
  rw [View.canon_unit_zero hz]
  simp only [View.ld_unit_zero (S := S256x6144) hz, View.ld_unit_zero (S := S1x6144) hz]
  rw [code_apply, scale_apply]
  simp only [norm_apply]
  rfl

/-- The block of scales the body stores. -/
theorem out4_apply (x0 : Vec Ideal S256x6144 .bf16) (x1 x2 : Vec Ideal S1x6144 .f32) (r : Fin 256) (l : Fin 128) :
    out0_4 x0 x1 x2 (ix2 r l) = normScale (fun j => x0 (ix2 r j)) (fun j => x1 (ix2 0 j)) (fun j => x2 (ix2 0 j)) := by
  unfold out0_4
  rw [View.canon_unit_zero hz]
  simp only [View.ld_unit_zero (S := S256x6144) hz, View.ld_unit_zero (S := S1x6144) hz]
  refine Eq.trans (b := k0_pay4 x0 x1 x2 (ix2 r 0)) ?_ ?_
  · generalize k0_pay4 x0 x1 x2 = s
    unfold k0_pay2
    refine Eq.trans (col_bcast _ _ r l) (shapeCast_apply s _ _ _ rfl)
  · rw [scale_apply]
    simp only [norm_apply]
    rfl

end Cert.Ln1Ideal.Blocks

namespace Cert.Ln1RefIdeal.Blocks

open Cert.Ln1RefIdeal Cert.Ln1RefIdeal.Gen Idealize.ShloMosaic Idealize.ShloMosaic.TcCoe Idealize.SL.Sem
open Idealize.ShloMosaic.Pointwise Cert.Common

/-- The normed block, element by element. -/
theorem norm_apply (x0 : Vec Ideal S16384x6144 .bf16) (x1 x2 : Vec Ideal S1x6144 .f32) (r : Fin 16384) (k : Fin 6144) :
    k0_pay2 x0 x1 x2 (ix2 r k) = normAt (fun j => x0 (ix2 r j)) (fun j => x1 (ix2 0 j)) (fun j => x2 (ix2 0 j)) k := by
  unfold k0_pay2
  exact norms_apply (extf .f32 x0 bitsLt_bf16_f32) x1 x2 _ _ _ _ _ _ _ _ rfl rfl rfl r k

/-- The scale of each of its rows. -/
theorem scale_apply (x0 : Vec Ideal S16384x6144 .bf16) (x1 x2 : Vec Ideal S1x6144 .f32) (r : Fin 16384) :
    k0_pay3 x0 x1 x2 (ix2 r 0) = scaleOf (maxMag (fun j => k0_pay2 x0 x1 x2 (ix2 r j))) := by
  unfold k0_pay3
  generalize k0_pay2 x0 x1 x2 = h
  exact scales_apply h _ _ _ r

/-- Its codes. -/
theorem code_apply (x0 : Vec Ideal S16384x6144 .bf16) (x1 x2 : Vec Ideal S1x6144 .f32) (r : Fin 16384) (k : Fin 6144) :
    k0_pay1 (k0_pay4 x0 x1 x2) (k0_pay5 (F := Ideal)) (ix2 r k) = codeOf (k0_pay2 x0 x1 x2 (ix2 r k)) (k0_pay3 x0 x1 x2 (ix2 r 0)) := by
  unfold k0_pay1 k0_pay4 k0_pay5
  generalize k0_pay3 x0 x1 x2 = s
  generalize k0_pay2 x0 x1 x2 = h
  exact codes_apply h s _ r k

/-- The block of codes the body stores. -/
theorem out3_apply (x0 : Vec Ideal S16384x6144 .bf16) (x1 x2 : Vec Ideal S1x6144 .f32) (r : Fin 16384) (k : Fin 6144) :
    out0_3 x0 x1 x2 (ix2 r k)
      = codeOf (normAt (fun j => x0 (ix2 r j)) (fun j => x1 (ix2 0 j)) (fun j => x2 (ix2 0 j)) k)
          (normScale (fun j => x0 (ix2 r j)) (fun j => x1 (ix2 0 j)) (fun j => x2 (ix2 0 j))) := by
  unfold out0_3
  rw [View.canon_unit_zero hz]
  simp only [View.ld_unit_zero (S := S16384x6144) hz, View.ld_unit_zero (S := S1x6144) hz]
  rw [code_apply, scale_apply]
  simp only [norm_apply]
  rfl

/-- The block of scales the body stores. -/
theorem out4_apply (x0 : Vec Ideal S16384x6144 .bf16) (x1 x2 : Vec Ideal S1x6144 .f32) (r : Fin 16384) (l : Fin 1) :
    out0_4 x0 x1 x2 (ix2 r l) = normScale (fun j => x0 (ix2 r j)) (fun j => x1 (ix2 0 j)) (fun j => x2 (ix2 0 j)) := by
  unfold out0_4
  rw [View.canon_unit_zero hz]
  simp only [View.ld_unit_zero (S := S16384x6144) hz, View.ld_unit_zero (S := S1x6144) hz]
  refine Eq.trans (b := k0_pay3 x0 x1 x2 (ix2 r 0)) ?_ ?_
  · rw [Subsingleton.elim l 0]
  · rw [scale_apply]
    simp only [norm_apply]
    rfl

end Cert.Ln1RefIdeal.Blocks
end
-- ==== Proof.Ln1Run.lean ====
/-
  The first layer norm with its quantiser: its codes and scales after the run, as closed forms of the argument arrays.
-/
module

public import proofs.«01_k».proof.Proof.Ln1Block
public import proofs.«01_k».proof.Proof.Norm
public import Idealize.ShloMosaic.Lib.Claim

@[expose] public section

set_option maxRecDepth 16384

noncomputable section

namespace Cert.Ln1Ideal.Blocks

open Cert.Ln1Ideal Cert.Ln1Ideal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-! ## Each input block, element by element, in the argument arrays -/

theorem iblk0 (c : Dev nD) (t : Fin cfg0.N) (r : Fin 256) (k : Fin 6144) (R : Fin 16384) (hR : R.val = 256 * t.val + r.val) :
    iblk m c 0 t (ix2 r k) = m ((c : Thread nD τ).loc main_arg0) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 256 + 1 * r.val = R.val; rw [e]; show t.val * 256 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h, V_main_arg0]

theorem iblk1 (c : Dev nD) (t : Fin cfg0.N) (k : Fin 6144) :
    iblk m c 1 t (ix2 0 k) = m ((c : Thread nD τ).loc main_arg1) (ix1 k) := by
  have e := idx1 t
  have h : ((cfg0.win 1).blk t).view.emb (ix2 (0 : Fin 1) k) = (ix2 0 k : (⟨2, ![1, 6144]⟩ : Shape).Idx) := by
    funext a
    apply Fin.ext
    match a with
    | ⟨0, _⟩ => show win0_1.index t (0 : Fin 2) * 1 + 1 * 0 = 0; rw [e]; rfl
    | ⟨1, _⟩ => show win0_1.index t (1 : Fin 2) * 6144 + 1 * k.val = k.val; rw [e]; show 0 * 6144 + 1 * k.val = k.val; omega
  show V m c main_v0 (((cfg0.win 1).blk t).view.emb (ix2 0 k)) = _
  rw [h]
  change StableHlo.after hostOps0 _ (Proc.devRef .tc main_v0) (ix2 0 k) = _
  entry_read
  pointwise

theorem iblk2 (c : Dev nD) (t : Fin cfg0.N) (k : Fin 6144) :
    iblk m c 2 t (ix2 0 k) = m ((c : Thread nD τ).loc main_arg2) (ix1 k) := by
  have e := idx2 t
  have h : ((cfg0.win 2).blk t).view.emb (ix2 (0 : Fin 1) k) = (ix2 0 k : (⟨2, ![1, 6144]⟩ : Shape).Idx) := by
    funext a
    apply Fin.ext
    match a with
    | ⟨0, _⟩ => show win0_2.index t (0 : Fin 2) * 1 + 1 * 0 = 0; rw [e]; rfl
    | ⟨1, _⟩ => show win0_2.index t (1 : Fin 2) * 6144 + 1 * k.val = k.val; rw [e]; show 0 * 6144 + 1 * k.val = k.val; omega
  show V m c main_v1 (((cfg0.win 2).blk t).view.emb (ix2 0 k)) = _
  rw [h]
  change StableHlo.after hostOps0 _ (Proc.devRef .tc main_v1) (ix2 0 k) = _
  entry_read
  pointwise

/-- What point `t` writes back of the codes. -/
theorem flushed_codes (c : Dev nD) (t : Fin cfg0.N) :
    (dats m 0 c).flushed 3 t = ((cfg0.win 3).blk t).view.read (Elt Ideal) (normCodes (m ((c : Thread nD τ).loc main_arg0)) (m ((c : Thread nD τ).loc main_arg1)) (m ((c : Thread nD τ).loc main_arg2))) := by
  have ht : t.val < 64 := Nat.lt_of_lt_of_eq t.isLt N_0
  show (cfg0.win 3).cut (grid0.coords t) ((dats m 0 c).after 3 t) = _
  rw [after0_3]
  funext y
  change Shape.Idx ⟨2, ![256, 6144]⟩ at y
  idx_vars y
  have hR : 256 * t.val + y0.val < 16384 := by omega
  have e := idx3 t
  have h : ((cfg0.win 3).blk t).view.emb (ix2 y0 y1) = (ix2 (⟨256 * t.val + y0.val, hR⟩ : Fin 16384) y1 : (⟨2, ![16384, 6144]⟩ : Shape).Idx) := by
    funext a
    apply Fin.ext
    match a with
    | ⟨0, _⟩ => show win0_3.index t (0 : Fin 2) * 256 + 1 * y0.val = _; rw [e]; show t.val * 256 + 1 * y0.val = 256 * t.val + y0.val; omega
    | ⟨1, _⟩ => show win0_3.index t (1 : Fin 2) * 6144 + 1 * y1.val = y1.val; rw [e]; show 0 * 6144 + 1 * y1.val = y1.val; omega
  refine (out3_apply _ _ _ y0 y1).trans ?_
  refine Eq.trans ?_ (congrArg (normCodes (m ((c : Thread nD τ).loc main_arg0)) (m ((c : Thread nD τ).loc main_arg1)) (m ((c : Thread nD τ).loc main_arg2))) h.symm)
  exact normCode_congr y1 (fun j => iblk0 m c t y0 j ⟨256 * t.val + y0.val, hR⟩ rfl) (iblk1 m c t) (iblk2 m c t)

/-- What point `t` writes back of the scales. -/
theorem flushed_scales (c : Dev nD) (t : Fin cfg0.N) :
    (dats m 0 c).flushed 4 t = ((cfg0.win 4).blk t).view.read (Elt Ideal) (normScales 128 (m ((c : Thread nD τ).loc main_arg0)) (m ((c : Thread nD τ).loc main_arg1)) (m ((c : Thread nD τ).loc main_arg2))) := by
  have ht : t.val < 64 := Nat.lt_of_lt_of_eq t.isLt N_0
  show (cfg0.win 4).cut (grid0.coords t) ((dats m 0 c).after 4 t) = _
  rw [after0_4]
  funext y
  change Shape.Idx ⟨2, ![256, 128]⟩ at y
  idx_vars y
  have hR : 256 * t.val + y0.val < 16384 := by omega
  have e := idx4 t
  have h : ((cfg0.win 4).blk t).view.emb (ix2 y0 y1) = (ix2 (⟨256 * t.val + y0.val, hR⟩ : Fin 16384) y1 : (⟨2, ![16384, 128]⟩ : Shape).Idx) := by
    funext a
    apply Fin.ext
    match a with
    | ⟨0, _⟩ => show win0_4.index t (0 : Fin 2) * 256 + 1 * y0.val = _; rw [e]; show t.val * 256 + 1 * y0.val = 256 * t.val + y0.val; omega
    | ⟨1, _⟩ => show win0_4.index t (1 : Fin 2) * 128 + 1 * y1.val = y1.val; rw [e]; show 0 * 128 + 1 * y1.val = y1.val; omega
  refine (out4_apply _ _ _ y0 y1).trans ?_
  refine Eq.trans ?_ (congrArg (normScales 128 (m ((c : Thread nD τ).loc main_arg0)) (m ((c : Thread nD τ).loc main_arg1)) (m ((c : Thread nD τ).loc main_arg2))) h.symm)
  exact normScale_congr (fun j => iblk0 m c t y0 j ⟨256 * t.val + y0.val, hR⟩ rfl) (iblk1 m c t) (iblk2 m c t)

theorem flush3 : ∀ t : Fin cfg0.N, (cfg0.win 3).flush t = true := (by decide +kernel : ∀ t : Fin grid0.N, (cfg0.win 3).flush t = true)

/-- The array of codes after the run. -/
theorem final_codes (c : Dev nD) : (dats m 0 c).arrAt 3 cfg0.N = normCodes (m ((c : Thread nD τ).loc main_arg0)) (m ((c : Thread nD τ).loc main_arg1)) (m ((c : Thread nD τ).loc main_arg2)) :=
  (dats m 0 c).arrAt_eq_of_cover 3 _ (fun t _ => flushed_codes m c t) (fun i => by
    change Shape.Idx ⟨2, ![16384, 6144]⟩ at i
    have h0 : (i 0).val < 16384 := (i 0).isLt
    have hN : (i 0).val / 256 < cfg0.N := Nat.lt_of_lt_of_eq (by omega : (i 0).val / 256 < 64) N_0.symm
    have e := idx3 ⟨(i 0).val / 256, hN⟩
    refine ⟨⟨(i 0).val / 256, hN⟩, flush3 _, ?_⟩
    have hm := View.emb_mem_set ((cfg0.win 3).blk ⟨(i 0).val / 256, hN⟩).view (ix2 (⟨(i 0).val % 256, Nat.mod_lt _ (by decide)⟩ : Fin 256) (i 1) : (⟨2, ![256, 6144]⟩ : Shape).Idx)
    have h : ((cfg0.win 3).blk ⟨(i 0).val / 256, hN⟩).view.emb (ix2 (⟨(i 0).val % 256, Nat.mod_lt _ (by decide)⟩ : Fin 256) (i 1) : (⟨2, ![256, 6144]⟩ : Shape).Idx) = i := by
      funext a
      apply Fin.ext
      match a with
      | ⟨0, _⟩ => show win0_3.index ⟨(i 0).val / 256, hN⟩ (0 : Fin 2) * 256 + 1 * ((i 0).val % 256) = (i 0).val; rw [e]; show (i 0).val / 256 * 256 + 1 * ((i 0).val % 256) = (i 0).val; omega
      | ⟨1, _⟩ => show win0_3.index ⟨(i 0).val / 256, hN⟩ (1 : Fin 2) * 6144 + 1 * (i 1).val = (i 1).val; rw [e]; show 0 * 6144 + 1 * (i 1).val = (i 1).val; omega
    rw [h] at hm
    exact hm)

theorem flush4 : ∀ t : Fin cfg0.N, (cfg0.win 4).flush t = true := (by decide +kernel : ∀ t : Fin grid0.N, (cfg0.win 4).flush t = true)

/-- The array of scales after the run. -/
theorem final_scales (c : Dev nD) : (dats m 0 c).arrAt 4 cfg0.N = normScales 128 (m ((c : Thread nD τ).loc main_arg0)) (m ((c : Thread nD τ).loc main_arg1)) (m ((c : Thread nD τ).loc main_arg2)) :=
  (dats m 0 c).arrAt_eq_of_cover 4 _ (fun t _ => flushed_scales m c t) (fun i => by
    change Shape.Idx ⟨2, ![16384, 128]⟩ at i
    have h0 : (i 0).val < 16384 := (i 0).isLt
    have hN : (i 0).val / 256 < cfg0.N := Nat.lt_of_lt_of_eq (by omega : (i 0).val / 256 < 64) N_0.symm
    have e := idx4 ⟨(i 0).val / 256, hN⟩
    refine ⟨⟨(i 0).val / 256, hN⟩, flush4 _, ?_⟩
    have hm := View.emb_mem_set ((cfg0.win 4).blk ⟨(i 0).val / 256, hN⟩).view (ix2 (⟨(i 0).val % 256, Nat.mod_lt _ (by decide)⟩ : Fin 256) (i 1) : (⟨2, ![256, 128]⟩ : Shape).Idx)
    have h : ((cfg0.win 4).blk ⟨(i 0).val / 256, hN⟩).view.emb (ix2 (⟨(i 0).val % 256, Nat.mod_lt _ (by decide)⟩ : Fin 256) (i 1) : (⟨2, ![256, 128]⟩ : Shape).Idx) = i := by
      funext a
      apply Fin.ext
      match a with
      | ⟨0, _⟩ => show win0_4.index ⟨(i 0).val / 256, hN⟩ (0 : Fin 2) * 256 + 1 * ((i 0).val % 256) = (i 0).val; rw [e]; show (i 0).val / 256 * 256 + 1 * ((i 0).val % 256) = (i 0).val; omega
      | ⟨1, _⟩ => show win0_4.index ⟨(i 0).val / 256, hN⟩ (1 : Fin 2) * 128 + 1 * (i 1).val = (i 1).val; rw [e]; show 0 * 128 + 1 * (i 1).val = (i 1).val; omega
    rw [h] at hm
    exact hm)

/-- The vector of scales the host line after the call reads off. -/
theorem tail_scales (c : Dev nD) : Pipeline.afterTail₀ cfgs (dats m) 0 (V0 m) [hostOps1] c main_v4 = rowScales (m ((c : Thread nD τ).loc main_arg0)) (m ((c : Thread nD τ).loc main_arg1)) (m ((c : Thread nD τ).loc main_arg2)) := by
  have hw : Pipeline.withArrays spec0 c (V0 m c) (fun w => (dats m 0 c).arrAt w cfg0.N) (Proc.devRef .tc main_v2_1)
      = normScales 128 (m ((c : Thread nD τ).loc main_arg0)) (m ((c : Thread nD τ).loc main_arg1)) (m ((c : Thread nD τ).loc main_arg2)) := (Pipeline.withArrays_arr spec0 (by decide) c _ _ 4).trans (final_scales m c)
  unfold Pipeline.afterTail₀
  change StableHlo.after hostOps1 _ (Proc.devRef .tc main_v4) = _
  entry_read
  generalize hX : Pipeline.withArrays (cfgs 0).spec c (V0 m c) (fun w => (dats m 0 c).arrAt w (cfgs 0).N) (Proc.devRef .tc main_v2_1) = X
  have hY : X = normScales 128 (m ((c : Thread nD τ).loc main_arg0)) (m ((c : Thread nD τ).loc main_arg1)) (m ((c : Thread nD τ).loc main_arg2)) := hX.symm.trans hw
  clear hX
  subst hY
  exact first_col (L := 128) (fun r : Fin 16384 => normScale (fun j => (m ((c : Thread nD τ).loc main_arg0) : (⟨2, ![16384, 6144]⟩ : Shape).Idx → EReal) (ix2 r j))
    (fun j => (m ((c : Thread nD τ).loc main_arg1) : (⟨1, ![6144]⟩ : Shape).Idx → EReal) (ix1 j)) (fun j => (m ((c : Thread nD τ).loc main_arg2) : (⟨1, ![6144]⟩ : Shape).Idx → EReal) (ix1 j))) _ _

/-- The run: the two results are the codes and the scales of the normed rows, the arguments are unchanged. -/
theorem run : θ_run defs (onTc (τ := τ) (main (F := Ideal))) ⟨m, fun _ => 0, ρ⟩ fun r => ∀ c : Dev nD,
      r.2.mem ((c : Thread nD τ).loc main_v2_0) = normCodes (m ((c : Thread nD τ).loc main_arg0)) (m ((c : Thread nD τ).loc main_arg1)) (m ((c : Thread nD τ).loc main_arg2))
      ∧ r.2.mem ((c : Thread nD τ).loc main_v4) = rowScales (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.2 c).1 3).trans (final_codes m c),
      (((h.2 c).2 main_v4 (Pipeline.mem_restRefs_of main_v4 (by decide) (by decide))).trans (tail_scales m c)), h.1 c⟩)
    (θ_run_and (unchanged m ρ) (run_main m ρ))

end Cert.Ln1Ideal.Blocks
end
-- ==== Proof.Ln1Ref.lean ====
/-
  The first layer norm with its quantiser: its reference's codes and scales after the run, and the two programs' results compared.
-/
module

public import proofs.«01_k».proof.Defs
public import proofs.«01_k».proof.Proof.Ln1Run
public import Idealize.ShloMosaic.Lib.Claim

@[expose] public section

set_option maxRecDepth 16384

noncomputable section

namespace Cert.Ln1RefIdeal.Blocks

open Cert.Ln1RefIdeal Cert.Ln1RefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-! ## Each input block, element by element, in the argument arrays -/

theorem iblk0 (c : Dev nD) (t : Fin cfg0.N) (r : Fin 16384) (k : Fin 6144) (R : Fin 16384) (hR : R.val = 16384 * 0 + r.val) :
    iblk m c 0 t (ix2 r k) = m ((c : Thread nD τ).loc main_arg0) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 16384 + 1 * r.val = R.val; rw [e]; show 0 * 16384 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h, V_main_arg0]

theorem iblk1 (c : Dev nD) (t : Fin cfg0.N) (k : Fin 6144) :
    iblk m c 1 t (ix2 0 k) = m ((c : Thread nD τ).loc main_arg1) (ix1 k) := by
  have e := idx1 t
  have h : ((cfg0.win 1).blk t).view.emb (ix2 (0 : Fin 1) k) = (ix2 0 k : (⟨2, ![1, 6144]⟩ : Shape).Idx) := by
    funext a
    apply Fin.ext
    match a with
    | ⟨0, _⟩ => show win0_1.index t (0 : Fin 2) * 1 + 1 * 0 = 0; rw [e]; rfl
    | ⟨1, _⟩ => show win0_1.index t (1 : Fin 2) * 6144 + 1 * k.val = k.val; rw [e]; show 0 * 6144 + 1 * k.val = k.val; omega
  show V m c main_v0 (((cfg0.win 1).blk t).view.emb (ix2 0 k)) = _
  rw [h]
  change StableHlo.after hostOps0 _ (Proc.devRef .tc main_v0) (ix2 0 k) = _
  entry_read
  pointwise

theorem iblk2 (c : Dev nD) (t : Fin cfg0.N) (k : Fin 6144) :
    iblk m c 2 t (ix2 0 k) = m ((c : Thread nD τ).loc main_arg2) (ix1 k) := by
  have e := idx2 t
  have h : ((cfg0.win 2).blk t).view.emb (ix2 (0 : Fin 1) k) = (ix2 0 k : (⟨2, ![1, 6144]⟩ : Shape).Idx) := by
    funext a
    apply Fin.ext
    match a with
    | ⟨0, _⟩ => show win0_2.index t (0 : Fin 2) * 1 + 1 * 0 = 0; rw [e]; rfl
    | ⟨1, _⟩ => show win0_2.index t (1 : Fin 2) * 6144 + 1 * k.val = k.val; rw [e]; show 0 * 6144 + 1 * k.val = k.val; omega
  show V m c main_v1 (((cfg0.win 2).blk t).view.emb (ix2 0 k)) = _
  rw [h]
  change StableHlo.after hostOps0 _ (Proc.devRef .tc main_v1) (ix2 0 k) = _
  entry_read
  pointwise

/-- What point `t` writes back of the codes. -/
theorem flushed_codes (c : Dev nD) (t : Fin cfg0.N) :
    (dats m 0 c).flushed 3 t = ((cfg0.win 3).blk t).view.read (Elt Ideal) (normCodes (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext y
  change Shape.Idx ⟨2, ![16384, 6144]⟩ at y
  idx_vars y
  have hR : 16384 * 0 + y0.val < 16384 := by omega
  have e := idx3 t
  have h : ((cfg0.win 3).blk t).view.emb (ix2 y0 y1) = (ix2 (⟨16384 * 0 + y0.val, hR⟩ : Fin 16384) y1 : (⟨2, ![16384, 6144]⟩ : Shape).Idx) := by
    funext a
    apply Fin.ext
    match a with
    | ⟨0, _⟩ => show win0_3.index t (0 : Fin 2) * 16384 + 1 * y0.val = _; rw [e]; show 0 * 16384 + 1 * y0.val = 16384 * 0 + y0.val; omega
    | ⟨1, _⟩ => show win0_3.index t (1 : Fin 2) * 6144 + 1 * y1.val = y1.val; rw [e]; show 0 * 6144 + 1 * y1.val = y1.val; omega
  refine (out3_apply _ _ _ y0 y1).trans ?_
  refine Eq.trans ?_ (congrArg (normCodes (m ((c : Thread nD τ).loc main_arg0)) (m ((c : Thread nD τ).loc main_arg1)) (m ((c : Thread nD τ).loc main_arg2))) h.symm)
  exact normCode_congr y1 (fun j => iblk0 m c t y0 j ⟨16384 * 0 + y0.val, hR⟩ rfl) (iblk1 m c t) (iblk2 m c t)

/-- What point `t` writes back of the scales. -/
theorem flushed_scales (c : Dev nD) (t : Fin cfg0.N) :
    (dats m 0 c).flushed 4 t = ((cfg0.win 4).blk t).view.read (Elt Ideal) (normScales 1 (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext y
  change Shape.Idx ⟨2, ![16384, 1]⟩ at y
  idx_vars y
  have hR : 16384 * 0 + y0.val < 16384 := by omega
  have e := idx4 t
  have h : ((cfg0.win 4).blk t).view.emb (ix2 y0 y1) = (ix2 (⟨16384 * 0 + y0.val, hR⟩ : Fin 16384) y1 : (⟨2, ![16384, 1]⟩ : Shape).Idx) := by
    funext a
    apply Fin.ext
    match a with
    | ⟨0, _⟩ => show win0_4.index t (0 : Fin 2) * 16384 + 1 * y0.val = _; rw [e]; show 0 * 16384 + 1 * y0.val = 16384 * 0 + y0.val; omega
    | ⟨1, _⟩ => show win0_4.index t (1 : Fin 2) * 1 + 1 * y1.val = y1.val; rw [e]; show 0 * 1 + 1 * y1.val = y1.val; omega
  refine (out4_apply _ _ _ y0 y1).trans ?_
  refine Eq.trans ?_ (congrArg (normScales 1 (m ((c : Thread nD τ).loc main_arg0)) (m ((c : Thread nD τ).loc main_arg1)) (m ((c : Thread nD τ).loc main_arg2))) h.symm)
  exact normScale_congr (fun j => iblk0 m c t y0 j ⟨16384 * 0 + y0.val, hR⟩ rfl) (iblk1 m c t) (iblk2 m c t)

/-- The one grid point. -/
def t₀ : Fin cfg0.N := ⟨0, by decide⟩

/-- The one point's block of the codes is the whole array. -/
theorem emb_codes (i : (⟨2, ![16384, 6144]⟩ : Shape).Idx) : ((cfg0.win 3).blk t₀).view.emb i = i := by
  have e := idx3 t₀
  funext a
  apply Fin.ext
  match a with
  | ⟨0, _⟩ => show win0_3.index t₀ (0 : Fin 2) * 16384 + 1 * (i 0).val = (i 0).val; rw [e]; show 0 * 16384 + 1 * (i 0).val = (i 0).val; omega
  | ⟨1, _⟩ => show win0_3.index t₀ (1 : Fin 2) * 6144 + 1 * (i 1).val = (i 1).val; rw [e]; show 0 * 6144 + 1 * (i 1).val = (i 1).val; omega

/-- The array of codes after the run. -/
theorem final_codes (c : Dev nD) : (dats m 0 c).arrAt 3 cfg0.N = normCodes (m ((c : Thread nD τ).loc main_arg0)) (m ((c : Thread nD τ).loc main_arg1)) (m ((c : Thread nD τ).loc main_arg2)) :=
  (dats m 0 c).arrAt_eq_of_cover 3 _ (fun t _ => flushed_codes m c t) (fun i => ⟨t₀, by decide +kernel, by
    have hm := View.emb_mem_set ((cfg0.win 3).blk t₀).view i
    rw [emb_codes i] at hm
    exact hm⟩)

/-- The one point's block of the scales is the whole array. -/
theorem emb_scales (i : (⟨2, ![16384, 1]⟩ : Shape).Idx) : ((cfg0.win 4).blk t₀).view.emb i = i := by
  have e := idx4 t₀
  funext a
  apply Fin.ext
  match a with
  | ⟨0, _⟩ => show win0_4.index t₀ (0 : Fin 2) * 16384 + 1 * (i 0).val = (i 0).val; rw [e]; show 0 * 16384 + 1 * (i 0).val = (i 0).val; omega
  | ⟨1, _⟩ => show win0_4.index t₀ (1 : Fin 2) * 1 + 1 * (i 1).val = (i 1).val; rw [e]; show 0 * 1 + 1 * (i 1).val = (i 1).val; omega

/-- The array of scales after the run. -/
theorem final_scales (c : Dev nD) : (dats m 0 c).arrAt 4 cfg0.N = normScales 1 (m ((c : Thread nD τ).loc main_arg0)) (m ((c : Thread nD τ).loc main_arg1)) (m ((c : Thread nD τ).loc main_arg2)) :=
  (dats m 0 c).arrAt_eq_of_cover 4 _ (fun t _ => flushed_scales m c t) (fun i => ⟨t₀, by decide +kernel, by
    have hm := View.emb_mem_set ((cfg0.win 4).blk t₀).view i
    rw [emb_scales i] at hm
    exact hm⟩)

/-- The vector of scales the host line after the call reads off. -/
theorem tail_scales (c : Dev nD) : Pipeline.afterTail₀ cfgs (dats m) 0 (V0 m) [hostOps1] c main_v3 = rowScales (m ((c : Thread nD τ).loc main_arg0)) (m ((c : Thread nD τ).loc main_arg1)) (m ((c : Thread nD τ).loc main_arg2)) := by
  have hw : Pipeline.withArrays spec0 c (V0 m c) (fun w => (dats m 0 c).arrAt w cfg0.N) (Proc.devRef .tc main_v2_1)
      = normScales 1 (m ((c : Thread nD τ).loc main_arg0)) (m ((c : Thread nD τ).loc main_arg1)) (m ((c : Thread nD τ).loc main_arg2)) := (Pipeline.withArrays_arr spec0 (by decide) c _ _ 4).trans (final_scales m c)
  unfold Pipeline.afterTail₀
  change StableHlo.after hostOps1 _ (Proc.devRef .tc main_v3) = _
  entry_read
  generalize hX : Pipeline.withArrays (cfgs 0).spec c (V0 m c) (fun w => (dats m 0 c).arrAt w (cfgs 0).N) (Proc.devRef .tc main_v2_1) = X
  have hY : X = normScales 1 (m ((c : Thread nD τ).loc main_arg0)) (m ((c : Thread nD τ).loc main_arg1)) (m ((c : Thread nD τ).loc main_arg2)) := hX.symm.trans hw
  clear hX
  subst hY
  exact row_cast (R := 16384) _ _

/-- The run: the two results are the codes and the scales of the normed rows, the arguments are unchanged. -/
theorem run : θ_run defs (onTc (τ := τ) (main (F := Ideal))) ⟨m, fun _ => 0, ρ⟩ fun r => ∀ c : Dev nD,
      r.2.mem ((c : Thread nD τ).loc main_v2_0) = normCodes (m ((c : Thread nD τ).loc main_arg0)) (m ((c : Thread nD τ).loc main_arg1)) (m ((c : Thread nD τ).loc main_arg2))
      ∧ r.2.mem ((c : Thread nD τ).loc main_v3) = rowScales (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.2 c).1 3).trans (final_codes m c),
      (((h.2 c).2 main_v3 (Pipeline.mem_restRefs_of main_v3 (by decide) (by decide))).trans (tail_scales m c)), h.1 c⟩)
    (θ_run_and (unchanged m ρ) (run_main m ρ))

end Cert.Ln1RefIdeal.Blocks

open Idealize.ShloMosaic Cert.Common in
/-- Kernel and reference leave the same codes and scales from the same arguments. -/
theorem Cert.Ln1Ideal.Blocks.algebraic : Cert.algebraic_Ln1Ideal_Ln1RefIdeal := by
  intro m g m' g' hpre h
  refine ⟨fun c => _, fun c => _, Cert.Ln1Ideal.Blocks.run m g, ?_⟩
  refine (θ_run _ _ _).mono (fun r hr c => ⟨((hr c).1).trans ?_, ((hr c).2.1).trans ?_, (hr c).2.2⟩) (Cert.Ln1RefIdeal.Blocks.run m' g')
  · obtain ⟨e0, e1, e2⟩ := h c
    rw [e0, e1, e2]
  · obtain ⟨e0, e1, e2⟩ := h c
    rw [e0, e1, e2]
end
-- ==== Proof.Heads.lean ====
/-
  One head's row of 128 elements and its rotary embedding: the closed form, and the two ways programs spell it, read at
  an index.
-/
module

public import proofs.«01_k».proof.Proof.Cols

@[expose] public section

set_option maxRecDepth 16384

noncomputable section

namespace Cert.Common

open Idealize.ShloMosaic Idealize.ShloMosaic.Pointwise Idealize.ShloMosaic.TcCoe

/-- The rotary embedding of a head's row: its two halves `x₁`, `x₂` become `x₁ c - x₂ s` and `x₂ c + x₁ s`. -/
def rope (t : Fin 128 → EReal) (c s : Fin 64 → EReal) (l : Fin 128) : EReal :=
  if h : l.val < 64 then t l * c ⟨l.val, h⟩ - t ⟨l.val + 64, by omega⟩ * s ⟨l.val, h⟩
  else t l * c ⟨l.val - 64, by omega⟩ + t ⟨l.val - 64, by omega⟩ * s ⟨l.val - 64, by omega⟩

/-- The same as one multiply-add over the whole row: the row times a table, plus the row turned by half times another. -/
def turn (t C S : Fin 128 → EReal) (l : Fin 128) : EReal :=
  t l * C l + t ⟨(l.val + 64) % 128, Nat.mod_lt _ (by decide)⟩ * S l

/-- The first table holds the cosines twice. -/
def twice (c : Fin 64 → EReal) (l : Fin 128) : EReal := if h : l.val < 64 then c ⟨l.val, h⟩ else c ⟨l.val - 64, by omega⟩

/-- The second table holds the sines negated, then the sines. -/
def signed (s : Fin 64 → EReal) (l : Fin 128) : EReal := if h : l.val < 64 then -s ⟨l.val, h⟩ else s ⟨l.val - 64, by omega⟩

/-- The two spellings of the embedding agree. -/
theorem turn_eq_rope (t : Fin 128 → EReal) (c s : Fin 64 → EReal) : turn t (twice c) (signed s) = rope t c s := by
  funext l
  unfold turn twice signed rope
  by_cases h : l.val < 64
  · rw [dif_pos h, dif_pos h, dif_pos h]
    have e : (⟨(l.val + 64) % 128, Nat.mod_lt _ (by decide)⟩ : Fin 128) = ⟨l.val + 64, by omega⟩ := Fin.ext (by show (l.val + 64) % 128 = l.val + 64; omega)
    rw [e, sub_eq_add_neg, mul_neg]
  · rw [dif_neg h, dif_neg h, dif_neg h]
    have e : (⟨(l.val + 64) % 128, Nat.mod_lt _ (by decide)⟩ : Fin 128) = ⟨l.val - 64, by omega⟩ := Fin.ext (by show (l.val + 64) % 128 = l.val - 64; have := l.isLt; omega)
    rw [e]

/-- A band of columns, at an index. -/
theorem band_apply {M N L o : ℕ} {α : Type} (x : (⟨2, ![M, N]⟩ : Shape).Idx → α)
    (h : (⟨2, ![M, N]⟩ : Shape).Slices ![0, o] ⟨2, ![M, L]⟩) (r : Fin M) (l : Fin L) (n : Fin N) (hn : n.val = o + l.val) :
    extractStridedSlice ⟨2, ![M, L]⟩ ![0, o] x h (ix2 r l) = x (ix2 r n) := by
  refine extractStridedSlice_apply _ x h (ix2 r l) (ix2 r n) fun a => ?_
  match a with
  | ⟨0, _⟩ => exact (Nat.zero_add _).symm
  | ⟨1, _⟩ => exact hn

/-- Two halves of 64 columns side by side, at an index. -/
theorem halves_apply {M : ℕ} {α : Type} (x y : (⟨2, ![M, 64]⟩ : Shape).Idx → α)
    (h : Shape.Concatenates [⟨2, ![M, 64]⟩, ⟨2, ![M, 64]⟩] ⟨2, ![M, 128]⟩ 1) (r : Fin M) (l : Fin 128) :
    concatenate ⟨2, ![M, 128]⟩ 1 [⟨⟨2, ![M, 64]⟩, x⟩, ⟨⟨2, ![M, 64]⟩, y⟩] h (ix2 r l)
      = if hl : l.val < 64 then x (ix2 r ⟨l.val, hl⟩) else y (ix2 r ⟨l.val - 64, by omega⟩) := by
  split
  · rename_i hl
    refine concatenate_pair_apply_left 1 x y h (ix2 r l) rfl (ix2 r ⟨l.val, hl⟩) fun b => ?_
    match b with
    | ⟨0, _⟩ => rfl
    | ⟨1, _⟩ => rfl
  · rename_i hl
    refine concatenate_pair_apply_right 1 x y h (ix2 r l) rfl rfl (ix2 r ⟨l.val - 64, by omega⟩) (fun b hb => ?_) ?_
    · match b with
      | ⟨0, _⟩ => rfl
      | ⟨1, _⟩ => exact absurd rfl hb
    · show l.val - 64 + 64 = l.val
      omega

/-- The embedding spelled with its halves, at an index. -/
theorem rope_apply {M : ℕ} (x : FVec Ideal ⟨2, ![M, 128]⟩ .f32) (c s : FVec Ideal ⟨2, ![M, 64]⟩ .f32)
    (h0 : (⟨2, ![M, 128]⟩ : Shape).Slices ![0, 0] ⟨2, ![M, 64]⟩) (h1 : (⟨2, ![M, 128]⟩ : Shape).Slices ![0, 64] ⟨2, ![M, 64]⟩)
    (h : Shape.Concatenates [⟨2, ![M, 64]⟩, ⟨2, ![M, 64]⟩] ⟨2, ![M, 128]⟩ 1) (r : Fin M) (l : Fin 128) :
    concatenate ⟨2, ![M, 128]⟩ 1
        [⟨⟨2, ![M, 64]⟩, subf (mulf (extractStridedSlice ⟨2, ![M, 64]⟩ ![0, 0] x h0) c) (mulf (extractStridedSlice ⟨2, ![M, 64]⟩ ![0, 64] x h1) s)⟩,
         ⟨⟨2, ![M, 64]⟩, addf (mulf (extractStridedSlice ⟨2, ![M, 64]⟩ ![0, 64] x h1) c) (mulf (extractStridedSlice ⟨2, ![M, 64]⟩ ![0, 0] x h0) s)⟩] h (ix2 r l)
      = rope (fun k => x (ix2 r k)) (fun k => c (ix2 r k)) (fun k => s (ix2 r k)) l := by
  have e0 : ∀ k : Fin 64, extractStridedSlice ⟨2, ![M, 64]⟩ ![0, 0] x h0 (ix2 r k) = x (ix2 r ⟨k.val, by omega⟩) := fun k =>
    band_apply x h0 r k ⟨k.val, by omega⟩ (Nat.zero_add _).symm
  have e1 : ∀ k : Fin 64, extractStridedSlice ⟨2, ![M, 64]⟩ ![0, 64] x h1 (ix2 r k) = x (ix2 r ⟨k.val + 64, by omega⟩) := fun k =>
    band_apply x h1 r k ⟨k.val + 64, by omega⟩ (Nat.add_comm _ _)
  rw [halves_apply]
  generalize extractStridedSlice ⟨2, ![M, 64]⟩ ![0, 0] x h0 = a at e0 ⊢
  generalize extractStridedSlice ⟨2, ![M, 64]⟩ ![0, 64] x h1 = b at e1 ⊢
  unfold rope
  by_cases hl : l.val < 64
  · rw [dif_pos hl, dif_pos hl]
    show a (ix2 r ⟨l.val, hl⟩) * c (ix2 r ⟨l.val, hl⟩) - b (ix2 r ⟨l.val, hl⟩) * s (ix2 r ⟨l.val, hl⟩) = _
    rw [e0, e1]
  · rw [dif_neg hl, dif_neg hl]
    show b (ix2 r ⟨l.val - 64, by omega⟩) * c (ix2 r ⟨l.val - 64, by omega⟩) + a (ix2 r ⟨l.val - 64, by omega⟩) * s (ix2 r ⟨l.val - 64, by omega⟩) = _
    rw [e0, e1]
    have e : (⟨l.val - 64 + 64, by omega⟩ : Fin 128) = l := Fin.ext (by show l.val - 64 + 64 = l.val; omega)
    rw [e]

/-- A rotation of the lanes by half their number, at an index. -/
theorem roll_apply {M : ℕ} (x : FVec Ideal ⟨2, ![M, 128]⟩ .f32) (h : (⟨2, ![M, 128]⟩ : Shape).Rotates 1 none) (r : Fin M) (l : Fin 128) :
    dynamicRotate 1 64#32 none x h (ix2 r l) = x (ix2 r ⟨(l.val + 64) % 128, Nat.mod_lt _ (by decide)⟩) := by
  refine (Pointwise.dynamicRotate_apply 1 64#32 none x h (ix2 r l)).trans (congrArg x (funext fun b => ?_))
  match b with
  | ⟨0, _⟩ => rfl
  | ⟨1, _⟩ => exact Fin.ext (by show (l.val + 128 - 64 % 128) % 128 = (l.val + 64) % 128; omega)

/-- The embedding spelled with a rotation, at an index. -/
theorem turn_apply {M : ℕ} (x C S : FVec Ideal ⟨2, ![M, 128]⟩ .f32) (h : (⟨2, ![M, 128]⟩ : Shape).Rotates 1 none) (r : Fin M) (l : Fin 128) :
    addf (mulf x C) (mulf (dynamicRotate 1 64#32 none x h) S) (ix2 r l)
      = turn (fun k => x (ix2 r k)) (fun k => C (ix2 r k)) (fun k => S (ix2 r k)) l := by
  have e := roll_apply x h r l
  generalize dynamicRotate 1 64#32 none x h = y at e ⊢
  show x (ix2 r l) * C (ix2 r l) + y (ix2 r l) * S (ix2 r l) = _
  rw [e]
  rfl

/-- One matrix read as a stack of one. -/
theorem stack_apply {M L : ℕ} {α : Type} (v : (⟨2, ![M, L]⟩ : Shape).Idx → α)
    (h : (⟨2, ![M, L]⟩ : Shape).ShapeCasts ⟨3, ![1, M, L]⟩) (a : Fin 1) (r : Fin M) (l : Fin L) :
    shapeCast ⟨3, ![1, M, L]⟩ v h (ix3 a r l) = v (ix2 r l) := by
  refine shapeCast_apply v h _ _ ?_
  rw [Shape.rowMajor_val_two, Shape.rowMajor_val_three]
  show r.val * L + l.val = (a.val * M + r.val) * L + l.val
  have : a.val = 0 := by omega
  rw [this, Nat.zero_mul, Nat.zero_add]

/-- Where a store of one matrix at place `o` of a stack puts its element `(r, l)`. -/
theorem emb_stack {A R L o : ℕ} (inb : ∀ a, (![o, 0, 0] : Fin 3 → ℕ) a + (![1, R, L] : Fin 3 → ℕ) a ≤ (⟨3, ![A, R, L]⟩ : Shape).size a)
    (a : Fin 1) (r : Fin R) (l : Fin L) :
    (Rect.unit (s := ⟨3, ![A, R, L]⟩) ![o, 0, 0] ![1, R, L] inb).emb (ix3 a r l)
      = ix3 (⟨o, inb 0⟩ : Fin A) r l := by
  funext b
  apply Fin.ext
  match b with
  | ⟨0, _⟩ => show o + 1 * a.val = o; omega
  | ⟨1, _⟩ => show 0 + 1 * r.val = r.val; omega
  | ⟨2, _⟩ => show 0 + 1 * l.val = l.val; omega

/-- A band of a product's columns, scaled by its rows' scales, by its columns' scales and biased, at an index. -/
theorem piece_apply {M N o : ℕ} (d : FVec Ideal ⟨2, ![M, N]⟩ .f32) (x : FVec Ideal ⟨2, ![M, 128]⟩ .f32) (w b : FVec Ideal ⟨2, ![1, 128]⟩ .f32)
    (hs : (⟨2, ![M, N]⟩ : Shape).Slices ![0, o] ⟨2, ![M, 128]⟩) (h0 : (⟨2, ![M, 128]⟩ : Shape).ShapeCasts ⟨2, ![M, 128]⟩)
    (h1 : (⟨2, ![1, 128]⟩ : Shape).ShapeCasts ⟨2, ![1, 128]⟩) (hb : (⟨2, ![1, 128]⟩ : Shape).Broadcasts ⟨2, ![M, 128]⟩)
    (r : Fin M) (l : Fin 128) (n : Fin N) (hn : n.val = o + l.val) :
    addf (mulf (mulf (extractStridedSlice ⟨2, ![M, 128]⟩ ![0, o] d hs) (shapeCast ⟨2, ![M, 128]⟩ x h0))
        (broadcastTo ⟨2, ![M, 128]⟩ (shapeCast ⟨2, ![1, 128]⟩ w h1) hb)) (broadcastTo ⟨2, ![M, 128]⟩ (shapeCast ⟨2, ![1, 128]⟩ b h1) hb) (ix2 r l)
      = d (ix2 r n) * x (ix2 r l) * w (ix2 0 l) + b (ix2 0 l) := by
  have e0 := band_apply d hs r l n hn
  have e1 : shapeCast ⟨2, ![M, 128]⟩ x h0 (ix2 r l) = x (ix2 r l) := shapeCast_apply x h0 _ _ rfl
  have e2 := row_bcast w hb h1 r l
  have e3 := row_bcast b hb h1 r l
  show extractStridedSlice ⟨2, ![M, 128]⟩ ![0, o] d hs (ix2 r l) * shapeCast ⟨2, ![M, 128]⟩ x h0 (ix2 r l)
    * broadcastTo ⟨2, ![M, 128]⟩ (shapeCast ⟨2, ![1, 128]⟩ w h1) hb (ix2 r l) + broadcastTo ⟨2, ![M, 128]⟩ (shapeCast ⟨2, ![1, 128]⟩ b h1) hb (ix2 r l) = _
  rw [e0, e1, e2, e3]

/-- The embedding spelled with a rotation and with its tables reshaped to their own shape, at an index of a row that is `t`. -/
theorem turned_apply {M : ℕ} (p C S : FVec Ideal ⟨2, ![M, 128]⟩ .f32) (hr : (⟨2, ![M, 128]⟩ : Shape).Rotates 1 none)
    (h0 : (⟨2, ![M, 128]⟩ : Shape).ShapeCasts ⟨2, ![M, 128]⟩) (t : Fin 128 → EReal) (r : Fin M) (l : Fin 128) (hp : ∀ k, p (ix2 r k) = t k) :
    addf (mulf p (shapeCast ⟨2, ![M, 128]⟩ C h0)) (mulf (dynamicRotate 1 64#32 none p hr) (shapeCast ⟨2, ![M, 128]⟩ S h0)) (ix2 r l)
      = turn t (fun k => C (ix2 r k)) (fun k => S (ix2 r k)) l := by
  have e0 : ∀ k, shapeCast ⟨2, ![M, 128]⟩ C h0 (ix2 r k) = C (ix2 r k) := fun k => shapeCast_apply C h0 _ _ rfl
  have e1 : ∀ k, shapeCast ⟨2, ![M, 128]⟩ S h0 (ix2 r k) = S (ix2 r k) := fun k => shapeCast_apply S h0 _ _ rfl
  refine (turn_apply p _ _ hr r l).trans ?_
  simp only [e0, e1, hp]

/-- The codes of the rows of an array, at an index of a row that is `t`. -/
theorem row_codes {M : ℕ} (g : FVec Ideal ⟨2, ![M, 128]⟩ .f32) (s : FVec Ideal ⟨2, ![M, 1]⟩ .f32)
    (h : (⟨2, ![M, 1]⟩ : Shape).Broadcasts ⟨2, ![M, 128]⟩) (t : Fin 128 → EReal) (r : Fin M) (l : Fin 128)
    (hg : ∀ k, g (ix2 r k) = t k) (hs : s (ix2 r 0) = scaleOf (maxMag t)) :
    fptosi 8 (minimumf (broadcast ⟨2, ![M, 128]⟩ (Scalar.sitofp (F := Ideal) .f32 127#32))
      (maximumf (broadcast ⟨2, ![M, 128]⟩ (Scalar.sitofp (F := Ideal) .f32 4294967169#32))
        (roundeven (divf g (broadcastTo ⟨2, ![M, 128]⟩ s h))))) (ix2 r l) = codeOf (t l) (scaleOf (maxMag t)) := by
  rw [codes_apply, hg, hs]

/-- The scale of a row that is `t`. -/
theorem row_scale {M : ℕ} (x : FVec Ideal ⟨2, ![M, 128]⟩ .f32) (hr : (⟨2, ![M, 128]⟩ : Shape).Reduces [1] ⟨1, ![M]⟩)
    (hc : (⟨1, ![M]⟩ : Shape).ShapeCasts ⟨2, ![M, 1]⟩) (t : Fin 128 → EReal) (r : Fin M) (hx : ∀ k, x (ix2 r k) = t k) :
    select (cmpf .oeq (shapeCast ⟨2, ![M, 1]⟩ (multiReduction .maximumf [1] ⟨1, ![M]⟩ (absf x) 0xFF800000#32 hr (.inl rfl) rfl) hc)
        (broadcast ⟨2, ![M, 1]⟩ (Scalar.ofBits (F := Ideal) .f32 0x00000000#32)))
      (broadcast ⟨2, ![M, 1]⟩ (Scalar.ofBits (F := Ideal) .f32 0x3F800000#32))
      (divf (shapeCast ⟨2, ![M, 1]⟩ (multiReduction .maximumf [1] ⟨1, ![M]⟩ (absf x) 0xFF800000#32 hr (.inl rfl) rfl) hc)
        (broadcast ⟨2, ![M, 1]⟩ (Scalar.ofBits (F := Ideal) .f32 0x42FE0000#32))) (ix2 r 0) = scaleOf (maxMag t) :=
  (scales_apply x hr hc hc r).trans (congrArg (fun f => scaleOf (maxMag f)) (funext hx))

/-- A column of row values repeated over the row and read as a stack of one, at an index. -/
theorem stack_col {M : ℕ} (s : FVec Ideal ⟨2, ![M, 1]⟩ .f32) (h0 : (⟨2, ![M, 1]⟩ : Shape).ShapeCasts ⟨2, ![M, 1]⟩)
    (h : (⟨2, ![M, 1]⟩ : Shape).Broadcasts ⟨2, ![M, 128]⟩) (h1 : (⟨2, ![M, 128]⟩ : Shape).ShapeCasts ⟨3, ![1, M, 128]⟩)
    (a : Fin 1) (r : Fin M) (l : Fin 128) :
    shapeCast ⟨3, ![1, M, 128]⟩ (broadcastTo ⟨2, ![M, 128]⟩ (shapeCast ⟨2, ![M, 1]⟩ s h0) h) h1 (ix3 a r l) = s (ix2 r 0) :=
  (stack_apply _ h1 a r l).trans ((col_bcast _ h r l).trans (shapeCast_apply s h0 _ _ rfl))

end Cert.Common
end
-- ==== Proof.QkvHead.lean ====
/-
  What the fused projection's kernel stores for one head, read at an index: each stored block as a function of the product
  with the weights and of the operands its columns meet.
-/
module

public import proofs.«01_k».proof.Proof.Gen.QkvIdeal.Skeleton
public import proofs.«01_k».proof.Proof.Heads

@[expose] public section

set_option maxRecDepth 16384

noncomputable section

namespace Cert.QkvIdeal.Blocks

open Cert.QkvIdeal Cert.QkvIdeal.Gen Idealize.ShloMosaic Idealize.ShloMosaic.TcCoe
open Idealize.ShloMosaic.Pointwise Cert.Common

/-- A head's row in a block: 128 of the product's columns, from column `o`, scaled and biased. -/
def bandRow (o : ℕ) (ho : o + 128 ≤ 512) (d : FVec Ideal S1024x512 .f32) (x : Vec Ideal S1024x128 .f32) (w b : Vec Ideal S1x128 .f32)
    (r : Fin 1024) (k : Fin 128) : EReal :=
  (d (ix2 r (⟨o + k.val, by omega⟩ : Fin 512)) : EReal) * x (ix2 r k) * w (ix2 0 k) + b (ix2 0 k)

/-- The same row after the rotary embedding, with the tables `C` and `S`. -/
def turnedRow (o : ℕ) (ho : o + 128 ≤ 512) (d : FVec Ideal S1024x512 .f32) (x : Vec Ideal S1024x128 .f32) (w b : Vec Ideal S1x128 .f32)
    (C S : Vec Ideal S1024x128 .f32) (r : Fin 1024) : Fin 128 → EReal :=
  turn (bandRow o ho d x w b r) (fun k => C (ix2 r k)) (fun k => S (ix2 r k))

/-- The product of the widened codes with the weights, at an index. -/
theorem dot_apply (s : Vec Ideal S1024x6144 .bf16) (x2 : Vec Ideal S6144x512 .i8) (r : Fin 1024) (n : Fin 512) :
    k0_pay6 s x2 (ix2 r n) = (∑ k : Fin 6144, (s (ix2 r k) : EReal) * (FloatOps.sitofp (F := Ideal) .bf16 (x2 (ix2 k n)) : EReal) : EReal) := by
  pointwise [k0_pay6]

variable (s : Vec Ideal S1024x6144 .bf16) (x2 : Vec Ideal S6144x512 .i8) (d : FVec Ideal S1024x512 .f32)
  (x : Vec Ideal S1024x128 .f32) (w b : Vec Ideal S1x128 .f32) (C S : Vec Ideal S1024x128 .f32)
  (a : Fin 1) (r : Fin 1024) (l : Fin 128)

/-- The first head of a block of queries. -/
theorem q0_apply : k0_pay7 s x2 x w b C S (ix3 a r l) = turnedRow 0 (by decide) (k0_pay6 s x2) x w b C S r l :=
  (stack_apply _ _ a r l).trans (turned_apply _ _ _ _ _ (bandRow 0 (by decide) (k0_pay6 s x2) x w b r) r l (fun k => piece_apply _ _ _ _ _ _ _ _ r k _ rfl))

/-- The second head of a block of queries. -/
theorem q1_apply : k0_pay9 (k0_pay8 s x2 x w) b C S (ix3 a r l) = turnedRow 128 (by decide) (k0_pay6 s x2) x w b C S r l :=
  (stack_apply _ _ a r l).trans (turned_apply _ _ _ _ _ (bandRow 128 (by decide) (k0_pay6 s x2) x w b r) r l (fun k => piece_apply _ _ _ _ _ _ _ _ r k _ rfl))

/-- The third head of a block of queries. -/
theorem q2_apply : k0_pay2 (k0_pay10 d x w b C S) (ix3 a r l) = turnedRow 256 (by decide) d x w b C S r l :=
  (stack_apply _ _ a r l).trans (turned_apply _ _ _ _ _ (bandRow 256 (by decide) d x w b r) r l (fun k => piece_apply _ _ _ _ _ _ _ _ r k _ rfl))

/-- The fourth head of a block of queries. -/
theorem q3_apply : k0_pay3 d x w b C S (ix3 a r l) = turnedRow 384 (by decide) d x w b C S r l :=
  (stack_apply _ _ a r l).trans (turned_apply _ _ _ _ _ (bandRow 384 (by decide) d x w b r) r l (fun k => piece_apply _ _ _ _ _ _ _ _ r k _ rfl))

/-- The first key head: the row quantised. -/
theorem k0_row (k : Fin 128) : k0_pay12 s x2 x w b C S (ix2 r k) = turnedRow 0 (by decide) (k0_pay11 s x2) x w b C S r k :=
  turned_apply _ _ _ _ _ (bandRow 0 (by decide) (k0_pay11 s x2) x w b r) r k (fun k => piece_apply _ _ _ _ _ _ _ _ r k _ rfl)

/-- The first key head: its scale. -/
theorem k0_scale : k0_pay13 s x2 x w b C S (ix2 r 0) = scaleOf (maxMag (turnedRow 0 (by decide) (k0_pay11 s x2) x w b C S r)) :=
  row_scale _ _ _ _ r fun k => k0_row s x2 x w b C S r k

/-- The first key head: its codes. -/
theorem k0_codes : k0_pay16 (k0_pay14 s x2 x w b C S) (127#32) (k0_pay15 (F := Ideal)) (ix2 r l) = codeOf (turnedRow 0 (by decide) (k0_pay11 s x2) x w b C S r l) (scaleOf (maxMag (turnedRow 0 (by decide) (k0_pay11 s x2) x w b C S r))) :=
  row_codes _ _ _ _ r l (fun k => k0_row s x2 x w b C S r k) (k0_scale s x2 x w b C S r)

/-- The first key head: its scale over the lanes. -/
theorem k0_lanes : k0_pay17 (k0_pay13 s x2 x w b C S) (ix3 a r l) = scaleOf (maxMag (turnedRow 0 (by decide) (k0_pay11 s x2) x w b C S r)) :=
  (stack_col _ _ _ _ a r l).trans (k0_scale s x2 x w b C S r)

/-- The second key head: the row quantised. -/
theorem k1_row (k : Fin 128) : k0_pay18 d x w b C S (ix2 r k) = turnedRow 128 (by decide) d x w b C S r k :=
  turned_apply _ _ _ _ _ (bandRow 128 (by decide) d x w b r) r k (fun k => piece_apply _ _ _ _ _ _ _ _ r k _ rfl)

/-- The second key head: its scale. -/
theorem k1_scale : k0_pay22 (k0_pay20 d x w b C S) (k0_pay21 d x w b C S) (FloatOps.ofBits FTy.f32 1065353216#32) (ix2 r 0) = scaleOf (maxMag (turnedRow 128 (by decide) d x w b C S r)) :=
  row_scale _ _ _ _ r fun k => k1_row d x w b C S r k

/-- The second key head: its codes. -/
theorem k1_codes : k0_pay23 (k0_pay18 d x w b C S) (k0_pay20 d x w b C S) (k0_pay21 d x w b C S) (FloatOps.ofBits FTy.f32 1065353216#32) (ix2 r l) = codeOf (turnedRow 128 (by decide) d x w b C S r l) (scaleOf (maxMag (turnedRow 128 (by decide) d x w b C S r))) :=
  row_codes _ _ _ _ r l (fun k => k1_row d x w b C S r k) (k1_scale d x w b C S r)

/-- The second key head: its scale over the lanes. -/
theorem k1_lanes : k0_pay24 (k0_pay20 d x w b C S) (k0_pay21 d x w b C S) (FloatOps.ofBits FTy.f32 1065353216#32) (ix3 a r l) = scaleOf (maxMag (turnedRow 128 (by decide) d x w b C S r)) :=
  (stack_col _ _ _ _ a r l).trans (k1_scale d x w b C S r)

/-- The first value head: the row quantised. -/
theorem v0_row (k : Fin 128) : k0_pay25 d x w b (ix2 r k) = bandRow 256 (by decide) d x w b r k :=
  piece_apply _ _ _ _ _ _ _ _ r k _ rfl

/-- The first value head: its scale. -/
theorem v0_scale : k0_pay26 d x w b (ix2 r 0) = scaleOf (maxMag (bandRow 256 (by decide) d x w b r)) :=
  row_scale _ _ _ _ r fun k => v0_row d x w b r k

/-- The first value head: its codes. -/
theorem v0_codes : k0_pay28 (k0_pay27 d x w b) (ix2 r l) = codeOf (bandRow 256 (by decide) d x w b r l) (scaleOf (maxMag (bandRow 256 (by decide) d x w b r))) :=
  row_codes _ _ _ _ r l (fun k => v0_row d x w b r k) (v0_scale d x w b r)

/-- The first value head: its scale over the lanes. -/
theorem v0_lanes : k0_pay29 (k0_pay26 d x w b) (ix3 a r l) = scaleOf (maxMag (bandRow 256 (by decide) d x w b r)) :=
  (stack_col _ _ _ _ a r l).trans (v0_scale d x w b r)

/-- The second value head: the row quantised. -/
theorem v1_row (k : Fin 128) : k0_pay30 d x w b (ix2 r k) = bandRow 384 (by decide) d x w b r k :=
  piece_apply _ _ _ _ _ _ _ _ r k _ rfl

/-- The second value head: its scale. -/
theorem v1_scale : k0_pay31 d x w b (ix2 r 0) = scaleOf (maxMag (bandRow 384 (by decide) d x w b r)) :=
  row_scale _ _ _ _ r fun k => v1_row d x w b r k

/-- The second value head: its codes. -/
theorem v1_codes : k0_pay4 (k0_pay32 d x w b) (127#32) (k0_pay33 (F := Ideal)) (ix2 r l) = codeOf (bandRow 384 (by decide) d x w b r l) (scaleOf (maxMag (bandRow 384 (by decide) d x w b r))) :=
  row_codes _ _ _ _ r l (fun k => v1_row d x w b r k) (v1_scale d x w b r)

/-- The second value head: its scale over the lanes. -/
theorem v1_lanes : k0_pay5 (k0_pay31 d x w b) (ix3 a r l) = scaleOf (maxMag (bandRow 384 (by decide) d x w b r)) :=
  (stack_col _ _ _ _ a r l).trans (v1_scale d x w b r)

end Cert.QkvIdeal.Blocks
end
-- ==== Proof.QkvBlock.lean ====
/-
  The fused projection: what one grid point leaves in its output blocks, read element by element over the extended reals.
  The first point of a row of blocks (case A) widens the int8 codes into the carried scratch; it and the next five (case B)
  store four rotated query heads; the last (case C) stores the two key heads, rotated and quantised, and the two value
  heads, quantised.
-/
module

public import proofs.«01_k».proof.Proof.QkvIdealFrame
public import proofs.«01_k».proof.Proof.QkvHead

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pointwise Cert.Common

section forms

variable (s : Vec Ideal S1024x6144 .bf16) (x1 : Vec Ideal S1024x128 .f32) (x2 : Vec Ideal S6144x512 .i8)
  (x3 x4 : Vec Ideal S1x512 .f32) (x5 x6 : Vec Ideal S1024x128 .f32)

/-- Head `h` of a block of four, at row `r`. -/
def tileHead (h : Fin 4) (r : Fin 1024) (k : Fin 128) : EReal :=
  tileAt s x1 x2 x3 x4 r (⟨128 * h.val + k.val, by omega⟩ : Fin 512)

/-- The same after the rotary embedding. -/
def turnedHead (h : Fin 4) (r : Fin 1024) : Fin 128 → EReal :=
  turn (tileHead s x1 x2 x3 x4 h r) (fun k => x5 (ix2 r k)) (fun k => x6 (ix2 r k))

/-- A point's block of queries. -/
def qOf : (⟨3, ![4, 1024, 128]⟩ : Shape).Idx → EReal := fun y => turnedHead s x1 x2 x3 x4 x5 x6 (y 0) (y 1) (y 2)

/-- The last point's block of key codes: two heads side by side. -/
def kcOf : (⟨2, ![1024, 256]⟩ : Shape).Idx → BitVec 8 := fun y =>
  have h : (y 1).val < 256 := (y 1).isLt
  codeOf (turnedHead s x1 x2 x3 x4 x5 x6 ⟨(y 1).val / 128, by omega⟩ (y 0) ⟨(y 1).val % 128, by omega⟩)
    (scaleOf (maxMag (turnedHead s x1 x2 x3 x4 x5 x6 ⟨(y 1).val / 128, by omega⟩ (y 0))))

/-- The last point's block of value codes: two heads side by side. -/
def vcOf : (⟨2, ![1024, 256]⟩ : Shape).Idx → BitVec 8 := fun y =>
  have h : (y 1).val < 256 := (y 1).isLt
  codeOf (tileHead s x1 x2 x3 x4 ⟨2 + (y 1).val / 128, by omega⟩ (y 0) ⟨(y 1).val % 128, by omega⟩)
    (scaleOf (maxMag (tileHead s x1 x2 x3 x4 ⟨2 + (y 1).val / 128, by omega⟩ (y 0))))

/-- The last point's block of scales: of the two key heads, then of the two value heads, each over 128 lanes. -/
def scOf : (⟨3, ![4, 1024, 128]⟩ : Shape).Idx → EReal := fun y =>
  if (y 0).val < 2 then scaleOf (maxMag (turnedHead s x1 x2 x3 x4 x5 x6 (y 0) (y 1)))
  else scaleOf (maxMag (tileHead s x1 x2 x3 x4 (y 0) (y 1)))

/-- A band of 128 columns from column `o = 128 h`, with the rows of scales and biases loaded there, is head `h`. -/
theorem band_eq (o : ℕ) (ho : o + 128 ≤ 512) (h : Fin 4) (hh : o = 128 * h.val) (d : FVec Ideal S1024x512 .f32)
    (hd : ∀ (r : Fin 1024) (n : Fin 512), d (ix2 r n) = k0_pay6 s x2 (ix2 r n))
    (inb : ∀ a, (![0, o] : Fin 2 → ℕ) a + (![1, 128] : Fin 2 → ℕ) a ≤ S1x512.size a) (r : Fin 1024) :
    bandRow o ho d x1 (View.ld x3 (Rect.unit ![0, o] ![1, 128] inb)) (View.ld x4 (Rect.unit ![0, o] ![1, 128] inb)) r
      = tileHead s x1 x2 x3 x4 h r := by
  funext k
  subst hh
  have e3 : View.ld x3 (Rect.unit ![0, 128 * h.val] ![1, 128] inb) (ix2 0 k) = x3 (ix2 0 (⟨128 * h.val + k.val, by omega⟩ : Fin 512)) :=
    congrArg x3 (emb_lane inb 0 k)
  have e4 : View.ld x4 (Rect.unit ![0, 128 * h.val] ![1, 128] inb) (ix2 0 k) = x4 (ix2 0 (⟨128 * h.val + k.val, by omega⟩ : Fin 512)) :=
    congrArg x4 (emb_lane inb 0 k)
  unfold bandRow tileHead tileAt
  rw [e3, e4, hd, dot_apply, lane_eq k _ _ (show (128 * h.val + k.val) % 128 = k.val by omega)]

/-- The same after the rotary embedding. -/
theorem turned_eq (o : ℕ) (ho : o + 128 ≤ 512) (h : Fin 4) (hh : o = 128 * h.val) (d : FVec Ideal S1024x512 .f32)
    (hd : ∀ (r : Fin 1024) (n : Fin 512), d (ix2 r n) = k0_pay6 s x2 (ix2 r n))
    (inb : ∀ a, (![0, o] : Fin 2 → ℕ) a + (![1, 128] : Fin 2 → ℕ) a ≤ S1x512.size a) (r : Fin 1024) :
    turnedRow o ho d x1 (View.ld x3 (Rect.unit ![0, o] ![1, 128] inb)) (View.ld x4 (Rect.unit ![0, o] ![1, 128] inb)) x5 x6 r
      = turnedHead s x1 x2 x3 x4 x5 x6 h r := by
  unfold turnedRow turnedHead
  rw [band_eq s x1 x2 x3 x4 o ho h hh d hd inb r]

/-- A key code in the column of head `h`, lane `l`. -/
theorem kcOf_at (h : Fin 4) (r : Fin 1024) (l : Fin 128) (n : Fin 256) (hn : n.val = 128 * h.val + l.val) :
    kcOf s x1 x2 x3 x4 x5 x6 (ix2 r n)
      = codeOf (turnedHead s x1 x2 x3 x4 x5 x6 h r l) (scaleOf (maxMag (turnedHead s x1 x2 x3 x4 x5 x6 h r))) := by
  have e : ∀ (h' : Fin 4) (l' : Fin 128), h' = h → l' = l →
      codeOf (turnedHead s x1 x2 x3 x4 x5 x6 h' r l') (scaleOf (maxMag (turnedHead s x1 x2 x3 x4 x5 x6 h' r)))
        = codeOf (turnedHead s x1 x2 x3 x4 x5 x6 h r l) (scaleOf (maxMag (turnedHead s x1 x2 x3 x4 x5 x6 h r))) := by
    rintro _ _ rfl rfl
    rfl
  exact e _ _ (Fin.ext (by show n.val / 128 = h.val; omega)) (Fin.ext (by show n.val % 128 = l.val; omega))

/-- A value code in the column of value head `h - 2`, lane `l`. -/
theorem vcOf_at (h : Fin 4) (r : Fin 1024) (l : Fin 128) (n : Fin 256) (hn : n.val + 256 = 128 * h.val + l.val) :
    vcOf s x1 x2 x3 x4 (ix2 r n)
      = codeOf (tileHead s x1 x2 x3 x4 h r l) (scaleOf (maxMag (tileHead s x1 x2 x3 x4 h r))) := by
  have e : ∀ (h' : Fin 4) (l' : Fin 128), h' = h → l' = l →
      codeOf (tileHead s x1 x2 x3 x4 h' r l') (scaleOf (maxMag (tileHead s x1 x2 x3 x4 h' r)))
        = codeOf (tileHead s x1 x2 x3 x4 h r l) (scaleOf (maxMag (tileHead s x1 x2 x3 x4 h r))) := by
    rintro _ _ rfl rfl
    rfl
  exact e _ _ (Fin.ext (by show 2 + n.val / 128 = h.val; omega)) (Fin.ext (by show n.val % 128 = l.val; omega))

end forms

/-- Case A: the four stored heads are the block of queries. -/
theorem out7_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) :
    out0_A_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = qOf (k0_pay1 x0) x1 x2 x3 x4 x5 x6 := by
  have hcov := cover0_A_7 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6
  unfold out0_A_7
  rw [View.read_writes_eq_canon _ _ _ hcov]
  funext y
  refine View.canon_apply_of_pieces (qOf (k0_pay1 x0) x1 x2 x3 x4 x5 x6) _ ?_ y (hcov y)
  unfold kernelRun0_A
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  generalize k0_pay1 x0 = s
  intro p hp
  simp only [List.mem_cons, List.not_mem_nil, or_false] at hp
  rcases hp with rfl | rfl | rfl | rfl
  · intro q
    change Shape.Idx ⟨3, ![1, 1024, 128]⟩ at q
    idx_vars q
    rw [emb_stack]
    refine (q3_apply _ x1 _ _ x5 x6 q0 q1 q2).trans (congrFun (turned_eq s x1 x2 x3 x4 x5 x6 384 (by decide) 3 rfl _ (fun _ _ => rfl) _ q1) q2)
  · intro q
    change Shape.Idx ⟨3, ![1, 1024, 128]⟩ at q
    idx_vars q
    rw [emb_stack]
    refine (q2_apply _ x1 _ _ x5 x6 q0 q1 q2).trans (congrFun (turned_eq s x1 x2 x3 x4 x5 x6 256 (by decide) 2 rfl _ (fun _ _ => rfl) _ q1) q2)
  · intro q
    change Shape.Idx ⟨3, ![1, 1024, 128]⟩ at q
    idx_vars q
    rw [emb_stack]
    refine (q1_apply s x2 x1 _ _ x5 x6 q0 q1 q2).trans (congrFun (turned_eq s x1 x2 x3 x4 x5 x6 128 (by decide) 1 rfl _ (fun _ _ => rfl) _ q1) q2)
  · intro q
    change Shape.Idx ⟨3, ![1, 1024, 128]⟩ at q
    idx_vars q
    rw [emb_stack]
    refine (q0_apply s x2 x1 _ _ x5 x6 q0 q1 q2).trans (congrFun (turned_eq s x1 x2 x3 x4 x5 x6 0 (by decide) 0 rfl _ (fun _ _ => rfl) _ q1) q2)

/-- Case B: the four stored heads are the block of queries. -/
theorem out7_B (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : cond0_1 i) (hc2 : ¬cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) (xs0 : Vec Ideal S1024x6144 .bf16) :
    out0_B_7 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0 = qOf (xs0) x1 x2 x3 x4 x5 x6 := by
  have hcov := cover0_B_7 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs0
  unfold out0_B_7
  rw [View.read_writes_eq_canon _ _ _ hcov]
  funext y
  refine View.canon_apply_of_pieces (qOf (xs0) x1 x2 x3 x4 x5 x6) _ ?_ y (hcov y)
  unfold kernelRun0_B
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  intro p hp
  simp only [List.mem_cons, List.not_mem_nil, or_false] at hp
  rcases hp with rfl | rfl | rfl | rfl
  · intro q
    change Shape.Idx ⟨3, ![1, 1024, 128]⟩ at q
    idx_vars q
    rw [emb_stack]
    refine (q3_apply _ x1 _ _ x5 x6 q0 q1 q2).trans (congrFun (turned_eq xs0 x1 x2 x3 x4 x5 x6 384 (by decide) 3 rfl _ (fun _ _ => rfl) _ q1) q2)
  · intro q
    change Shape.Idx ⟨3, ![1, 1024, 128]⟩ at q
    idx_vars q
    rw [emb_stack]
    refine (q2_apply _ x1 _ _ x5 x6 q0 q1 q2).trans (congrFun (turned_eq xs0 x1 x2 x3 x4 x5 x6 256 (by decide) 2 rfl _ (fun _ _ => rfl) _ q1) q2)
  · intro q
    change Shape.Idx ⟨3, ![1, 1024, 128]⟩ at q
    idx_vars q
    rw [emb_stack]
    refine (q1_apply xs0 x2 x1 _ _ x5 x6 q0 q1 q2).trans (congrFun (turned_eq xs0 x1 x2 x3 x4 x5 x6 128 (by decide) 1 rfl _ (fun _ _ => rfl) _ q1) q2)
  · intro q
    change Shape.Idx ⟨3, ![1, 1024, 128]⟩ at q
    idx_vars q
    rw [emb_stack]
    refine (q0_apply xs0 x2 x1 _ _ x5 x6 q0 q1 q2).trans (congrFun (turned_eq xs0 x1 x2 x3 x4 x5 x6 0 (by decide) 0 rfl _ (fun _ _ => rfl) _ q1) q2)

/-- Case C: the two stored heads of key codes. -/
theorem out8_C (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) (xo7 : Vec Ideal S4x1024x128 .bf16) (xs0 : Vec Ideal S1024x6144 .bf16) :
    out0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0 = kcOf xs0 x1 x2 x3 x4 x5 x6 := by
  have hcov := cover0_C_8 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0
  unfold out0_C_8
  rw [View.read_writes_eq_canon _ _ _ hcov]
  funext y
  refine View.canon_apply_of_pieces (kcOf xs0 x1 x2 x3 x4 x5 x6) _ ?_ y (hcov y)
  unfold kernelRun0_C
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  intro p hp
  simp only [List.mem_cons, List.not_mem_nil, or_false] at hp
  rcases hp with rfl | rfl
  · intro q
    change Shape.Idx ⟨2, ![1024, 128]⟩ at q
    idx_vars q
    rw [emb_lane]
    refine (k1_codes _ x1 _ _ x5 x6 q0 q1).trans (Eq.trans ?_ (kcOf_at xs0 x1 x2 x3 x4 x5 x6 1 q0 q1 _ rfl).symm)
    rw [turned_eq xs0 x1 x2 x3 x4 x5 x6 128 (by decide) 1 rfl (k0_pay11 xs0 x2) (fun _ _ => rfl) _ q0]
  · intro q
    change Shape.Idx ⟨2, ![1024, 128]⟩ at q
    idx_vars q
    rw [emb_lane]
    refine (k0_codes xs0 x2 x1 _ _ x5 x6 q0 q1).trans (Eq.trans ?_ (kcOf_at xs0 x1 x2 x3 x4 x5 x6 0 q0 q1 _ rfl).symm)
    rw [turned_eq xs0 x1 x2 x3 x4 x5 x6 0 (by decide) 0 rfl (k0_pay11 xs0 x2) (fun _ _ => rfl) _ q0]

/-- Case C: the two stored heads of value codes. -/
theorem out9_C (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) (xo7 : Vec Ideal S4x1024x128 .bf16) (xs0 : Vec Ideal S1024x6144 .bf16) :
    out0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0 = vcOf xs0 x1 x2 x3 x4 := by
  have hcov := cover0_C_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0
  unfold out0_C_9
  rw [View.read_writes_eq_canon _ _ _ hcov]
  funext y
  refine View.canon_apply_of_pieces (vcOf xs0 x1 x2 x3 x4) _ ?_ y (hcov y)
  unfold kernelRun0_C
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  intro p hp
  simp only [List.mem_cons, List.not_mem_nil, or_false] at hp
  rcases hp with rfl | rfl
  · intro q
    change Shape.Idx ⟨2, ![1024, 128]⟩ at q
    idx_vars q
    rw [emb_lane]
    refine (v1_codes _ x1 _ _ q0 q1).trans (Eq.trans ?_ (vcOf_at xs0 x1 x2 x3 x4 3 q0 q1 _ (by show 128 + q1.val + 256 = 128 * 3 + q1.val; omega)).symm)
    rw [band_eq xs0 x1 x2 x3 x4 384 (by decide) 3 rfl (k0_pay11 xs0 x2) (fun _ _ => rfl) _ q0]
  · intro q
    change Shape.Idx ⟨2, ![1024, 128]⟩ at q
    idx_vars q
    rw [emb_lane]
    refine (v0_codes _ x1 _ _ q0 q1).trans (Eq.trans ?_ (vcOf_at xs0 x1 x2 x3 x4 2 q0 q1 _ (by show 0 + q1.val + 256 = 128 * 2 + q1.val; omega)).symm)
    rw [band_eq xs0 x1 x2 x3 x4 256 (by decide) 2 rfl (k0_pay11 xs0 x2) (fun _ _ => rfl) _ q0]

/-- Case C: the four stored heads of scales. -/
theorem out10_C (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : ¬cond0_0 i) (hc1 : ¬cond0_1 i) (hc2 : cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) (xo7 : Vec Ideal S4x1024x128 .bf16) (xs0 : Vec Ideal S1024x6144 .bf16) :
    out0_C_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0 = scOf xs0 x1 x2 x3 x4 x5 x6 := by
  have hcov := cover0_C_10 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xo7 xs0
  unfold out0_C_10
  rw [View.read_writes_eq_canon _ _ _ hcov]
  funext y
  refine View.canon_apply_of_pieces (scOf xs0 x1 x2 x3 x4 x5 x6) _ ?_ y (hcov y)
  unfold kernelRun0_C
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  intro p hp
  simp only [List.mem_cons, List.not_mem_nil, or_false] at hp
  rcases hp with rfl | rfl | rfl | rfl
  · intro q
    change Shape.Idx ⟨3, ![1, 1024, 128]⟩ at q
    idx_vars q
    rw [emb_stack]
    refine (v1_lanes _ x1 _ _ q0 q1 q2).trans ?_
    rw [band_eq xs0 x1 x2 x3 x4 384 (by decide) 3 rfl (k0_pay11 xs0 x2) (fun _ _ => rfl) _ q1]
    exact (if_neg (show ¬(3 : ℕ) < 2 by decide)).symm
  · intro q
    change Shape.Idx ⟨3, ![1, 1024, 128]⟩ at q
    idx_vars q
    rw [emb_stack]
    refine (v0_lanes _ x1 _ _ q0 q1 q2).trans ?_
    rw [band_eq xs0 x1 x2 x3 x4 256 (by decide) 2 rfl (k0_pay11 xs0 x2) (fun _ _ => rfl) _ q1]
    exact (if_neg (show ¬(2 : ℕ) < 2 by decide)).symm
  · intro q
    change Shape.Idx ⟨3, ![1, 1024, 128]⟩ at q
    idx_vars q
    rw [emb_stack]
    refine (k1_lanes _ x1 _ _ x5 x6 q0 q1 q2).trans ?_
    rw [turned_eq xs0 x1 x2 x3 x4 x5 x6 128 (by decide) 1 rfl (k0_pay11 xs0 x2) (fun _ _ => rfl) _ q1]
    exact (if_pos (show (1 : ℕ) < 2 by decide)).symm
  · intro q
    change Shape.Idx ⟨3, ![1, 1024, 128]⟩ at q
    idx_vars q
    rw [emb_stack]
    refine (k0_lanes xs0 x2 x1 _ _ x5 x6 q0 q1 q2).trans ?_
    rw [turned_eq xs0 x1 x2 x3 x4 x5 x6 0 (by decide) 0 rfl (k0_pay11 xs0 x2) (fun _ _ => rfl) _ q1]
    exact (if_pos (show (0 : ℕ) < 2 by decide)).symm

/-- Case A: the scratch receives the widened codes. -/
theorem scratch_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4x1024x128 .bf16) (harg9 : arg9.IsWhole) (arg10 : Memref sig .tc .vmem S1024x256 .i8) (harg10 : arg10.IsWhole) (arg11 : Memref sig .tc .vmem S1024x256 .i8) (harg11 : arg11.IsWhole) (arg12 : Memref sig .tc .vmem S4x1024x128 .f32) (harg12 : arg12.IsWhole) (arg13 : Memref sig .tc .vmem S1024x6144 .bf16) (harg13 : arg13.IsWhole) (hc0 : cond0_0 i) (hc1 : cond0_1 i) (hc2 : ¬cond0_2 i)
       (x0 : Vec Ideal S1024x6144 .i8) (x1 : Vec Ideal S1024x128 .f32) (x2 : Vec Ideal S6144x512 .i8) (x3 : Vec Ideal S1x512 .f32) (x4 : Vec Ideal S1x512 .f32) (x5 : Vec Ideal S1024x128 .f32) (x6 : Vec Ideal S1024x128 .f32) :
    sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 = k0_pay1 x0 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6)]
  unfold kernelRun0_A
  dsimp only
  sl_unfold_words
  simp only [View.readAt_eq_ld, View.readCov_unit_zero (S := S1024x6144) _ hz, harg2.read_unread, harg3.read_unread, harg4.read_unread, harg5.read_unread, harg6.read_unread, harg7.read_unread, harg8.read_unread, harg13.read_unread,
    View.ld_unit_zero (S := S1024x6144) hz, View.ld_unit_zero (S := S6144x512) hz, View.ld_unit_zero (S := S1024x128) hz]
  exact View.canon_unit_zero hz _ _

/-- The widened codes, element by element. -/
theorem widen_apply (x0 : Vec Ideal S1024x6144 .i8) (r : Fin 1024) (k : Fin 6144) :
    k0_pay1 x0 (ix2 r k) = FloatOps.sitofp (F := Ideal) .bf16 (x0 (ix2 r k)) := by
  pointwise [k0_pay1]

end Cert.QkvIdeal.Blocks
end
-- ==== Proof.QkvForm.lean ====
/-
  The fused projection's results as closed forms of its argument arrays: the query, key and value heads of a quantised
  linear layer, the first two rotated, the last two quantised row by row.
-/
module

public import proofs.«01_k».proof.Proof.Heads
public import proofs.«01_k».proof.Proof.Common

@[expose] public section

noncomputable section

namespace Cert.Common

open Idealize.ShloMosaic Idealize.ShloMosaic.Pointwise

variable (a : Vec Ideal ⟨2, ![16384, 6144]⟩ .i8) (s : Vec Ideal ⟨1, ![16384]⟩ .f32) (w : Vec Ideal ⟨2, ![6144, 3584]⟩ .i8)
  (sw b : Vec Ideal ⟨1, ![3584]⟩ .f32) (co si : (⟨2, ![16384, 64]⟩ : Shape).Idx → EReal)

/-- Row `R` of head `h` of the layer: 24 query heads, then 2 key heads, then 2 value heads. -/
def headAt (h : Fin 28) (R : Fin 16384) (k : Fin 128) : EReal := linAt a s w sw b R (⟨128 * h.val + k.val, by omega⟩ : Fin 3584)

/-- The same row after the rotary embedding with the position's cosines and sines. -/
def ropeAt (h : Fin 28) (R : Fin 16384) : Fin 128 → EReal :=
  rope (headAt a s w sw b h R) (fun k => co (ix2 R k)) (fun k => si (ix2 R k))

/-- The rotated query heads. -/
def queries : (⟨3, ![24, 16384, 128]⟩ : Shape).Idx → EReal := fun i =>
  have h : (i 0).val < 24 := (i 0).isLt
  ropeAt a s w sw b co si ⟨(i 0).val, by omega⟩ (i 1) (i 2)

/-- The codes of the rotated key heads, the two side by side. -/
def keyCodes : (⟨2, ![16384, 256]⟩ : Shape).Idx → BitVec 8 := fun i =>
  have h : (i 1).val < 256 := (i 1).isLt
  codeOf (ropeAt a s w sw b co si ⟨24 + (i 1).val / 128, by omega⟩ (i 0) ⟨(i 1).val % 128, by omega⟩)
    (scaleOf (maxMag (ropeAt a s w sw b co si ⟨24 + (i 1).val / 128, by omega⟩ (i 0))))

/-- The codes of the value heads, the two side by side. -/
def valueCodes : (⟨2, ![16384, 256]⟩ : Shape).Idx → BitVec 8 := fun i =>
  have h : (i 1).val < 256 := (i 1).isLt
  codeOf (headAt a s w sw b ⟨26 + (i 1).val / 128, by omega⟩ (i 0) ⟨(i 1).val % 128, by omega⟩)
    (scaleOf (maxMag (headAt a s w sw b ⟨26 + (i 1).val / 128, by omega⟩ (i 0))))

/-- The scale of each row of each key head. -/
def keyScales : (⟨2, ![16384, 2]⟩ : Shape).Idx → EReal := fun i =>
  have h : (i 1).val < 2 := (i 1).isLt
  scaleOf (maxMag (ropeAt a s w sw b co si ⟨24 + (i 1).val, by omega⟩ (i 0)))

/-- The scale of each row of each value head. -/
def valueScales : (⟨2, ![16384, 2]⟩ : Shape).Idx → EReal := fun i =>
  have h : (i 1).val < 2 := (i 1).isLt
  scaleOf (maxMag (headAt a s w sw b ⟨26 + (i 1).val, by omega⟩ (i 0)))

/-- The scales of the key heads, then of the value heads, each over 128 lanes. -/
def headScales : (⟨3, ![4, 16384, 128]⟩ : Shape).Idx → EReal := fun i =>
  have h : (i 0).val < 4 := (i 0).isLt
  if (i 0).val < 2 then scaleOf (maxMag (ropeAt a s w sw b co si ⟨24 + (i 0).val, by omega⟩ (i 1)))
  else scaleOf (maxMag (headAt a s w sw b ⟨24 + (i 0).val, by omega⟩ (i 1)))

/-- A key code in the column of key head `h - 24`, lane `l`. -/
theorem keyCodes_at (h : Fin 28) (R : Fin 16384) (l : Fin 128) (n : Fin 256) (hn : n.val + 3072 = 128 * h.val + l.val) :
    keyCodes a s w sw b co si (ix2 R n) = codeOf (ropeAt a s w sw b co si h R l) (scaleOf (maxMag (ropeAt a s w sw b co si h R))) := by
  have e : ∀ (h' : Fin 28) (l' : Fin 128), h' = h → l' = l →
      codeOf (ropeAt a s w sw b co si h' R l') (scaleOf (maxMag (ropeAt a s w sw b co si h' R)))
        = codeOf (ropeAt a s w sw b co si h R l) (scaleOf (maxMag (ropeAt a s w sw b co si h R))) := by
    rintro _ _ rfl rfl
    rfl
  exact e _ _ (Fin.ext (by show 24 + n.val / 128 = h.val; omega)) (Fin.ext (by show n.val % 128 = l.val; omega))

/-- A value code in the column of value head `h - 26`, lane `l`. -/
theorem valueCodes_at (h : Fin 28) (R : Fin 16384) (l : Fin 128) (n : Fin 256) (hn : n.val + 3328 = 128 * h.val + l.val) :
    valueCodes a s w sw b (ix2 R n) = codeOf (headAt a s w sw b h R l) (scaleOf (maxMag (headAt a s w sw b h R))) := by
  have e : ∀ (h' : Fin 28) (l' : Fin 128), h' = h → l' = l →
      codeOf (headAt a s w sw b h' R l') (scaleOf (maxMag (headAt a s w sw b h' R)))
        = codeOf (headAt a s w sw b h R l) (scaleOf (maxMag (headAt a s w sw b h R))) := by
    rintro _ _ rfl rfl
    rfl
  exact e _ _ (Fin.ext (by show 26 + n.val / 128 = h.val; omega)) (Fin.ext (by show n.val % 128 = l.val; omega))

end Cert.Common
end
-- ==== Proof.QkvRun.lean ====
/-
  The fused projection: its result arrays after the run, as closed forms of the argument arrays.
-/
module

public import proofs.«01_k».proof.Proof.QkvBlock
public import proofs.«01_k».proof.Proof.QkvForm
public import Idealize.ShloMosaic.Lib.ValueLayout
public import Idealize.ShloMosaic.Lib.Claim

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages at point `t` of the 16 by 7 grid -/

theorem idx0 : ∀ t : Fin cfg0.N, win0_0.index t = ![t.val / 7, 0] := (by decide +kernel : ∀ t : Fin grid0.N, _)
theorem idx1 : ∀ t : Fin cfg0.N, win0_1.index t = ![t.val / 7, 0] := (by decide +kernel : ∀ t : Fin grid0.N, _)
theorem idx2 : ∀ t : Fin cfg0.N, win0_2.index t = ![0, t.val % 7] := (by decide +kernel : ∀ t : Fin grid0.N, _)
theorem idx3 : ∀ t : Fin cfg0.N, win0_3.index t = ![0, t.val % 7] := (by decide +kernel : ∀ t : Fin grid0.N, _)
theorem idx4 : ∀ t : Fin cfg0.N, win0_4.index t = ![0, t.val % 7] := (by decide +kernel : ∀ t : Fin grid0.N, _)
theorem idx5 : ∀ t : Fin cfg0.N, win0_5.index t = ![t.val / 7, 0] := (by decide +kernel : ∀ t : Fin grid0.N, _)
theorem idx6 : ∀ t : Fin cfg0.N, win0_6.index t = ![t.val / 7, 0] := (by decide +kernel : ∀ t : Fin grid0.N, _)
theorem idx7 : ∀ t : Fin cfg0.N, win0_7.index t = ![min (t.val % 7) 5, t.val / 7, 0] := (by decide +kernel : ∀ t : Fin grid0.N, _)
theorem idx8 : ∀ t : Fin cfg0.N, win0_8.index t = ![t.val / 7, 0] := (by decide +kernel : ∀ t : Fin grid0.N, _)
theorem idx9 : ∀ t : Fin cfg0.N, win0_9.index t = ![t.val / 7, 0] := (by decide +kernel : ∀ t : Fin grid0.N, _)
theorem idx10 : ∀ t : Fin cfg0.N, win0_10.index t = ![0, t.val / 7, 0] := (by decide +kernel : ∀ t : Fin grid0.N, _)

/-! ## Each input block, element by element, in the argument arrays -/

theorem iblk0 (c : Dev nD) (t : Fin cfg0.N) (r : Fin 1024) (k : Fin 6144) (R : Fin 16384) (hR : R.val = 1024 * (t.val / 7) + r.val) :
    iblk m c 0 t (ix2 r k) = (m ((c : Thread nD τ).loc main_arg0)) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 1024 + 1 * r.val = R.val; rw [e]; show t.val / 7 * 1024 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h]
  rw [V_main_arg0]

theorem iblk1 (c : Dev nD) (t : Fin cfg0.N) (r : Fin 1024) (k : Fin 128) (R : Fin 16384) (hR : R.val = 1024 * (t.val / 7) + r.val) :
    iblk m c 1 t (ix2 r k) = (m ((c : Thread nD τ).loc main_arg1)) (ix1 R) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 1024 + 1 * r.val = R.val; rw [e]; show t.val / 7 * 1024 + 1 * r.val = R.val; omega
    | ⟨1, _⟩ => show win0_1.index t (1 : Fin 2) * 128 + 1 * k.val = k.val; rw [e]; show 0 * 128 + 1 * k.val = k.val; omega
  show V m c main_v4 (((cfg0.win 1).blk t).view.emb (ix2 r k)) = _
  rw [h]
  change StableHlo.after hostOps0 _ (Proc.devRef .tc main_v4) (ix2 R k) = _
  entry_read
  pointwise

theorem iblk2 (c : Dev nD) (t : Fin cfg0.N) (r : Fin 6144) (k : Fin 512) (C : Fin 3584) (hC : C.val = 512 * (t.val % 7) + k.val) :
    iblk m c 2 t (ix2 r k) = (m ((c : Thread nD τ).loc main_arg2)) (ix2 r C) := by
  have e := idx2 t
  have h : ((cfg0.win 2).blk t).view.emb (ix2 r k) = (ix2 r C : (⟨2, ![6144, 3584]⟩ : Shape).Idx) := by
    funext a
    apply Fin.ext
    match a with
    | ⟨0, _⟩ => show win0_2.index t (0 : Fin 2) * 6144 + 1 * r.val = r.val; rw [e]; show 0 * 6144 + 1 * r.val = r.val; omega
    | ⟨1, _⟩ => show win0_2.index t (1 : Fin 2) * 512 + 1 * k.val = C.val; rw [e]; show t.val % 7 * 512 + 1 * k.val = C.val; omega
  show V m c main_arg2 (((cfg0.win 2).blk t).view.emb (ix2 r k)) = _
  rw [h]
  rw [V_main_arg2]

theorem iblk3 (c : Dev nD) (t : Fin cfg0.N) (r : Fin 1) (k : Fin 512) (C : Fin 3584) (hC : C.val = 512 * (t.val % 7) + k.val) :
    iblk m c 3 t (ix2 r k) = (m ((c : Thread nD τ).loc main_arg3)) (ix1 C) := by
  have e := idx3 t
  have h : ((cfg0.win 3).blk t).view.emb (ix2 r k) = (ix2 r C : (⟨2, ![1, 3584]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 512 + 1 * k.val = C.val; rw [e]; show t.val % 7 * 512 + 1 * k.val = C.val; omega
  show V m c main_v5 (((cfg0.win 3).blk t).view.emb (ix2 r k)) = _
  rw [h]
  change StableHlo.after hostOps0 _ (Proc.devRef .tc main_v5) (ix2 r C) = _
  entry_read
  pointwise

theorem iblk4 (c : Dev nD) (t : Fin cfg0.N) (r : Fin 1) (k : Fin 512) (C : Fin 3584) (hC : C.val = 512 * (t.val % 7) + k.val) :
    iblk m c 4 t (ix2 r k) = (m ((c : Thread nD τ).loc main_arg4)) (ix1 C) := by
  have e := idx4 t
  have h : ((cfg0.win 4).blk t).view.emb (ix2 r k) = (ix2 r C : (⟨2, ![1, 3584]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 512 + 1 * k.val = C.val; rw [e]; show t.val % 7 * 512 + 1 * k.val = C.val; omega
  show V m c main_v6 (((cfg0.win 4).blk t).view.emb (ix2 r k)) = _
  rw [h]
  change StableHlo.after hostOps0 _ (Proc.devRef .tc main_v6) (ix2 r C) = _
  entry_read
  pointwise

theorem iblk5 (c : Dev nD) (t : Fin cfg0.N) (r : Fin 1024) (k : Fin 128) (R : Fin 16384) (hR : R.val = 1024 * (t.val / 7) + r.val) :
    iblk m c 5 t (ix2 r k) = twice (fun j => ((m ((c : Thread nD τ).loc main_arg5)) : (⟨2, ![16384, 64]⟩ : Shape).Idx → EReal) (ix2 R j)) k := by
  have e := idx5 t
  have h : ((cfg0.win 5).blk t).view.emb (ix2 r k) = (ix2 R k : (⟨2, ![16384, 128]⟩ : Shape).Idx) := by
    funext a
    apply Fin.ext
    match a with
    | ⟨0, _⟩ => show win0_5.index t (0 : Fin 2) * 1024 + 1 * r.val = R.val; rw [e]; show t.val / 7 * 1024 + 1 * r.val = R.val; omega
    | ⟨1, _⟩ => show win0_5.index t (1 : Fin 2) * 128 + 1 * k.val = k.val; rw [e]; show 0 * 128 + 1 * k.val = k.val; omega
  show V m c main_v0 (((cfg0.win 5).blk t).view.emb (ix2 r k)) = _
  rw [h]
  change StableHlo.after hostOps0 _ (Proc.devRef .tc main_v0) (ix2 R k) = _
  entry_read
  exact halves_apply _ _ _ R k

theorem iblk6 (c : Dev nD) (t : Fin cfg0.N) (r : Fin 1024) (k : Fin 128) (R : Fin 16384) (hR : R.val = 1024 * (t.val / 7) + r.val) :
    iblk m c 6 t (ix2 r k) = signed (fun j => ((m ((c : Thread nD τ).loc main_arg6)) : (⟨2, ![16384, 64]⟩ : Shape).Idx → EReal) (ix2 R j)) k := by
  have e := idx6 t
  have h : ((cfg0.win 6).blk t).view.emb (ix2 r k) = (ix2 R k : (⟨2, ![16384, 128]⟩ : Shape).Idx) := by
    funext a
    apply Fin.ext
    match a with
    | ⟨0, _⟩ => show win0_6.index t (0 : Fin 2) * 1024 + 1 * r.val = R.val; rw [e]; show t.val / 7 * 1024 + 1 * r.val = R.val; omega
    | ⟨1, _⟩ => show win0_6.index t (1 : Fin 2) * 128 + 1 * k.val = k.val; rw [e]; show 0 * 128 + 1 * k.val = k.val; omega
  show V m c main_v2 (((cfg0.win 6).blk t).view.emb (ix2 r k)) = _
  rw [h]
  change StableHlo.after hostOps0 _ (Proc.devRef .tc main_v2) (ix2 R k) = _
  entry_read
  exact halves_apply _ _ _ R k

/-! ## What each point leaves -/

/-- The codes of a row of blocks are staged alike at all its points. -/
theorem iblk0_row (c : Dev nD) (t t' : Fin cfg0.N) (h : t.val / 7 = t'.val / 7) : iblk m c 0 t = iblk m c 0 t' := by
  have ht : t.val < 112 := Nat.lt_of_lt_of_eq t.isLt N_0
  funext y
  change Shape.Idx ⟨2, ![1024, 6144]⟩ at y
  idx_vars y
  have hlt : 1024 * (t.val / 7) + y0.val < 16384 := by omega
  exact (iblk0 m c t y0 y1 ⟨1024 * (t.val / 7) + y0.val, hlt⟩ rfl).trans
    (iblk0 m c t' y0 y1 ⟨1024 * (t.val / 7) + y0.val, hlt⟩ (congrArg (fun q => 1024 * q + y0.val) h)).symm

/-- The carried scratch holds the widened codes of the point's row of blocks. -/
theorem scratch_eq (c : Dev nD) : ∀ (n : ℕ) (t : Fin cfg0.N), t.val = n → (outsAt0 m c t.val t.isLt).2.2.2.2 = k0_pay1 (iblk m c 0 t) := by
  intro n
  induction n with
  | zero =>
    intro t e
    rw [outsAt0_A m c t (by omega) (by omega) (by omega)]
    dsimp only
    rw [scratch_A]
  | succ n ih =>
    intro t e
    by_cases h0 : t.val % 7 = 0
    · rw [outsAt0_A m c t h0 (by omega) (by omega)]
      dsimp only
      rw [scratch_A]
    · have hp : t.val - 1 < cfg0.N := Nat.lt_of_le_of_lt (Nat.sub_le _ _) t.isLt
      have hs : (outsAt0 m c (t.val - 1) hp).2.2.2.2 = k0_pay1 (iblk m c 0 t) :=
        (ih ⟨t.val - 1, hp⟩ (by show t.val - 1 = n; omega)).trans
          (congrArg k0_pay1 (iblk0_row m c ⟨t.val - 1, hp⟩ t (by show (t.val - 1) / 7 = t.val / 7; omega)))
      by_cases h2 : t.val % 7 = 6
      · rw [outsAt0_C m c t h0 (by omega) h2]
        dsimp only [sout0_C_0]
        exact hs
      · rw [outsAt0_B m c t h0 (by omega) h2]
        dsimp only [sout0_B_0]
        exact hs

/-- … so it is already there when a later point of the row starts. -/
theorem scratch_prev (c : Dev nD) (t : Fin cfg0.N) (h0 : ¬t.val % 7 = 0) (hp : t.val - 1 < cfg0.N) :
    (outsAt0 m c (t.val - 1) hp).2.2.2.2 = k0_pay1 (iblk m c 0 t) :=
  (scratch_eq m c _ ⟨t.val - 1, hp⟩ rfl).trans
    (congrArg k0_pay1 (iblk0_row m c ⟨t.val - 1, hp⟩ t (by show (t.val - 1) / 7 = t.val / 7; omega)))

/-- The block of queries after a point that stores one. -/
theorem q_eq (c : Dev nD) (t : Fin cfg0.N) (h1 : t.val % 7 ≤ 5) :
    (outsAt0 m c t.val t.isLt).1 = qOf (k0_pay1 (iblk m c 0 t)) (iblk m c 1 t) (iblk m c 2 t) (iblk m c 3 t) (iblk m c 4 t) (iblk m c 5 t) (iblk m c 6 t) := by
  by_cases h0 : t.val % 7 = 0
  · rw [outsAt0_A m c t h0 h1 (by omega)]
    dsimp only
    rw [out7_A]
  · have hp : t.val - 1 < cfg0.N := Nat.lt_of_le_of_lt (Nat.sub_le _ _) t.isLt
    have hs := scratch_prev m c t h0 hp
    rw [outsAt0_B m c t h0 h1 (by omega)]
    dsimp only
    rw [out7_B, hs]

/-- The last point of a row leaves the block of queries as it found it. -/
theorem q_keep (c : Dev nD) (t : Fin cfg0.N) (h2 : t.val % 7 = 6) (hp : t.val - 1 < cfg0.N) :
    (outsAt0 m c t.val t.isLt).1 = (outsAt0 m c (t.val - 1) hp).1 := by
  rw [outsAt0_C m c t (by omega) (by omega) h2]
  dsimp only [out0_C_7]

/-- The block of key codes after the last point of a row. -/
theorem kc_eq (c : Dev nD) (t : Fin cfg0.N) (h2 : t.val % 7 = 6) :
    (outsAt0 m c t.val t.isLt).2.1 = kcOf (k0_pay1 (iblk m c 0 t)) (iblk m c 1 t) (iblk m c 2 t) (iblk m c 3 t) (iblk m c 4 t) (iblk m c 5 t) (iblk m c 6 t) := by
  have hp : t.val - 1 < cfg0.N := Nat.lt_of_le_of_lt (Nat.sub_le _ _) t.isLt
  have hs := scratch_prev m c t (by omega) hp
  rw [outsAt0_C m c t (by omega) (by omega) h2]
  dsimp only
  rw [out8_C, hs]

/-- The block of value codes after the last point of a row. -/
theorem vc_eq (c : Dev nD) (t : Fin cfg0.N) (h2 : t.val % 7 = 6) :
    (outsAt0 m c t.val t.isLt).2.2.1 = vcOf (k0_pay1 (iblk m c 0 t)) (iblk m c 1 t) (iblk m c 2 t) (iblk m c 3 t) (iblk m c 4 t) := by
  have hp : t.val - 1 < cfg0.N := Nat.lt_of_le_of_lt (Nat.sub_le _ _) t.isLt
  have hs := scratch_prev m c t (by omega) hp
  rw [outsAt0_C m c t (by omega) (by omega) h2]
  dsimp only
  rw [out9_C, hs]

/-- The block of scales after the last point of a row. -/
theorem sc_eq (c : Dev nD) (t : Fin cfg0.N) (h2 : t.val % 7 = 6) :
    (outsAt0 m c t.val t.isLt).2.2.2.1 = scOf (k0_pay1 (iblk m c 0 t)) (iblk m c 1 t) (iblk m c 2 t) (iblk m c 3 t) (iblk m c 4 t) (iblk m c 5 t) (iblk m c 6 t) := by
  have hp : t.val - 1 < cfg0.N := Nat.lt_of_le_of_lt (Nat.sub_le _ _) t.isLt
  have hs := scratch_prev m c t (by omega) hp
  rw [outsAt0_C m c t (by omega) (by omega) h2]
  dsimp only
  rw [out10_C, hs]

/-- Head `h` of a point's tile is the layer's head `4 j + h`, with `j` the point's column of blocks. -/
theorem head_eq (c : Dev nD) (t : Fin cfg0.N) (h : Fin 4) (r : Fin 1024) (H : Fin 28) (R : Fin 16384)
    (hH : H.val = 4 * (t.val % 7) + h.val) (hR : R.val = 1024 * (t.val / 7) + r.val) :
    tileHead (k0_pay1 (iblk m c 0 t)) (iblk m c 1 t) (iblk m c 2 t) (iblk m c 3 t) (iblk m c 4 t) h r = headAt (m ((c : Thread nD τ).loc main_arg0)) (m ((c : Thread nD τ).loc main_arg1)) (m ((c : Thread nD τ).loc main_arg2)) (m ((c : Thread nD τ).loc main_arg3)) (m ((c : Thread nD τ).loc main_arg4)) H R := by
  funext k
  have hC : (⟨128 * H.val + k.val, by omega⟩ : Fin 3584).val = 512 * (t.val % 7) + (⟨128 * h.val + k.val, by omega⟩ : Fin 512).val := by
    show 128 * H.val + k.val = 512 * (t.val % 7) + (128 * h.val + k.val)
    omega
  exact tile_eq_lin
    (fun j => (widen_apply _ r j).trans (congrArg _ (iblk0 m c t r j R hR)))
    (iblk1 m c t r _ R hR) (fun j => iblk2 m c t j _ _ hC) (iblk3 m c t 0 _ _ hC) (iblk4 m c t 0 _ _ hC)

/-- The same after the rotary embedding. -/
theorem turned_head_eq (c : Dev nD) (t : Fin cfg0.N) (h : Fin 4) (r : Fin 1024) (H : Fin 28) (R : Fin 16384)
    (hH : H.val = 4 * (t.val % 7) + h.val) (hR : R.val = 1024 * (t.val / 7) + r.val) :
    turnedHead (k0_pay1 (iblk m c 0 t)) (iblk m c 1 t) (iblk m c 2 t) (iblk m c 3 t) (iblk m c 4 t) (iblk m c 5 t) (iblk m c 6 t) h r = ropeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) H R := by
  unfold turnedHead ropeAt
  rw [head_eq m c t h r H R hH hR, show (fun k => iblk m c 5 t (ix2 r k)) = _ from funext fun k => iblk5 m c t r k R hR,
    show (fun k => iblk m c 6 t (ix2 r k)) = _ from funext fun k => iblk6 m c t r k R hR]
  exact turn_eq_rope _ _ _

/-- A point's block of queries, in the array. -/
theorem q_at (c : Dev nD) (t : Fin cfg0.N) (h1 : t.val % 7 ≤ 5) (a : Fin 4) (r : Fin 1024) (l : Fin 128) (H : Fin 24) (R : Fin 16384)
    (hH : H.val = 4 * (t.val % 7) + a.val) (hR : R.val = 1024 * (t.val / 7) + r.val) :
    (outsAt0 m c t.val t.isLt).1 (ix3 a r l) = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 H R l) := by
  rw [q_eq m c t h1]
  exact congrFun (turned_head_eq m c t a r ⟨H.val, by omega⟩ R hH hR) l

/-- What point `t` leaves in the block of queries it stages, in the array. -/
theorem q_all (c : Dev nD) (t : Fin cfg0.N) (a : Fin 4) (r : Fin 1024) (l : Fin 128) (H : Fin 24) (R : Fin 16384)
    (hH : H.val = 4 * min (t.val % 7) 5 + a.val) (hR : R.val = 1024 * (t.val / 7) + r.val) :
    (outsAt0 m c t.val t.isLt).1 (ix3 a r l) = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 H R l) := by
  by_cases h1 : t.val % 7 ≤ 5
  · exact q_at m c t h1 a r l H R (by omega) hR
  · have hp : t.val - 1 < cfg0.N := Nat.lt_of_le_of_lt (Nat.sub_le _ _) t.isLt
    rw [q_keep m c t (by omega) hp]
    exact q_at m c ⟨t.val - 1, hp⟩ (by show (t.val - 1) % 7 ≤ 5; omega) a r l H R
      (by show H.val = 4 * ((t.val - 1) % 7) + a.val; omega) (by show R.val = 1024 * ((t.val - 1) / 7) + r.val; omega)

/-! ## The result arrays after the run -/

/-- What point `t` writes back of the queries. -/
theorem flushed_q (c : Dev nD) (t : Fin cfg0.N) :
    (dats m 0 c).flushed 7 t = ((cfg0.win 7).blk t).view.read (Elt Ideal) (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have ht : t.val < 112 := Nat.lt_of_lt_of_eq t.isLt N_0
  show (cfg0.win 7).cut (grid0.coords t) ((dats m 0 c).after 7 t) = _
  rw [after0_7]
  funext y
  change Shape.Idx ⟨3, ![4, 1024, 128]⟩ at y
  idx_vars y
  have hR : 1024 * (t.val / 7) + y1.val < 16384 := by omega
  have hH : 4 * min (t.val % 7) 5 + y0.val < 24 := by omega
  have e := idx7 t
  have h : ((cfg0.win 7).blk t).view.emb (ix3 y0 y1 y2) = (ix3 (⟨4 * min (t.val % 7) 5 + y0.val, hH⟩ : Fin 24) (⟨1024 * (t.val / 7) + y1.val, hR⟩ : Fin 16384) y2 : (⟨3, ![24, 16384, 128]⟩ : Shape).Idx) := by
    funext a
    apply Fin.ext
    match a with
    | ⟨0, _⟩ => show win0_7.index t (0 : Fin 3) * 4 + 1 * y0.val = _; rw [e]; show min (t.val % 7) 5 * 4 + 1 * y0.val = 4 * min (t.val % 7) 5 + y0.val; omega
    | ⟨1, _⟩ => show win0_7.index t (1 : Fin 3) * 1024 + 1 * y1.val = _; rw [e]; show t.val / 7 * 1024 + 1 * y1.val = 1024 * (t.val / 7) + y1.val; omega
    | ⟨2, _⟩ => show win0_7.index t (2 : Fin 3) * 128 + 1 * y2.val = y2.val; rw [e]; show 0 * 128 + 1 * y2.val = y2.val; omega
  refine (q_all m c t y0 y1 y2 ⟨4 * min (t.val % 7) 5 + y0.val, hH⟩ ⟨1024 * (t.val / 7) + y1.val, hR⟩ rfl rfl).trans ?_
  exact congrArg (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) h.symm

theorem flush7 : ∀ t : Fin cfg0.N, t.val % 7 ≠ 5 → (cfg0.win 7).flush t = true := (by decide +kernel : ∀ t : Fin grid0.N, t.val % 7 ≠ 5 → (cfg0.win 7).flush t = true)

/-- The array of queries after the run: head `h` comes from the point of its row whose column of blocks is `h / 4`, written
    back there or, for the last of them, at the point after. -/
theorem final_q (c : Dev nD) : (dats m 0 c).arrAt 7 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_q m c t) (fun i => by
    change Shape.Idx ⟨3, ![24, 16384, 128]⟩ at i
    have h0 : (i 0).val < 24 := (i 0).isLt
    have h1 : (i 1).val < 16384 := (i 1).isLt
    obtain ⟨j, hj7, hj, hj5⟩ : ∃ j : ℕ, j < 7 ∧ min j 5 = (i 0).val / 4 ∧ j ≠ 5 := by
      by_cases h : (i 0).val / 4 < 5
      · exact ⟨(i 0).val / 4, by omega, by omega, by omega⟩
      · exact ⟨6, by omega, by omega, by omega⟩
    have hN : 7 * ((i 1).val / 1024) + j < cfg0.N := Nat.lt_of_lt_of_eq (by omega : 7 * ((i 1).val / 1024) + j < 112) N_0.symm
    have e := idx7 ⟨7 * ((i 1).val / 1024) + j, hN⟩
    refine ⟨⟨7 * ((i 1).val / 1024) + j, hN⟩, flush7 _ (by show (7 * ((i 1).val / 1024) + j) % 7 ≠ 5; omega), ?_⟩
    have hm := View.emb_mem_set ((cfg0.win 7).blk ⟨7 * ((i 1).val / 1024) + j, hN⟩).view (ix3 (⟨(i 0).val % 4, Nat.mod_lt _ (by decide)⟩ : Fin 4) (⟨(i 1).val % 1024, Nat.mod_lt _ (by decide)⟩ : Fin 1024) (i 2) : (⟨3, ![4, 1024, 128]⟩ : Shape).Idx)
    have h : ((cfg0.win 7).blk ⟨7 * ((i 1).val / 1024) + j, hN⟩).view.emb (ix3 (⟨(i 0).val % 4, Nat.mod_lt _ (by decide)⟩ : Fin 4) (⟨(i 1).val % 1024, Nat.mod_lt _ (by decide)⟩ : Fin 1024) (i 2) : (⟨3, ![4, 1024, 128]⟩ : Shape).Idx) = i := by
      funext a
      apply Fin.ext
      match a with
      | ⟨0, _⟩ => show win0_7.index ⟨7 * ((i 1).val / 1024) + j, hN⟩ (0 : Fin 3) * 4 + 1 * ((i 0).val % 4) = (i 0).val; rw [e]; show min ((7 * ((i 1).val / 1024) + j) % 7) 5 * 4 + 1 * ((i 0).val % 4) = (i 0).val; omega
      | ⟨1, _⟩ => show win0_7.index ⟨7 * ((i 1).val / 1024) + j, hN⟩ (1 : Fin 3) * 1024 + 1 * ((i 1).val % 1024) = (i 1).val; rw [e]; show (7 * ((i 1).val / 1024) + j) / 7 * 1024 + 1 * ((i 1).val % 1024) = (i 1).val; omega
      | ⟨2, _⟩ => show win0_7.index ⟨7 * ((i 1).val / 1024) + j, hN⟩ (2 : Fin 3) * 128 + 1 * (i 2).val = (i 2).val; rw [e]; show 0 * 128 + 1 * (i 2).val = (i 2).val; omega
    rw [h] at hm
    exact hm)

/-- What the last point of a row writes back of the key codes. -/
theorem flushed_kc (c : Dev nD) (t : Fin cfg0.N) (h2 : t.val % 7 = 6) :
    (dats m 0 c).flushed 8 t = ((cfg0.win 8).blk t).view.read (Elt Ideal) (keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have ht : t.val < 112 := Nat.lt_of_lt_of_eq t.isLt N_0
  show (cfg0.win 8).cut (grid0.coords t) ((dats m 0 c).after 8 t) = _
  rw [after0_8, kc_eq m c t h2]
  funext y
  change Shape.Idx ⟨2, ![1024, 256]⟩ at y
  idx_vars y
  have hR : 1024 * (t.val / 7) + y0.val < 16384 := by omega
  have e := idx8 t
  have h : ((cfg0.win 8).blk t).view.emb (ix2 y0 y1) = (ix2 (⟨1024 * (t.val / 7) + y0.val, hR⟩ : Fin 16384) y1 : (⟨2, ![16384, 256]⟩ : Shape).Idx) := by
    funext a
    apply Fin.ext
    match a with
    | ⟨0, _⟩ => show win0_8.index t (0 : Fin 2) * 1024 + 1 * y0.val = _; rw [e]; show t.val / 7 * 1024 + 1 * y0.val = 1024 * (t.val / 7) + y0.val; omega
    | ⟨1, _⟩ => show win0_8.index t (1 : Fin 2) * 256 + 1 * y1.val = y1.val; rw [e]; show 0 * 256 + 1 * y1.val = y1.val; omega
  refine (kcOf_at (k0_pay1 (iblk m c 0 t)) (iblk m c 1 t) (iblk m c 2 t) (iblk m c 3 t) (iblk m c 4 t) (iblk m c 5 t) (iblk m c 6 t) ⟨0 + y1.val / 128, by omega⟩ y0 ⟨y1.val % 128, by omega⟩ y1 (by show y1.val = 128 * (0 + y1.val / 128) + y1.val % 128; omega)).trans ?_
  refine Eq.trans ?_ (congrArg (keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) h.symm)
  refine Eq.trans ?_ (keyCodes_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨24 + y1.val / 128, by omega⟩ _ ⟨y1.val % 128, by omega⟩ y1 (by show y1.val + 3072 = 128 * (24 + y1.val / 128) + y1.val % 128; omega)).symm
  rw [turned_head_eq m c t ⟨0 + y1.val / 128, by omega⟩ y0 ⟨24 + y1.val / 128, by omega⟩ ⟨1024 * (t.val / 7) + y0.val, hR⟩
    (by show 24 + y1.val / 128 = 4 * (t.val % 7) + (0 + y1.val / 128); omega) rfl]

/-- The array of key codes after the run. -/
theorem final_kc (c : Dev nD) : (dats m 0 c).arrAt 8 cfg0.N = keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t ht => flushed_kc m c t ((flush0_8 t).mp ht)) (fun i => by
    change Shape.Idx ⟨2, ![16384, 256]⟩ at i
    have h0 : (i 0).val < 16384 := (i 0).isLt
    have hN : 7 * ((i 0).val / 1024) + 6 < cfg0.N := Nat.lt_of_lt_of_eq (by omega : 7 * ((i 0).val / 1024) + 6 < 112) N_0.symm
    have e := idx8 ⟨7 * ((i 0).val / 1024) + 6, hN⟩
    refine ⟨⟨7 * ((i 0).val / 1024) + 6, hN⟩, (flush0_8 _).mpr (by show (7 * ((i 0).val / 1024) + 6) % 7 = 6; omega), ?_⟩
    have hm := View.emb_mem_set ((cfg0.win 8).blk ⟨7 * ((i 0).val / 1024) + 6, hN⟩).view (ix2 (⟨(i 0).val % 1024, Nat.mod_lt _ (by decide)⟩ : Fin 1024) (i 1) : (⟨2, ![1024, 256]⟩ : Shape).Idx)
    have h : ((cfg0.win 8).blk ⟨7 * ((i 0).val / 1024) + 6, hN⟩).view.emb (ix2 (⟨(i 0).val % 1024, Nat.mod_lt _ (by decide)⟩ : Fin 1024) (i 1) : (⟨2, ![1024, 256]⟩ : Shape).Idx) = i := by
      funext a
      apply Fin.ext
      match a with
      | ⟨0, _⟩ => show win0_8.index ⟨7 * ((i 0).val / 1024) + 6, hN⟩ (0 : Fin 2) * 1024 + 1 * ((i 0).val % 1024) = (i 0).val; rw [e]; show (7 * ((i 0).val / 1024) + 6) / 7 * 1024 + 1 * ((i 0).val % 1024) = (i 0).val; omega
      | ⟨1, _⟩ => show win0_8.index ⟨7 * ((i 0).val / 1024) + 6, hN⟩ (1 : Fin 2) * 256 + 1 * (i 1).val = (i 1).val; rw [e]; show 0 * 256 + 1 * (i 1).val = (i 1).val; omega
    rw [h] at hm
    exact hm)

/-- What the last point of a row writes back of the value codes. -/
theorem flushed_vc (c : Dev nD) (t : Fin cfg0.N) (h2 : t.val % 7 = 6) :
    (dats m 0 c).flushed 9 t = ((cfg0.win 9).blk t).view.read (Elt Ideal) (valueCodes (m ((c : Thread nD τ).loc main_arg0)) (m ((c : Thread nD τ).loc main_arg1)) (m ((c : Thread nD τ).loc main_arg2)) (m ((c : Thread nD τ).loc main_arg3)) (m ((c : Thread nD τ).loc main_arg4))) := by
  have ht : t.val < 112 := Nat.lt_of_lt_of_eq t.isLt N_0
  show (cfg0.win 9).cut (grid0.coords t) ((dats m 0 c).after 9 t) = _
  rw [after0_9, vc_eq m c t h2]
  funext y
  change Shape.Idx ⟨2, ![1024, 256]⟩ at y
  idx_vars y
  have hR : 1024 * (t.val / 7) + y0.val < 16384 := by omega
  have e := idx9 t
  have h : ((cfg0.win 9).blk t).view.emb (ix2 y0 y1) = (ix2 (⟨1024 * (t.val / 7) + y0.val, hR⟩ : Fin 16384) y1 : (⟨2, ![16384, 256]⟩ : Shape).Idx) := by
    funext a
    apply Fin.ext
    match a with
    | ⟨0, _⟩ => show win0_9.index t (0 : Fin 2) * 1024 + 1 * y0.val = _; rw [e]; show t.val / 7 * 1024 + 1 * y0.val = 1024 * (t.val / 7) + y0.val; omega
    | ⟨1, _⟩ => show win0_9.index t (1 : Fin 2) * 256 + 1 * y1.val = y1.val; rw [e]; show 0 * 256 + 1 * y1.val = y1.val; omega
  refine (vcOf_at (k0_pay1 (iblk m c 0 t)) (iblk m c 1 t) (iblk m c 2 t) (iblk m c 3 t) (iblk m c 4 t) ⟨2 + y1.val / 128, by omega⟩ y0 ⟨y1.val % 128, by omega⟩ y1 (by show y1.val + 256 = 128 * (2 + y1.val / 128) + y1.val % 128; omega)).trans ?_
  refine Eq.trans ?_ (congrArg (valueCodes (m ((c : Thread nD τ).loc main_arg0)) (m ((c : Thread nD τ).loc main_arg1)) (m ((c : Thread nD τ).loc main_arg2)) (m ((c : Thread nD τ).loc main_arg3)) (m ((c : Thread nD τ).loc main_arg4))) h.symm)
  refine Eq.trans ?_ (valueCodes_at (m ((c : Thread nD τ).loc main_arg0)) (m ((c : Thread nD τ).loc main_arg1)) (m ((c : Thread nD τ).loc main_arg2)) (m ((c : Thread nD τ).loc main_arg3)) (m ((c : Thread nD τ).loc main_arg4)) ⟨26 + y1.val / 128, by omega⟩ _ ⟨y1.val % 128, by omega⟩ y1 (by show y1.val + 3328 = 128 * (26 + y1.val / 128) + y1.val % 128; omega)).symm
  rw [head_eq m c t ⟨2 + y1.val / 128, by omega⟩ y0 ⟨26 + y1.val / 128, by omega⟩ ⟨1024 * (t.val / 7) + y0.val, hR⟩
    (by show 26 + y1.val / 128 = 4 * (t.val % 7) + (2 + y1.val / 128); omega) rfl]

/-- The array of value codes after the run. -/
theorem final_vc (c : Dev nD) : (dats m 0 c).arrAt 9 cfg0.N = valueCodes (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 9 _ (fun t ht => flushed_vc m c t ((flush0_9 t).mp ht)) (fun i => by
    change Shape.Idx ⟨2, ![16384, 256]⟩ at i
    have h0 : (i 0).val < 16384 := (i 0).isLt
    have hN : 7 * ((i 0).val / 1024) + 6 < cfg0.N := Nat.lt_of_lt_of_eq (by omega : 7 * ((i 0).val / 1024) + 6 < 112) N_0.symm
    have e := idx9 ⟨7 * ((i 0).val / 1024) + 6, hN⟩
    refine ⟨⟨7 * ((i 0).val / 1024) + 6, hN⟩, (flush0_9 _).mpr (by show (7 * ((i 0).val / 1024) + 6) % 7 = 6; omega), ?_⟩
    have hm := View.emb_mem_set ((cfg0.win 9).blk ⟨7 * ((i 0).val / 1024) + 6, hN⟩).view (ix2 (⟨(i 0).val % 1024, Nat.mod_lt _ (by decide)⟩ : Fin 1024) (i 1) : (⟨2, ![1024, 256]⟩ : Shape).Idx)
    have h : ((cfg0.win 9).blk ⟨7 * ((i 0).val / 1024) + 6, hN⟩).view.emb (ix2 (⟨(i 0).val % 1024, Nat.mod_lt _ (by decide)⟩ : Fin 1024) (i 1) : (⟨2, ![1024, 256]⟩ : Shape).Idx) = i := by
      funext a
      apply Fin.ext
      match a with
      | ⟨0, _⟩ => show win0_9.index ⟨7 * ((i 0).val / 1024) + 6, hN⟩ (0 : Fin 2) * 1024 + 1 * ((i 0).val % 1024) = (i 0).val; rw [e]; show (7 * ((i 0).val / 1024) + 6) / 7 * 1024 + 1 * ((i 0).val % 1024) = (i 0).val; omega
      | ⟨1, _⟩ => show win0_9.index ⟨7 * ((i 0).val / 1024) + 6, hN⟩ (1 : Fin 2) * 256 + 1 * (i 1).val = (i 1).val; rw [e]; show 0 * 256 + 1 * (i 1).val = (i 1).val; omega
    rw [h] at hm
    exact hm)

/-- What the last point of a row writes back of the scales. -/
theorem flushed_sc (c : Dev nD) (t : Fin cfg0.N) (h2 : t.val % 7 = 6) :
    (dats m 0 c).flushed 10 t = ((cfg0.win 10).blk t).view.read (Elt Ideal) (headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have ht : t.val < 112 := Nat.lt_of_lt_of_eq t.isLt N_0
  show (cfg0.win 10).cut (grid0.coords t) ((dats m 0 c).after 10 t) = _
  rw [after0_10, sc_eq m c t h2]
  funext y
  change Shape.Idx ⟨3, ![4, 1024, 128]⟩ at y
  idx_vars y
  have hR : 1024 * (t.val / 7) + y1.val < 16384 := by omega
  have e := idx10 t
  have h : ((cfg0.win 10).blk t).view.emb (ix3 y0 y1 y2) = (ix3 y0 (⟨1024 * (t.val / 7) + y1.val, hR⟩ : Fin 16384) y2 : (⟨3, ![4, 16384, 128]⟩ : Shape).Idx) := by
    funext a
    apply Fin.ext
    match a with
    | ⟨0, _⟩ => show win0_10.index t (0 : Fin 3) * 4 + 1 * y0.val = y0.val; rw [e]; show 0 * 4 + 1 * y0.val = y0.val; omega
    | ⟨1, _⟩ => show win0_10.index t (1 : Fin 3) * 1024 + 1 * y1.val = _; rw [e]; show t.val / 7 * 1024 + 1 * y1.val = 1024 * (t.val / 7) + y1.val; omega
    | ⟨2, _⟩ => show win0_10.index t (2 : Fin 3) * 128 + 1 * y2.val = y2.val; rw [e]; show 0 * 128 + 1 * y2.val = y2.val; omega
  refine Eq.trans ?_ (congrArg (headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) h.symm)
  have hH : (⟨24 + y0.val, by omega⟩ : Fin 28).val = 4 * (t.val % 7) + y0.val := by show 24 + y0.val = 4 * (t.val % 7) + y0.val; omega
  have et := turned_head_eq m c t y0 y1 ⟨24 + y0.val, by omega⟩ ⟨1024 * (t.val / 7) + y1.val, hR⟩ hH rfl
  have eh := head_eq m c t y0 y1 ⟨24 + y0.val, by omega⟩ ⟨1024 * (t.val / 7) + y1.val, hR⟩ hH rfl
  by_cases hy : y0.val < 2
  · exact (if_pos hy).trans ((congrArg (fun f => scaleOf (maxMag f)) et).trans (if_pos hy).symm)
  · exact (if_neg hy).trans ((congrArg (fun f => scaleOf (maxMag f)) eh).trans (if_neg hy).symm)

/-- The array of scales after the run. -/
theorem final_sc (c : Dev nD) : (dats m 0 c).arrAt 10 cfg0.N = headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 10 _ (fun t ht => flushed_sc m c t ((flush0_10 t).mp ht)) (fun i => by
    change Shape.Idx ⟨3, ![4, 16384, 128]⟩ at i
    have h1 : (i 1).val < 16384 := (i 1).isLt
    have hN : 7 * ((i 1).val / 1024) + 6 < cfg0.N := Nat.lt_of_lt_of_eq (by omega : 7 * ((i 1).val / 1024) + 6 < 112) N_0.symm
    have e := idx10 ⟨7 * ((i 1).val / 1024) + 6, hN⟩
    refine ⟨⟨7 * ((i 1).val / 1024) + 6, hN⟩, (flush0_10 _).mpr (by show (7 * ((i 1).val / 1024) + 6) % 7 = 6; omega), ?_⟩
    have hm := View.emb_mem_set ((cfg0.win 10).blk ⟨7 * ((i 1).val / 1024) + 6, hN⟩).view (ix3 (i 0) (⟨(i 1).val % 1024, Nat.mod_lt _ (by decide)⟩ : Fin 1024) (i 2) : (⟨3, ![4, 1024, 128]⟩ : Shape).Idx)
    have h : ((cfg0.win 10).blk ⟨7 * ((i 1).val / 1024) + 6, hN⟩).view.emb (ix3 (i 0) (⟨(i 1).val % 1024, Nat.mod_lt _ (by decide)⟩ : Fin 1024) (i 2) : (⟨3, ![4, 1024, 128]⟩ : Shape).Idx) = i := by
      funext a
      apply Fin.ext
      match a with
      | ⟨0, _⟩ => show win0_10.index ⟨7 * ((i 1).val / 1024) + 6, hN⟩ (0 : Fin 3) * 4 + 1 * (i 0).val = (i 0).val; rw [e]; show 0 * 4 + 1 * (i 0).val = (i 0).val; omega
      | ⟨1, _⟩ => show win0_10.index ⟨7 * ((i 1).val / 1024) + 6, hN⟩ (1 : Fin 3) * 1024 + 1 * ((i 1).val % 1024) = (i 1).val; rw [e]; show (7 * ((i 1).val / 1024) + 6) / 7 * 1024 + 1 * ((i 1).val % 1024) = (i 1).val; omega
      | ⟨2, _⟩ => show win0_10.index ⟨7 * ((i 1).val / 1024) + 6, hN⟩ (2 : Fin 3) * 128 + 1 * (i 2).val = (i 2).val; rw [e]; show 0 * 128 + 1 * (i 2).val = (i 2).val; omega
    rw [h] at hm
    exact hm)

/-! ## The host lines after the call -/

/-- Two of the four stacked arrays, their first column, the two columns side by side: at an index. -/
theorem pair_cols (o : ℕ) (X : (⟨3, ![4, 16384, 128]⟩ : Shape).Idx → EReal) (h0 : (⟨3, ![4, 16384, 128]⟩ : Shape).Slices ![o, 0, 0] ⟨3, ![2, 16384, 128]⟩)
    (h1 : (⟨3, ![2, 16384, 128]⟩ : Shape).Slices ![0, 0, 0] ⟨3, ![2, 16384, 1]⟩) (h2 : (⟨3, ![2, 16384, 1]⟩ : Shape).ShapeCasts ⟨2, ![2, 16384]⟩)
    (h3 : (⟨2, ![2, 16384]⟩ : Shape).Transposes [1, 0] ⟨2, ![16384, 2]⟩) (R : Fin 16384) (h : Fin 2) (a : Fin 4) (ha : a.val = o + h.val) :
    transpose ⟨2, ![16384, 2]⟩ [1, 0] (shapeCast ⟨2, ![2, 16384]⟩ (extractStridedSlice ⟨3, ![2, 16384, 1]⟩ ![0, 0, 0]
      (extractStridedSlice ⟨3, ![2, 16384, 128]⟩ ![o, 0, 0] X h0) h1) h2) h3 (ix2 R h) = X (ix3 a R 0) := by
  refine (ValueIdx.transpose_ix2_apply _ h3 _ _).trans ?_
  refine (shapeCast_apply _ h2 (ix2 h R) (ix3 h R 0) ?_).trans ?_
  · rw [Shape.rowMajor_val_two, Shape.rowMajor_val_three]
    show (h.val * 16384 + R.val) * 1 + 0 = h.val * 16384 + R.val
    omega
  refine (extractStridedSlice_apply _ _ h1 (ix3 h R 0) (ix3 h R 0) fun b => ?_).trans ?_
  · match b with
    | ⟨0, _⟩ => exact (Nat.zero_add _).symm
    | ⟨1, _⟩ => exact (Nat.zero_add _).symm
    | ⟨2, _⟩ => rfl
  refine extractStridedSlice_apply _ _ h0 (ix3 h R 0) (ix3 a R 0) fun b => ?_
  match b with
  | ⟨0, _⟩ => exact ha
  | ⟨1, _⟩ => exact (Nat.zero_add _).symm
  | ⟨2, _⟩ => rfl

/-- The scales of the key heads the host lines after the call read off. -/
theorem tail_ks (c : Dev nD) : Pipeline.afterTail₀ cfgs (dats m) 0 (V0 m) [hostOps1] c main_v11 = keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hw : Pipeline.withArrays spec0 c (V0 m c) (fun w => (dats m 0 c).arrAt w cfg0.N) (Proc.devRef .tc main_v7_3)
      = headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (Pipeline.withArrays_arr spec0 (by decide) c _ _ 10).trans (final_sc m c)
  unfold Pipeline.afterTail₀
  change StableHlo.after hostOps1 _ (Proc.devRef .tc main_v11) = _
  entry_read
  generalize hX : Pipeline.withArrays (cfgs 0).spec c (V0 m c) (fun w => (dats m 0 c).arrAt w (cfgs 0).N) (Proc.devRef .tc main_v7_3) = X
  have hY : X = headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hX.symm.trans hw
  clear hX
  subst hY
  funext y
  change Shape.Idx ⟨2, ![16384, 2]⟩ at y
  idx_vars y
  refine (pair_cols 0 _ _ _ _ _ y0 y1 ⟨0 + y1.val, by omega⟩ rfl).trans ((if_pos (show (0 + y1.val) < 2 by omega)).trans ?_)
  have e : ∀ H : Fin 28, H = ⟨24 + y1.val, by omega⟩ → ropeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) H y0 = ropeAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨24 + y1.val, by omega⟩ y0 := by
    rintro _ rfl
    rfl
  exact congrArg (fun f => scaleOf (maxMag f)) (e _ (Fin.ext (by show 24 + (0 + y1.val) = 24 + y1.val; omega)))

/-- The scales of the value heads the host lines after the call read off. -/
theorem tail_vs (c : Dev nD) : Pipeline.afterTail₀ cfgs (dats m) 0 (V0 m) [hostOps1] c main_v15 = valueScales (m ((c : Thread nD τ).loc main_arg0)) (m ((c : Thread nD τ).loc main_arg1)) (m ((c : Thread nD τ).loc main_arg2)) (m ((c : Thread nD τ).loc main_arg3)) (m ((c : Thread nD τ).loc main_arg4)) := by
  have hw : Pipeline.withArrays spec0 c (V0 m c) (fun w => (dats m 0 c).arrAt w cfg0.N) (Proc.devRef .tc main_v7_3)
      = headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (Pipeline.withArrays_arr spec0 (by decide) c _ _ 10).trans (final_sc m c)
  unfold Pipeline.afterTail₀
  change StableHlo.after hostOps1 _ (Proc.devRef .tc main_v15) = _
  entry_read
  generalize hX : Pipeline.withArrays (cfgs 0).spec c (V0 m c) (fun w => (dats m 0 c).arrAt w (cfgs 0).N) (Proc.devRef .tc main_v7_3) = X
  have hY : X = headScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hX.symm.trans hw
  clear hX
  subst hY
  funext y
  change Shape.Idx ⟨2, ![16384, 2]⟩ at y
  idx_vars y
  refine (pair_cols 2 _ _ _ _ _ y0 y1 ⟨2 + y1.val, by omega⟩ rfl).trans ((if_neg (show ¬(2 + y1.val) < 2 by omega)).trans ?_)
  have e : ∀ H : Fin 28, H = ⟨26 + y1.val, by omega⟩ → headAt (m ((c : Thread nD τ).loc main_arg0)) (m ((c : Thread nD τ).loc main_arg1)) (m ((c : Thread nD τ).loc main_arg2)) (m ((c : Thread nD τ).loc main_arg3)) (m ((c : Thread nD τ).loc main_arg4)) H y0 = headAt (m ((c : Thread nD τ).loc main_arg0)) (m ((c : Thread nD τ).loc main_arg1)) (m ((c : Thread nD τ).loc main_arg2)) (m ((c : Thread nD τ).loc main_arg3)) (m ((c : Thread nD τ).loc main_arg4)) ⟨26 + y1.val, by omega⟩ y0 := by
    rintro _ rfl
    rfl
  exact congrArg (fun f => scaleOf (maxMag f)) (e _ (Fin.ext (by show 24 + (2 + y1.val) = 26 + y1.val; omega)))

/-- The run: the five results are the closed forms, the arguments are unchanged. -/
theorem run : θ_run defs (onTc (τ := τ) (main (F := Ideal))) ⟨m, fun _ => 0, ρ⟩ fun r => ∀ c : Dev nD,
      r.2.mem ((c : Thread nD τ).loc main_v7_0) = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v7_1) = keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v11) = keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v7_2) = valueCodes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v15) = valueScales (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 7).trans (final_q m c), ((h.2 c).1 8).trans (final_kc m c),
      (((h.2 c).2 main_v11 (Pipeline.mem_restRefs_of main_v11 (by decide) (by decide))).trans (tail_ks m c)),
      ((h.2 c).1 9).trans (final_vc m c),
      (((h.2 c).2 main_v15 (Pipeline.mem_restRefs_of main_v15 (by decide) (by decide))).trans (tail_vs m c)), h.1 c⟩)
    (θ_run_and (unchanged m ρ) (run_main m ρ))

end Cert.QkvIdeal.Blocks
end
-- ==== Proof.QkvRefHead.lean ====
/-
  The fused projection's reference: what each of its stores holds, element by element, in the heads of the layer.
-/
module

public import proofs.«01_k».proof.Proof.QkvForm
public import proofs.«01_k».proof.Proof.Gen.QkvRefIdeal.Frame

@[expose] public section

set_option maxRecDepth 16384

noncomputable section

namespace Cert.QkvRefIdeal.Blocks

open Cert.QkvRefIdeal Cert.QkvRefIdeal.Gen Idealize.ShloMosaic Idealize.ShloMosaic.TcCoe
open Idealize.ShloMosaic.Pointwise Cert.Common

variable (a : Vec Ideal ⟨2, ![16384, 6144]⟩ .i8) (s : Vec Ideal ⟨1, ![16384]⟩ .f32) (w : Vec Ideal ⟨2, ![6144, 3584]⟩ .i8)
  (sw b : Vec Ideal ⟨1, ![3584]⟩ .f32) (co si : FVec Ideal ⟨2, ![16384, 64]⟩ .f32) (L : FVec Ideal ⟨2, ![16384, 3584]⟩ .f32)

/-- The layer's array, head by head. -/
def IsLayer : Prop := ∀ (h : Fin 28) (r : Fin 16384) (k : Fin 128), L (ix2 r (⟨128 * h.val + k.val, by omega⟩ : Fin 3584)) = headAt a s w sw b h r k

/-- The reference's layer, at an index of the loaded arrays. -/
theorem layer_apply (x0 : Vec Ideal S16384x6144 .i8) (x1 : Vec Ideal S16384x1 .f32) (x2 : Vec Ideal S6144x3584 .i8)
    (x3 x4 : Vec Ideal S1x3584 .f32) (r : Fin 16384) (n : Fin 3584) :
    k0_pay1 x0 x1 x2 x3 x4 (ix2 r n)
      = (∑ k : Fin 6144, (FloatOps.sitofp (F := Ideal) .bf16 (x0 (ix2 r k)) : EReal) * (FloatOps.sitofp (F := Ideal) .bf16 (x2 (ix2 k n)) : EReal))
        * x1 (ix2 r 0) * x3 (ix2 0 n) + x4 (ix2 0 n) := by
  pointwise [k0_pay1]

variable {a s w sw b L}

/-- A head's band of columns, at an index. -/
theorem band_eq (hL : IsLayer a s w sw b L) {o : ℕ} (h : Fin 28) (ho : o = 128 * h.val)
    (hs : (⟨2, ![16384, 3584]⟩ : Shape).Slices ![0, o] ⟨2, ![16384, 128]⟩) (r : Fin 16384) (k : Fin 128) :
    extractStridedSlice ⟨2, ![16384, 128]⟩ ![0, o] L hs (ix2 r k) = headAt a s w sw b h r k :=
  (band_apply L hs r k ⟨128 * h.val + k.val, by omega⟩ (by show 128 * h.val + k.val = o + k.val; omega)).trans (hL h r k)

/-- A head's band after the rotary embedding, at an index. -/
theorem roped_eq (hL : IsLayer a s w sw b L) {o : ℕ} (h : Fin 28) (ho : o = 128 * h.val)
    (hs : (⟨2, ![16384, 3584]⟩ : Shape).Slices ![0, o] ⟨2, ![16384, 128]⟩)
    (h0 : (⟨2, ![16384, 128]⟩ : Shape).Slices ![0, 0] ⟨2, ![16384, 64]⟩) (h1 : (⟨2, ![16384, 128]⟩ : Shape).Slices ![0, 64] ⟨2, ![16384, 64]⟩)
    (hc : Shape.Concatenates [⟨2, ![16384, 64]⟩, ⟨2, ![16384, 64]⟩] ⟨2, ![16384, 128]⟩ 1)
    (x : FVec Ideal ⟨2, ![16384, 128]⟩ .f32) (hx : x = extractStridedSlice ⟨2, ![16384, 128]⟩ ![0, o] L hs) (r : Fin 16384) (l : Fin 128) :
    concatenate ⟨2, ![16384, 128]⟩ 1
        [⟨⟨2, ![16384, 64]⟩, subf (mulf (extractStridedSlice ⟨2, ![16384, 64]⟩ ![0, 0] x h0) co) (mulf (extractStridedSlice ⟨2, ![16384, 64]⟩ ![0, 64] x h1) si)⟩,
         ⟨⟨2, ![16384, 64]⟩, addf (mulf (extractStridedSlice ⟨2, ![16384, 64]⟩ ![0, 64] x h1) co) (mulf (extractStridedSlice ⟨2, ![16384, 64]⟩ ![0, 0] x h0) si)⟩] hc (ix2 r l)
      = ropeAt a s w sw b co si h r l := by
  refine (rope_apply x co si h0 h1 hc r l).trans ?_
  have e : (fun k => x (ix2 r k)) = headAt a s w sw b h r := funext fun k => (congrFun hx _).trans (band_eq hL h ho hs r k)
  rw [e]
  rfl

/-- The same read as a stack of one, at an index. -/
theorem query_eq (hL : IsLayer a s w sw b L) {o : ℕ} (h : Fin 28) (ho : o = 128 * h.val)
    (hs : (⟨2, ![16384, 3584]⟩ : Shape).Slices ![0, o] ⟨2, ![16384, 128]⟩)
    (h0 : (⟨2, ![16384, 128]⟩ : Shape).Slices ![0, 0] ⟨2, ![16384, 64]⟩) (h1 : (⟨2, ![16384, 128]⟩ : Shape).Slices ![0, 64] ⟨2, ![16384, 64]⟩)
    (hc : Shape.Concatenates [⟨2, ![16384, 64]⟩, ⟨2, ![16384, 64]⟩] ⟨2, ![16384, 128]⟩ 1)
    (h3 : (⟨2, ![16384, 128]⟩ : Shape).ShapeCasts ⟨3, ![1, 16384, 128]⟩) (q : Fin 1) (r : Fin 16384) (l : Fin 128) :
    shapeCast ⟨3, ![1, 16384, 128]⟩ (truncf (F := Ideal) .bf16 (concatenate ⟨2, ![16384, 128]⟩ 1
        [⟨⟨2, ![16384, 64]⟩, subf (mulf (extractStridedSlice ⟨2, ![16384, 64]⟩ ![0, 0] (extractStridedSlice ⟨2, ![16384, 128]⟩ ![0, o] L hs) h0) co)
            (mulf (extractStridedSlice ⟨2, ![16384, 64]⟩ ![0, 64] (extractStridedSlice ⟨2, ![16384, 128]⟩ ![0, o] L hs) h1) si)⟩,
         ⟨⟨2, ![16384, 64]⟩, addf (mulf (extractStridedSlice ⟨2, ![16384, 64]⟩ ![0, 64] (extractStridedSlice ⟨2, ![16384, 128]⟩ ![0, o] L hs) h1) co)
            (mulf (extractStridedSlice ⟨2, ![16384, 64]⟩ ![0, 0] (extractStridedSlice ⟨2, ![16384, 128]⟩ ![0, o] L hs) h0) si)⟩] hc) bitsLt_bf16_f32) h3 (ix3 q r l)
      = ropeAt a s w sw b co si h r l :=
  (stack_apply _ h3 q r l).trans (roped_eq co si hL h ho hs h0 h1 hc _ rfl r l)

/-! ## The query heads -/

theorem query23 (hL : IsLayer a s w sw b L) (q : Fin 1) (r : Fin 16384) (l : Fin 128) :
    (k0_pay40 (k0_pay39 L co si) : FVec Ideal S1x16384x128 .bf16) (ix3 q r l) = ropeAt a s w sw b co si 23 r l :=
  query_eq co si hL (o := 2944) 23 rfl slices_S16384x3584_o0_2944_S16384x128 slices_S16384x128_o0_0_S16384x64 slices_S16384x128_o0_64_S16384x64 concatenates_S16384x64_S16384x64_S16384x128_d1
    shapeCasts_S16384x128_S1x16384x128 q r l

theorem query22 (hL : IsLayer a s w sw b L) (q : Fin 1) (r : Fin 16384) (l : Fin 128) :
    (k0_pay38 L co si : FVec Ideal S1x16384x128 .bf16) (ix3 q r l) = ropeAt a s w sw b co si 22 r l :=
  query_eq co si hL (o := 2816) 22 rfl slices_S16384x3584_o0_2816_S16384x128 slices_S16384x128_o0_0_S16384x64 slices_S16384x128_o0_64_S16384x64 concatenates_S16384x64_S16384x64_S16384x128_d1
    shapeCasts_S16384x128_S1x16384x128 q r l

theorem query21 (hL : IsLayer a s w sw b L) (q : Fin 1) (r : Fin 16384) (l : Fin 128) :
    (k0_pay37 (k0_pay35 L) co si (k0_pay36 L) : FVec Ideal S1x16384x128 .bf16) (ix3 q r l) = ropeAt a s w sw b co si 21 r l :=
  query_eq co si hL (o := 2688) 21 rfl slices_S16384x3584_o0_2688_S16384x128 slices_S16384x128_o0_0_S16384x64 slices_S16384x128_o0_64_S16384x64 concatenates_S16384x64_S16384x64_S16384x128_d1
    shapeCasts_S16384x128_S1x16384x128 q r l

theorem query20 (hL : IsLayer a s w sw b L) (q : Fin 1) (r : Fin 16384) (l : Fin 128) :
    (k0_pay34 L co si : FVec Ideal S1x16384x128 .bf16) (ix3 q r l) = ropeAt a s w sw b co si 20 r l :=
  query_eq co si hL (o := 2560) 20 rfl slices_S16384x3584_o0_2560_S16384x128 slices_S16384x128_o0_0_S16384x64 slices_S16384x128_o0_64_S16384x64 concatenates_S16384x64_S16384x64_S16384x128_d1
    shapeCasts_S16384x128_S1x16384x128 q r l

theorem query19 (hL : IsLayer a s w sw b L) (q : Fin 1) (r : Fin 16384) (l : Fin 128) :
    (k0_pay33 L co si : FVec Ideal S1x16384x128 .bf16) (ix3 q r l) = ropeAt a s w sw b co si 19 r l :=
  query_eq co si hL (o := 2432) 19 rfl slices_S16384x3584_o0_2432_S16384x128 slices_S16384x128_o0_0_S16384x64 slices_S16384x128_o0_64_S16384x64 concatenates_S16384x64_S16384x64_S16384x128_d1
    shapeCasts_S16384x128_S1x16384x128 q r l

theorem query18 (hL : IsLayer a s w sw b L) (q : Fin 1) (r : Fin 16384) (l : Fin 128) :
    (k0_pay32 (k0_pay31 L co si) : FVec Ideal S1x16384x128 .bf16) (ix3 q r l) = ropeAt a s w sw b co si 18 r l :=
  query_eq co si hL (o := 2304) 18 rfl slices_S16384x3584_o0_2304_S16384x128 slices_S16384x128_o0_0_S16384x64 slices_S16384x128_o0_64_S16384x64 concatenates_S16384x64_S16384x64_S16384x128_d1
    shapeCasts_S16384x128_S1x16384x128 q r l

theorem query17 (hL : IsLayer a s w sw b L) (q : Fin 1) (r : Fin 16384) (l : Fin 128) :
    (k0_pay30 L co si : FVec Ideal S1x16384x128 .bf16) (ix3 q r l) = ropeAt a s w sw b co si 17 r l :=
  query_eq co si hL (o := 2176) 17 rfl slices_S16384x3584_o0_2176_S16384x128 slices_S16384x128_o0_0_S16384x64 slices_S16384x128_o0_64_S16384x64 concatenates_S16384x64_S16384x64_S16384x128_d1
    shapeCasts_S16384x128_S1x16384x128 q r l

theorem query16 (hL : IsLayer a s w sw b L) (q : Fin 1) (r : Fin 16384) (l : Fin 128) :
    (k0_pay29 (k0_pay27 L) co si (k0_pay28 L) : FVec Ideal S1x16384x128 .bf16) (ix3 q r l) = ropeAt a s w sw b co si 16 r l :=
  query_eq co si hL (o := 2048) 16 rfl slices_S16384x3584_o0_2048_S16384x128 slices_S16384x128_o0_0_S16384x64 slices_S16384x128_o0_64_S16384x64 concatenates_S16384x64_S16384x64_S16384x128_d1
    shapeCasts_S16384x128_S1x16384x128 q r l

theorem query15 (hL : IsLayer a s w sw b L) (q : Fin 1) (r : Fin 16384) (l : Fin 128) :
    (k0_pay26 L co si : FVec Ideal S1x16384x128 .bf16) (ix3 q r l) = ropeAt a s w sw b co si 15 r l :=
  query_eq co si hL (o := 1920) 15 rfl slices_S16384x3584_o0_1920_S16384x128 slices_S16384x128_o0_0_S16384x64 slices_S16384x128_o0_64_S16384x64 concatenates_S16384x64_S16384x64_S16384x128_d1
    shapeCasts_S16384x128_S1x16384x128 q r l

theorem query14 (hL : IsLayer a s w sw b L) (q : Fin 1) (r : Fin 16384) (l : Fin 128) :
    (k0_pay25 L co si : FVec Ideal S1x16384x128 .bf16) (ix3 q r l) = ropeAt a s w sw b co si 14 r l :=
  query_eq co si hL (o := 1792) 14 rfl slices_S16384x3584_o0_1792_S16384x128 slices_S16384x128_o0_0_S16384x64 slices_S16384x128_o0_64_S16384x64 concatenates_S16384x64_S16384x64_S16384x128_d1
    shapeCasts_S16384x128_S1x16384x128 q r l

theorem query13 (hL : IsLayer a s w sw b L) (q : Fin 1) (r : Fin 16384) (l : Fin 128) :
    (k0_pay24 (k0_pay23 L co si) : FVec Ideal S1x16384x128 .bf16) (ix3 q r l) = ropeAt a s w sw b co si 13 r l :=
  query_eq co si hL (o := 1664) 13 rfl slices_S16384x3584_o0_1664_S16384x128 slices_S16384x128_o0_0_S16384x64 slices_S16384x128_o0_64_S16384x64 concatenates_S16384x64_S16384x64_S16384x128_d1
    shapeCasts_S16384x128_S1x16384x128 q r l

theorem query12 (hL : IsLayer a s w sw b L) (q : Fin 1) (r : Fin 16384) (l : Fin 128) :
    (k0_pay22 L co si : FVec Ideal S1x16384x128 .bf16) (ix3 q r l) = ropeAt a s w sw b co si 12 r l :=
  query_eq co si hL (o := 1536) 12 rfl slices_S16384x3584_o0_1536_S16384x128 slices_S16384x128_o0_0_S16384x64 slices_S16384x128_o0_64_S16384x64 concatenates_S16384x64_S16384x64_S16384x128_d1
    shapeCasts_S16384x128_S1x16384x128 q r l

theorem query11 (hL : IsLayer a s w sw b L) (q : Fin 1) (r : Fin 16384) (l : Fin 128) :
    (k0_pay21 (k0_pay19 L) co si (k0_pay20 L) : FVec Ideal S1x16384x128 .bf16) (ix3 q r l) = ropeAt a s w sw b co si 11 r l :=
  query_eq co si hL (o := 1408) 11 rfl slices_S16384x3584_o0_1408_S16384x128 slices_S16384x128_o0_0_S16384x64 slices_S16384x128_o0_64_S16384x64 concatenates_S16384x64_S16384x64_S16384x128_d1
    shapeCasts_S16384x128_S1x16384x128 q r l

theorem query10 (hL : IsLayer a s w sw b L) (q : Fin 1) (r : Fin 16384) (l : Fin 128) :
    (k0_pay18 L co si : FVec Ideal S1x16384x128 .bf16) (ix3 q r l) = ropeAt a s w sw b co si 10 r l :=
  query_eq co si hL (o := 1280) 10 rfl slices_S16384x3584_o0_1280_S16384x128 slices_S16384x128_o0_0_S16384x64 slices_S16384x128_o0_64_S16384x64 concatenates_S16384x64_S16384x64_S16384x128_d1
    shapeCasts_S16384x128_S1x16384x128 q r l

theorem query9 (hL : IsLayer a s w sw b L) (q : Fin 1) (r : Fin 16384) (l : Fin 128) :
    (k0_pay17 L co si : FVec Ideal S1x16384x128 .bf16) (ix3 q r l) = ropeAt a s w sw b co si 9 r l :=
  query_eq co si hL (o := 1152) 9 rfl slices_S16384x3584_o0_1152_S16384x128 slices_S16384x128_o0_0_S16384x64 slices_S16384x128_o0_64_S16384x64 concatenates_S16384x64_S16384x64_S16384x128_d1
    shapeCasts_S16384x128_S1x16384x128 q r l

theorem query8 (hL : IsLayer a s w sw b L) (q : Fin 1) (r : Fin 16384) (l : Fin 128) :
    (k0_pay16 (k0_pay15 L co si) : FVec Ideal S1x16384x128 .bf16) (ix3 q r l) = ropeAt a s w sw b co si 8 r l :=
  query_eq co si hL (o := 1024) 8 rfl slices_S16384x3584_o0_1024_S16384x128 slices_S16384x128_o0_0_S16384x64 slices_S16384x128_o0_64_S16384x64 concatenates_S16384x64_S16384x64_S16384x128_d1
    shapeCasts_S16384x128_S1x16384x128 q r l

theorem query7 (hL : IsLayer a s w sw b L) (q : Fin 1) (r : Fin 16384) (l : Fin 128) :
    (k0_pay14 L co si : FVec Ideal S1x16384x128 .bf16) (ix3 q r l) = ropeAt a s w sw b co si 7 r l :=
  query_eq co si hL (o := 896) 7 rfl slices_S16384x3584_o0_896_S16384x128 slices_S16384x128_o0_0_S16384x64 slices_S16384x128_o0_64_S16384x64 concatenates_S16384x64_S16384x64_S16384x128_d1
    shapeCasts_S16384x128_S1x16384x128 q r l

theorem query6 (hL : IsLayer a s w sw b L) (q : Fin 1) (r : Fin 16384) (l : Fin 128) :
    (k0_pay13 (k0_pay11 L) co si (k0_pay12 L) : FVec Ideal S1x16384x128 .bf16) (ix3 q r l) = ropeAt a s w sw b co si 6 r l :=
  query_eq co si hL (o := 768) 6 rfl slices_S16384x3584_o0_768_S16384x128 slices_S16384x128_o0_0_S16384x64 slices_S16384x128_o0_64_S16384x64 concatenates_S16384x64_S16384x64_S16384x128_d1
    shapeCasts_S16384x128_S1x16384x128 q r l

theorem query5 (hL : IsLayer a s w sw b L) (q : Fin 1) (r : Fin 16384) (l : Fin 128) :
    (k0_pay10 L co si : FVec Ideal S1x16384x128 .bf16) (ix3 q r l) = ropeAt a s w sw b co si 5 r l :=
  query_eq co si hL (o := 640) 5 rfl slices_S16384x3584_o0_640_S16384x128 slices_S16384x128_o0_0_S16384x64 slices_S16384x128_o0_64_S16384x64 concatenates_S16384x64_S16384x64_S16384x128_d1
    shapeCasts_S16384x128_S1x16384x128 q r l

theorem query4 (hL : IsLayer a s w sw b L) (q : Fin 1) (r : Fin 16384) (l : Fin 128) :
    (k0_pay9 L co si : FVec Ideal S1x16384x128 .bf16) (ix3 q r l) = ropeAt a s w sw b co si 4 r l :=
  query_eq co si hL (o := 512) 4 rfl slices_S16384x3584_o0_512_S16384x128 slices_S16384x128_o0_0_S16384x64 slices_S16384x128_o0_64_S16384x64 concatenates_S16384x64_S16384x64_S16384x128_d1
    shapeCasts_S16384x128_S1x16384x128 q r l

theorem query3 (hL : IsLayer a s w sw b L) (q : Fin 1) (r : Fin 16384) (l : Fin 128) :
    (k0_pay8 (k0_pay7 L co si) : FVec Ideal S1x16384x128 .bf16) (ix3 q r l) = ropeAt a s w sw b co si 3 r l :=
  query_eq co si hL (o := 384) 3 rfl slices_S16384x3584_o0_384_S16384x128 slices_S16384x128_o0_0_S16384x64 slices_S16384x128_o0_64_S16384x64 concatenates_S16384x64_S16384x64_S16384x128_d1
    shapeCasts_S16384x128_S1x16384x128 q r l

theorem query2 (hL : IsLayer a s w sw b L) (q : Fin 1) (r : Fin 16384) (l : Fin 128) :
    (k0_pay6 L co si : FVec Ideal S1x16384x128 .bf16) (ix3 q r l) = ropeAt a s w sw b co si 2 r l :=
  query_eq co si hL (o := 256) 2 rfl slices_S16384x3584_o0_256_S16384x128 slices_S16384x128_o0_0_S16384x64 slices_S16384x128_o0_64_S16384x64 concatenates_S16384x64_S16384x64_S16384x128_d1
    shapeCasts_S16384x128_S1x16384x128 q r l

theorem query1 (x0 : Vec Ideal S16384x6144 .i8) (x1 : Vec Ideal S16384x1 .f32) (x2 : Vec Ideal S6144x3584 .i8)
    (x3 x4 : Vec Ideal S1x3584 .f32) (hL : IsLayer a s w sw b (k0_pay1 x0 x1 x2 x3 x4)) (q : Fin 1) (r : Fin 16384) (l : Fin 128) :
    (k0_pay5 (k0_pay3 x0 x1 x2 x3 x4) co si (k0_pay4 x0 x1 x2 x3 x4) : FVec Ideal S1x16384x128 .bf16) (ix3 q r l) = ropeAt a s w sw b co si 1 r l :=
  query_eq co si hL (o := 128) 1 rfl slices_S16384x3584_o0_128_S16384x128 slices_S16384x128_o0_0_S16384x64 slices_S16384x128_o0_64_S16384x64 concatenates_S16384x64_S16384x64_S16384x128_d1
    shapeCasts_S16384x128_S1x16384x128 q r l

theorem query0 (x0 : Vec Ideal S16384x6144 .i8) (x1 : Vec Ideal S16384x1 .f32) (x2 : Vec Ideal S6144x3584 .i8)
    (x3 x4 : Vec Ideal S1x3584 .f32) (hL : IsLayer a s w sw b (k0_pay1 x0 x1 x2 x3 x4)) (q : Fin 1) (r : Fin 16384) (l : Fin 128) :
    (k0_pay2 x0 x1 x2 x3 x4 co si : FVec Ideal S1x16384x128 .bf16) (ix3 q r l) = ropeAt a s w sw b co si 0 r l :=
  query_eq co si hL (o := 0) 0 rfl slices_S16384x3584_o0_0_S16384x128 slices_S16384x128_o0_0_S16384x64 slices_S16384x128_o0_64_S16384x64 concatenates_S16384x64_S16384x64_S16384x128_d1
    shapeCasts_S16384x128_S1x16384x128 q r l

/-! ## The key and value heads -/

theorem key0 (hL : IsLayer a s w sw b L) (r : Fin 16384) (l : Fin 128) : k0_pay41 L co si (ix2 r l) = ropeAt a s w sw b co si 24 r l :=
  roped_eq co si hL (o := 3072) 24 rfl slices_S16384x3584_o0_3072_S16384x128 slices_S16384x128_o0_0_S16384x64 slices_S16384x128_o0_64_S16384x64 concatenates_S16384x64_S16384x64_S16384x128_d1 _ rfl r l

theorem key1 (hL : IsLayer a s w sw b L) (r : Fin 16384) (l : Fin 128) : k0_pay49 L co si (ix2 r l) = ropeAt a s w sw b co si 25 r l :=
  roped_eq co si hL (o := 3200) 25 rfl slices_S16384x3584_o0_3200_S16384x128 slices_S16384x128_o0_0_S16384x64 slices_S16384x128_o0_64_S16384x64 concatenates_S16384x64_S16384x64_S16384x128_d1 _ rfl r l

theorem value0 (hL : IsLayer a s w sw b L) (r : Fin 16384) (l : Fin 128) : k0_pay44 L (ix2 r l) = headAt a s w sw b 26 r l :=
  band_eq hL (o := 3328) 26 rfl slices_S16384x3584_o0_3328_S16384x128 r l

theorem value1 (hL : IsLayer a s w sw b L) (r : Fin 16384) (l : Fin 128) : k0_pay53 L (ix2 r l) = headAt a s w sw b 27 r l :=
  band_eq hL (o := 3456) 27 rfl slices_S16384x3584_o0_3456_S16384x128 r l

theorem key0_scale (hL : IsLayer a s w sw b L) (r : Fin 16384) : k0_pay42 L co si (ix2 r 0) = scaleOf (maxMag (ropeAt a s w sw b co si 24 r)) :=
  row_scale (k0_pay41 L co si) _ _ _ r (fun k => key0 co si hL r k)

theorem key1_scale (hL : IsLayer a s w sw b L) (r : Fin 16384) : k0_pay50 L co si (ix2 r 0) = scaleOf (maxMag (ropeAt a s w sw b co si 25 r)) :=
  row_scale (k0_pay49 L co si) _ _ _ r (fun k => key1 co si hL r k)

theorem value0_scale (hL : IsLayer a s w sw b L) (r : Fin 16384) :
    k0_pay47 (k0_pay45 L) (k0_pay46 (F := Ideal)) (ix2 r 0) = scaleOf (maxMag (headAt a s w sw b 26 r)) :=
  row_scale (k0_pay44 L) _ _ _ r (fun k => value0 hL r k)

theorem value1_scale (hL : IsLayer a s w sw b L) (r : Fin 16384) : k0_pay54 L (ix2 r 0) = scaleOf (maxMag (headAt a s w sw b 27 r)) :=
  row_scale (k0_pay53 L) _ _ _ r (fun k => value1 hL r k)

theorem key0_code (hL : IsLayer a s w sw b L) (r : Fin 16384) (l : Fin 128) :
    k0_pay43 L co si (ix2 r l) = codeOf (ropeAt a s w sw b co si 24 r l) (scaleOf (maxMag (ropeAt a s w sw b co si 24 r))) :=
  row_codes (k0_pay41 L co si) (k0_pay42 L co si) _ _ r l (fun k => key0 co si hL r k) (key0_scale co si hL r)

theorem key1_code (hL : IsLayer a s w sw b L) (r : Fin 16384) (l : Fin 128) :
    k0_pay52 (k0_pay51 L co si) 4294967169#32 (ix2 r l) = codeOf (ropeAt a s w sw b co si 25 r l) (scaleOf (maxMag (ropeAt a s w sw b co si 25 r))) :=
  row_codes (k0_pay49 L co si) (k0_pay50 L co si) _ _ r l (fun k => key1 co si hL r k) (key1_scale co si hL r)

theorem value0_code (hL : IsLayer a s w sw b L) (r : Fin 16384) (l : Fin 128) :
    k0_pay48 (k0_pay44 L) (k0_pay45 L) (k0_pay46 (F := Ideal)) (ix2 r l) = codeOf (headAt a s w sw b 26 r l) (scaleOf (maxMag (headAt a s w sw b 26 r))) :=
  row_codes (k0_pay44 L) (k0_pay47 (k0_pay45 L) (k0_pay46 (F := Ideal))) _ _ r l (fun k => value0 hL r k) (value0_scale hL r)

theorem value1_code (hL : IsLayer a s w sw b L) (r : Fin 16384) (l : Fin 128) :
    k0_pay55 L (ix2 r l) = codeOf (headAt a s w sw b 27 r l) (scaleOf (maxMag (headAt a s w sw b 27 r))) :=
  row_codes (k0_pay53 L) (k0_pay54 L) _ _ r l (fun k => value1 hL r k) (value1_scale hL r)

/-! ## The stored arrays -/

section
variable (x0 : Vec Ideal S16384x6144 .i8) (x1 : Vec Ideal S16384x1 .f32) (x2 : Vec Ideal S6144x3584 .i8)
  (x3 x4 : Vec Ideal S1x3584 .f32) (hL : IsLayer a s w sw b (k0_pay1 x0 x1 x2 x3 x4))
include hL

/-- The query heads. -/
theorem out7_eq : out0_7 x0 x1 x2 x3 x4 co si = queries a s w sw b co si := by
  unfold out0_7 k0_pay56
  simp only [View.ld_unit_zero (S := S16384x6144) hz, View.ld_unit_zero (S := S6144x3584) hz, View.ld_unit_zero (S := S16384x1) hz,
    View.ld_unit_zero (S := S1x3584) hz, View.ld_unit_zero (S := S16384x64) hz]
  funext y
  refine View.canon_apply_of_pieces (Val := Elt Ideal) (queries a s w sw b co si) _ ?_ y (cover0_7 (F := Ideal) _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · intro q
    change Shape.Idx ⟨3, ![1, 16384, 128]⟩ at q
    idx_vars q
    rw [emb_stack]
    exact query23 co si hL q0 q1 q2
  · intro q
    change Shape.Idx ⟨3, ![1, 16384, 128]⟩ at q
    idx_vars q
    rw [emb_stack]
    exact query22 co si hL q0 q1 q2
  · intro q
    change Shape.Idx ⟨3, ![1, 16384, 128]⟩ at q
    idx_vars q
    rw [emb_stack]
    exact query21 co si hL q0 q1 q2
  · intro q
    change Shape.Idx ⟨3, ![1, 16384, 128]⟩ at q
    idx_vars q
    rw [emb_stack]
    exact query20 co si hL q0 q1 q2
  · intro q
    change Shape.Idx ⟨3, ![1, 16384, 128]⟩ at q
    idx_vars q
    rw [emb_stack]
    exact query19 co si hL q0 q1 q2
  · intro q
    change Shape.Idx ⟨3, ![1, 16384, 128]⟩ at q
    idx_vars q
    rw [emb_stack]
    exact query18 co si hL q0 q1 q2
  · intro q
    change Shape.Idx ⟨3, ![1, 16384, 128]⟩ at q
    idx_vars q
    rw [emb_stack]
    exact query17 co si hL q0 q1 q2
  · intro q
    change Shape.Idx ⟨3, ![1, 16384, 128]⟩ at q
    idx_vars q
    rw [emb_stack]
    exact query16 co si hL q0 q1 q2
  · intro q
    change Shape.Idx ⟨3, ![1, 16384, 128]⟩ at q
    idx_vars q
    rw [emb_stack]
    exact query15 co si hL q0 q1 q2
  · intro q
    change Shape.Idx ⟨3, ![1, 16384, 128]⟩ at q
    idx_vars q
    rw [emb_stack]
    exact query14 co si hL q0 q1 q2
  · intro q
    change Shape.Idx ⟨3, ![1, 16384, 128]⟩ at q
    idx_vars q
    rw [emb_stack]
    exact query13 co si hL q0 q1 q2
  · intro q
    change Shape.Idx ⟨3, ![1, 16384, 128]⟩ at q
    idx_vars q
    rw [emb_stack]
    exact query12 co si hL q0 q1 q2
  · intro q
    change Shape.Idx ⟨3, ![1, 16384, 128]⟩ at q
    idx_vars q
    rw [emb_stack]
    exact query11 co si hL q0 q1 q2
  · intro q
    change Shape.Idx ⟨3, ![1, 16384, 128]⟩ at q
    idx_vars q
    rw [emb_stack]
    exact query10 co si hL q0 q1 q2
  · intro q
    change Shape.Idx ⟨3, ![1, 16384, 128]⟩ at q
    idx_vars q
    rw [emb_stack]
    exact query9 co si hL q0 q1 q2
  · intro q
    change Shape.Idx ⟨3, ![1, 16384, 128]⟩ at q
    idx_vars q
    rw [emb_stack]
    exact query8 co si hL q0 q1 q2
  · intro q
    change Shape.Idx ⟨3, ![1, 16384, 128]⟩ at q
    idx_vars q
    rw [emb_stack]
    exact query7 co si hL q0 q1 q2
  · intro q
    change Shape.Idx ⟨3, ![1, 16384, 128]⟩ at q
    idx_vars q
    rw [emb_stack]
    exact query6 co si hL q0 q1 q2
  · intro q
    change Shape.Idx ⟨3, ![1, 16384, 128]⟩ at q
    idx_vars q
    rw [emb_stack]
    exact query5 co si hL q0 q1 q2
  · intro q
    change Shape.Idx ⟨3, ![1, 16384, 128]⟩ at q
    idx_vars q
    rw [emb_stack]
    exact query4 co si hL q0 q1 q2
  · intro q
    change Shape.Idx ⟨3, ![1, 16384, 128]⟩ at q
    idx_vars q
    rw [emb_stack]
    exact query3 co si hL q0 q1 q2
  · intro q
    change Shape.Idx ⟨3, ![1, 16384, 128]⟩ at q
    idx_vars q
    rw [emb_stack]
    exact query2 co si hL q0 q1 q2
  · intro q
    change Shape.Idx ⟨3, ![1, 16384, 128]⟩ at q
    idx_vars q
    rw [emb_stack]
    exact query1 co si x0 x1 x2 x3 x4 hL q0 q1 q2
  · intro q
    change Shape.Idx ⟨3, ![1, 16384, 128]⟩ at q
    idx_vars q
    rw [emb_stack]
    exact query0 co si x0 x1 x2 x3 x4 hL q0 q1 q2

/-- The key codes. -/
theorem out8_eq : out0_8 x0 x1 x2 x3 x4 co si = keyCodes a s w sw b co si := by
  unfold out0_8 k0_pay56
  simp only [View.ld_unit_zero (S := S16384x6144) hz, View.ld_unit_zero (S := S6144x3584) hz, View.ld_unit_zero (S := S16384x1) hz,
    View.ld_unit_zero (S := S1x3584) hz, View.ld_unit_zero (S := S16384x64) hz]
  funext y
  refine View.canon_apply_of_pieces (Val := Elt Ideal) (keyCodes a s w sw b co si) _ ?_ y (cover0_8 (F := Ideal) _ _ y)
  intro p hp
  simp only [List.mem_cons, List.not_mem_nil, or_false] at hp
  rcases hp with rfl | rfl
  · intro q
    change Shape.Idx ⟨2, ![16384, 128]⟩ at q
    idx_vars q
    rw [emb_lane]
    exact (key1_code co si hL q0 q1).trans (keyCodes_at a s w sw b co si 25 q0 q1 _ (by show 128 + q1.val + 3072 = 128 * 25 + q1.val; omega)).symm
  · intro q
    change Shape.Idx ⟨2, ![16384, 128]⟩ at q
    idx_vars q
    rw [emb_lane]
    exact (key0_code co si hL q0 q1).trans (keyCodes_at a s w sw b co si 24 q0 q1 _ (by show 0 + q1.val + 3072 = 128 * 24 + q1.val; omega)).symm

/-- The key scales. -/
theorem out9_eq : out0_9 x0 x1 x2 x3 x4 co si = keyScales a s w sw b co si := by
  unfold out0_9 k0_pay56
  simp only [View.ld_unit_zero (S := S16384x6144) hz, View.ld_unit_zero (S := S6144x3584) hz, View.ld_unit_zero (S := S16384x1) hz,
    View.ld_unit_zero (S := S1x3584) hz, View.ld_unit_zero (S := S16384x64) hz]
  funext y
  refine View.canon_apply_of_pieces (Val := Elt Ideal) (keyScales a s w sw b co si) _ ?_ y (cover0_9 (F := Ideal) _ _ y)
  intro p hp
  simp only [List.mem_cons, List.not_mem_nil, or_false] at hp
  rcases hp with rfl | rfl
  · intro q
    change Shape.Idx ⟨2, ![16384, 1]⟩ at q
    idx_vars q
    rw [emb_lane]
    obtain rfl : q1 = 0 := Subsingleton.elim _ _
    exact key1_scale co si hL q0
  · intro q
    change Shape.Idx ⟨2, ![16384, 1]⟩ at q
    idx_vars q
    rw [emb_lane]
    obtain rfl : q1 = 0 := Subsingleton.elim _ _
    exact key0_scale co si hL q0

/-- The value codes. -/
theorem out10_eq : out0_10 x0 x1 x2 x3 x4 co si = valueCodes a s w sw b := by
  unfold out0_10 k0_pay58 k0_pay57 k0_pay56
  simp only [View.ld_unit_zero (S := S16384x6144) hz, View.ld_unit_zero (S := S6144x3584) hz, View.ld_unit_zero (S := S16384x1) hz,
    View.ld_unit_zero (S := S1x3584) hz, View.ld_unit_zero (S := S16384x64) hz]
  funext y
  refine View.canon_apply_of_pieces (Val := Elt Ideal) (valueCodes a s w sw b) _ ?_ y (cover0_10 (F := Ideal) _ _ y)
  intro p hp
  simp only [List.mem_cons, List.not_mem_nil, or_false] at hp
  rcases hp with rfl | rfl
  · intro q
    change Shape.Idx ⟨2, ![16384, 128]⟩ at q
    idx_vars q
    rw [emb_lane]
    exact (value1_code hL q0 q1).trans (valueCodes_at a s w sw b 27 q0 q1 _ (by show 128 + q1.val + 3328 = 128 * 27 + q1.val; omega)).symm
  · intro q
    change Shape.Idx ⟨2, ![16384, 128]⟩ at q
    idx_vars q
    rw [emb_lane]
    exact (value0_code hL q0 q1).trans (valueCodes_at a s w sw b 26 q0 q1 _ (by show 0 + q1.val + 3328 = 128 * 26 + q1.val; omega)).symm

/-- The value scales. -/
theorem out11_eq : out0_11 x0 x1 x2 x3 x4 co si = valueScales a s w sw b := by
  unfold out0_11 k0_pay58 k0_pay57 k0_pay56
  simp only [View.ld_unit_zero (S := S16384x6144) hz, View.ld_unit_zero (S := S6144x3584) hz, View.ld_unit_zero (S := S16384x1) hz,
    View.ld_unit_zero (S := S1x3584) hz, View.ld_unit_zero (S := S16384x64) hz]
  funext y
  refine View.canon_apply_of_pieces (Val := Elt Ideal) (valueScales a s w sw b) _ ?_ y (cover0_11 (F := Ideal) _ _ y)
  intro p hp
  simp only [List.mem_cons, List.not_mem_nil, or_false] at hp
  rcases hp with rfl | rfl
  · intro q
    change Shape.Idx ⟨2, ![16384, 1]⟩ at q
    idx_vars q
    rw [emb_lane]
    obtain rfl : q1 = 0 := Subsingleton.elim _ _
    exact value1_scale hL q0
  · intro q
    change Shape.Idx ⟨2, ![16384, 1]⟩ at q
    idx_vars q
    rw [emb_lane]
    obtain rfl : q1 = 0 := Subsingleton.elim _ _
    exact value0_scale hL q0

end

end Cert.QkvRefIdeal.Blocks
end
-- ==== Proof.QkvRef.lean ====
/-
  The fused projection: its reference's result arrays after the run, and the two programs' results compared.
-/
module

public import proofs.«01_k».proof.Defs
public import proofs.«01_k».proof.Proof.QkvRun
public import proofs.«01_k».proof.Proof.QkvRefHead
public import Idealize.ShloMosaic.Lib.Claim

@[expose] public section

set_option maxRecDepth 16384

noncomputable section

namespace Cert.QkvRefIdeal.Blocks

open Cert.QkvRefIdeal Cert.QkvRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## The one point's blocks are the whole arrays -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem emb0 (t : Fin cfg0.N) (i : (⟨2, ![16384, 6144]⟩ : Shape).Idx) : ((cfg0.win 0).blk t).view.emb i = i := by
  have e := idx0 t
  funext a
  apply Fin.ext
  match a with
  | ⟨0, _⟩ => show win0_0.index t (0 : Fin 2) * 16384 + 1 * (i 0).val = (i 0).val; rw [e]; show 0 * 16384 + 1 * (i 0).val = (i 0).val; omega
  | ⟨1, _⟩ => show win0_0.index t (1 : Fin 2) * 6144 + 1 * (i 1).val = (i 1).val; rw [e]; show 0 * 6144 + 1 * (i 1).val = (i 1).val; omega

theorem emb1 (t : Fin cfg0.N) (i : (⟨2, ![16384, 1]⟩ : Shape).Idx) : ((cfg0.win 1).blk t).view.emb i = i := by
  have e := idx1 t
  funext a
  apply Fin.ext
  match a with
  | ⟨0, _⟩ => show win0_1.index t (0 : Fin 2) * 16384 + 1 * (i 0).val = (i 0).val; rw [e]; show 0 * 16384 + 1 * (i 0).val = (i 0).val; omega
  | ⟨1, _⟩ => show win0_1.index t (1 : Fin 2) * 1 + 1 * (i 1).val = (i 1).val; rw [e]; show 0 * 1 + 1 * (i 1).val = (i 1).val; omega

theorem emb2 (t : Fin cfg0.N) (i : (⟨2, ![6144, 3584]⟩ : Shape).Idx) : ((cfg0.win 2).blk t).view.emb i = i := by
  have e := idx2 t
  funext a
  apply Fin.ext
  match a with
  | ⟨0, _⟩ => show win0_2.index t (0 : Fin 2) * 6144 + 1 * (i 0).val = (i 0).val; rw [e]; show 0 * 6144 + 1 * (i 0).val = (i 0).val; omega
  | ⟨1, _⟩ => show win0_2.index t (1 : Fin 2) * 3584 + 1 * (i 1).val = (i 1).val; rw [e]; show 0 * 3584 + 1 * (i 1).val = (i 1).val; omega

theorem emb3 (t : Fin cfg0.N) (i : (⟨2, ![1, 3584]⟩ : Shape).Idx) : ((cfg0.win 3).blk t).view.emb i = i := by
  have e := idx3 t
  funext a
  apply Fin.ext
  match a with
  | ⟨0, _⟩ => show win0_3.index t (0 : Fin 2) * 1 + 1 * (i 0).val = (i 0).val; rw [e]; show 0 * 1 + 1 * (i 0).val = (i 0).val; omega
  | ⟨1, _⟩ => show win0_3.index t (1 : Fin 2) * 3584 + 1 * (i 1).val = (i 1).val; rw [e]; show 0 * 3584 + 1 * (i 1).val = (i 1).val; omega

theorem emb4 (t : Fin cfg0.N) (i : (⟨2, ![1, 3584]⟩ : Shape).Idx) : ((cfg0.win 4).blk t).view.emb i = i := by
  have e := idx4 t
  funext a
  apply Fin.ext
  match a with
  | ⟨0, _⟩ => show win0_4.index t (0 : Fin 2) * 1 + 1 * (i 0).val = (i 0).val; rw [e]; show 0 * 1 + 1 * (i 0).val = (i 0).val; omega
  | ⟨1, _⟩ => show win0_4.index t (1 : Fin 2) * 3584 + 1 * (i 1).val = (i 1).val; rw [e]; show 0 * 3584 + 1 * (i 1).val = (i 1).val; omega

theorem emb5 (t : Fin cfg0.N) (i : (⟨2, ![16384, 64]⟩ : Shape).Idx) : ((cfg0.win 5).blk t).view.emb i = i := by
  have e := idx5 t
  funext a
  apply Fin.ext
  match a with
  | ⟨0, _⟩ => show win0_5.index t (0 : Fin 2) * 16384 + 1 * (i 0).val = (i 0).val; rw [e]; show 0 * 16384 + 1 * (i 0).val = (i 0).val; omega
  | ⟨1, _⟩ => show win0_5.index t (1 : Fin 2) * 64 + 1 * (i 1).val = (i 1).val; rw [e]; show 0 * 64 + 1 * (i 1).val = (i 1).val; omega

theorem emb6 (t : Fin cfg0.N) (i : (⟨2, ![16384, 64]⟩ : Shape).Idx) : ((cfg0.win 6).blk t).view.emb i = i := by
  have e := idx6 t
  funext a
  apply Fin.ext
  match a with
  | ⟨0, _⟩ => show win0_6.index t (0 : Fin 2) * 16384 + 1 * (i 0).val = (i 0).val; rw [e]; show 0 * 16384 + 1 * (i 0).val = (i 0).val; omega
  | ⟨1, _⟩ => show win0_6.index t (1 : Fin 2) * 64 + 1 * (i 1).val = (i 1).val; rw [e]; show 0 * 64 + 1 * (i 1).val = (i 1).val; omega

theorem emb7 (t : Fin cfg0.N) (i : (⟨3, ![24, 16384, 128]⟩ : Shape).Idx) : ((cfg0.win 7).blk t).view.emb i = i := by
  have e := idx7 t
  funext a
  apply Fin.ext
  match a with
  | ⟨0, _⟩ => show win0_7.index t (0 : Fin 3) * 24 + 1 * (i 0).val = (i 0).val; rw [e]; show 0 * 24 + 1 * (i 0).val = (i 0).val; omega
  | ⟨1, _⟩ => show win0_7.index t (1 : Fin 3) * 16384 + 1 * (i 1).val = (i 1).val; rw [e]; show 0 * 16384 + 1 * (i 1).val = (i 1).val; omega
  | ⟨2, _⟩ => show win0_7.index t (2 : Fin 3) * 128 + 1 * (i 2).val = (i 2).val; rw [e]; show 0 * 128 + 1 * (i 2).val = (i 2).val; omega

theorem emb8 (t : Fin cfg0.N) (i : (⟨2, ![16384, 256]⟩ : Shape).Idx) : ((cfg0.win 8).blk t).view.emb i = i := by
  have e := idx8 t
  funext a
  apply Fin.ext
  match a with
  | ⟨0, _⟩ => show win0_8.index t (0 : Fin 2) * 16384 + 1 * (i 0).val = (i 0).val; rw [e]; show 0 * 16384 + 1 * (i 0).val = (i 0).val; omega
  | ⟨1, _⟩ => show win0_8.index t (1 : Fin 2) * 256 + 1 * (i 1).val = (i 1).val; rw [e]; show 0 * 256 + 1 * (i 1).val = (i 1).val; omega

theorem emb9 (t : Fin cfg0.N) (i : (⟨2, ![16384, 2]⟩ : Shape).Idx) : ((cfg0.win 9).blk t).view.emb i = i := by
  have e := idx9 t
  funext a
  apply Fin.ext
  match a with
  | ⟨0, _⟩ => show win0_9.index t (0 : Fin 2) * 16384 + 1 * (i 0).val = (i 0).val; rw [e]; show 0 * 16384 + 1 * (i 0).val = (i 0).val; omega
  | ⟨1, _⟩ => show win0_9.index t (1 : Fin 2) * 2 + 1 * (i 1).val = (i 1).val; rw [e]; show 0 * 2 + 1 * (i 1).val = (i 1).val; omega

theorem emb10 (t : Fin cfg0.N) (i : (⟨2, ![16384, 256]⟩ : Shape).Idx) : ((cfg0.win 10).blk t).view.emb i = i := by
  have e := idx10 t
  funext a
  apply Fin.ext
  match a with
  | ⟨0, _⟩ => show win0_10.index t (0 : Fin 2) * 16384 + 1 * (i 0).val = (i 0).val; rw [e]; show 0 * 16384 + 1 * (i 0).val = (i 0).val; omega
  | ⟨1, _⟩ => show win0_10.index t (1 : Fin 2) * 256 + 1 * (i 1).val = (i 1).val; rw [e]; show 0 * 256 + 1 * (i 1).val = (i 1).val; omega

theorem emb11 (t : Fin cfg0.N) (i : (⟨2, ![16384, 2]⟩ : Shape).Idx) : ((cfg0.win 11).blk t).view.emb i = i := by
  have e := idx11 t
  funext a
  apply Fin.ext
  match a with
  | ⟨0, _⟩ => show win0_11.index t (0 : Fin 2) * 16384 + 1 * (i 0).val = (i 0).val; rw [e]; show 0 * 16384 + 1 * (i 0).val = (i 0).val; omega
  | ⟨1, _⟩ => show win0_11.index t (1 : Fin 2) * 2 + 1 * (i 1).val = (i 1).val; rw [e]; show 0 * 2 + 1 * (i 1).val = (i 1).val; omega

theorem iblk0 (c : Dev nD) (t : Fin cfg0.N) (r : Fin 16384) (k : Fin 6144) :
    iblk m c 0 t (ix2 r k) = m ((c : Thread nD τ).loc main_arg0) (ix2 r k) := by
  show V m c main_arg0 (((cfg0.win 0).blk t).view.emb (ix2 r k)) = _
  rw [emb0 t (ix2 r k)]
  rw [V_main_arg0]

theorem iblk1 (c : Dev nD) (t : Fin cfg0.N) (r : Fin 16384) (k : Fin 1) :
    iblk m c 1 t (ix2 r k) = m ((c : Thread nD τ).loc main_arg1) (ix1 r) := by
  show V m c main_v0 (((cfg0.win 1).blk t).view.emb (ix2 r k)) = _
  rw [emb1 t (ix2 r k)]
  entry_read
  pointwise

theorem iblk2 (c : Dev nD) (t : Fin cfg0.N) (r : Fin 6144) (k : Fin 3584) :
    iblk m c 2 t (ix2 r k) = m ((c : Thread nD τ).loc main_arg2) (ix2 r k) := by
  show V m c main_arg2 (((cfg0.win 2).blk t).view.emb (ix2 r k)) = _
  rw [emb2 t (ix2 r k)]
  rw [V_main_arg2]

theorem iblk3 (c : Dev nD) (t : Fin cfg0.N) (r : Fin 1) (k : Fin 3584) :
    iblk m c 3 t (ix2 r k) = m ((c : Thread nD τ).loc main_arg3) (ix1 k) := by
  show V m c main_v1 (((cfg0.win 3).blk t).view.emb (ix2 r k)) = _
  rw [emb3 t (ix2 r k)]
  entry_read
  pointwise

theorem iblk4 (c : Dev nD) (t : Fin cfg0.N) (r : Fin 1) (k : Fin 3584) :
    iblk m c 4 t (ix2 r k) = m ((c : Thread nD τ).loc main_arg4) (ix1 k) := by
  show V m c main_v2 (((cfg0.win 4).blk t).view.emb (ix2 r k)) = _
  rw [emb4 t (ix2 r k)]
  entry_read
  pointwise

theorem iblk5 (c : Dev nD) (t : Fin cfg0.N) : iblk m c 5 t = m ((c : Thread nD τ).loc main_arg5) := by
  funext y
  change Shape.Idx ⟨2, ![16384, 64]⟩ at y
  show V m c main_arg5 (((cfg0.win 5).blk t).view.emb y) = _
  rw [emb5 t y]
  rw [V_main_arg5]

theorem iblk6 (c : Dev nD) (t : Fin cfg0.N) : iblk m c 6 t = m ((c : Thread nD τ).loc main_arg6) := by
  funext y
  change Shape.Idx ⟨2, ![16384, 64]⟩ at y
  show V m c main_arg6 (((cfg0.win 6).blk t).view.emb y) = _
  rw [emb6 t y]
  rw [V_main_arg6]

/-- The layer of the one point's blocks is the layer of the argument arrays. -/
theorem layer (c : Dev nD) (t : Fin cfg0.N) :
    IsLayer (m ((c : Thread nD τ).loc main_arg0)) (m ((c : Thread nD τ).loc main_arg1)) (m ((c : Thread nD τ).loc main_arg2)) (m ((c : Thread nD τ).loc main_arg3)) (m ((c : Thread nD τ).loc main_arg4)) (k0_pay1 (iblk m c 0 t) (iblk m c 1 t) (iblk m c 2 t) (iblk m c 3 t) (iblk m c 4 t)) := by
  intro h r k
  refine (layer_apply _ _ _ _ _ r _).trans ?_
  unfold headAt linAt
  simp only [iblk0, iblk1, iblk2, iblk3, iblk4]

/-- The one grid point. -/
def t₀ : Fin cfg0.N := ⟨0, by decide⟩

/-- What the one point writes back of the query heads. -/
theorem flushed7 (c : Dev nD) (t : Fin cfg0.N) :
    (dats m 0 c).flushed 7 t = ((cfg0.win 7).blk t).view.read (Elt Ideal) (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 7).cut (grid0.coords t) ((dats m 0 c).after 7 t) = _
  rw [after0_7, iblk5, iblk6]
  funext y
  change Shape.Idx ⟨3, ![24, 16384, 128]⟩ at y
  refine (congrFun (out7_eq (m ((c : Thread nD τ).loc main_arg5)) (m ((c : Thread nD τ).loc main_arg6)) _ _ _ _ _ (layer m c t)) y).trans ?_
  generalize queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  exact congrArg G (emb7 t y).symm

/-- The query heads after the run. -/
theorem final7 (c : Dev nD) : (dats m 0 c).arrAt 7 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed7 m c t) (fun i => ⟨t₀, by decide +kernel, by
    have hm := View.emb_mem_set ((cfg0.win 7).blk t₀).view i
    rw [emb7 t₀ i] at hm
    exact hm⟩)

/-- What the one point writes back of the key codes. -/
theorem flushed8 (c : Dev nD) (t : Fin cfg0.N) :
    (dats m 0 c).flushed 8 t = ((cfg0.win 8).blk t).view.read (Elt Ideal) (keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 8).cut (grid0.coords t) ((dats m 0 c).after 8 t) = _
  rw [after0_8, iblk5, iblk6]
  funext y
  change Shape.Idx ⟨2, ![16384, 256]⟩ at y
  refine (congrFun (out8_eq (m ((c : Thread nD τ).loc main_arg5)) (m ((c : Thread nD τ).loc main_arg6)) _ _ _ _ _ (layer m c t)) y).trans ?_
  generalize keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  exact congrArg G (emb8 t y).symm

/-- The key codes after the run. -/
theorem final8 (c : Dev nD) : (dats m 0 c).arrAt 8 cfg0.N = keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => flushed8 m c t) (fun i => ⟨t₀, by decide +kernel, by
    have hm := View.emb_mem_set ((cfg0.win 8).blk t₀).view i
    rw [emb8 t₀ i] at hm
    exact hm⟩)

/-- What the one point writes back of the key scales. -/
theorem flushed9 (c : Dev nD) (t : Fin cfg0.N) :
    (dats m 0 c).flushed 9 t = ((cfg0.win 9).blk t).view.read (Elt Ideal) (keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 9).cut (grid0.coords t) ((dats m 0 c).after 9 t) = _
  rw [after0_9, iblk5, iblk6]
  funext y
  change Shape.Idx ⟨2, ![16384, 2]⟩ at y
  refine (congrFun (out9_eq (m ((c : Thread nD τ).loc main_arg5)) (m ((c : Thread nD τ).loc main_arg6)) _ _ _ _ _ (layer m c t)) y).trans ?_
  generalize keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G
  exact congrArg G (emb9 t y).symm

/-- The key scales after the run. -/
theorem final9 (c : Dev nD) : (dats m 0 c).arrAt 9 cfg0.N = keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 9 _ (fun t _ => flushed9 m c t) (fun i => ⟨t₀, by decide +kernel, by
    have hm := View.emb_mem_set ((cfg0.win 9).blk t₀).view i
    rw [emb9 t₀ i] at hm
    exact hm⟩)

/-- What the one point writes back of the value codes. -/
theorem flushed10 (c : Dev nD) (t : Fin cfg0.N) :
    (dats m 0 c).flushed 10 t = ((cfg0.win 10).blk t).view.read (Elt Ideal) (valueCodes (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 10).cut (grid0.coords t) ((dats m 0 c).after 10 t) = _
  rw [after0_10, iblk5, iblk6]
  funext y
  change Shape.Idx ⟨2, ![16384, 256]⟩ at y
  refine (congrFun (out10_eq (m ((c : Thread nD τ).loc main_arg5)) (m ((c : Thread nD τ).loc main_arg6)) _ _ _ _ _ (layer m c t)) y).trans ?_
  generalize valueCodes (m ((c : Thread nD τ).loc main_arg0)) (m ((c : Thread nD τ).loc main_arg1)) (m ((c : Thread nD τ).loc main_arg2)) (m ((c : Thread nD τ).loc main_arg3)) (m ((c : Thread nD τ).loc main_arg4)) = G
  exact congrArg G (emb10 t y).symm

/-- The value codes after the run. -/
theorem final10 (c : Dev nD) : (dats m 0 c).arrAt 10 cfg0.N = valueCodes (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 10 _ (fun t _ => flushed10 m c t) (fun i => ⟨t₀, by decide +kernel, by
    have hm := View.emb_mem_set ((cfg0.win 10).blk t₀).view i
    rw [emb10 t₀ i] at hm
    exact hm⟩)

/-- What the one point writes back of the value scales. -/
theorem flushed11 (c : Dev nD) (t : Fin cfg0.N) :
    (dats m 0 c).flushed 11 t = ((cfg0.win 11).blk t).view.read (Elt Ideal) (valueScales (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 11).cut (grid0.coords t) ((dats m 0 c).after 11 t) = _
  rw [after0_11, iblk5, iblk6]
  funext y
  change Shape.Idx ⟨2, ![16384, 2]⟩ at y
  refine (congrFun (out11_eq (m ((c : Thread nD τ).loc main_arg5)) (m ((c : Thread nD τ).loc main_arg6)) _ _ _ _ _ (layer m c t)) y).trans ?_
  generalize valueScales (m ((c : Thread nD τ).loc main_arg0)) (m ((c : Thread nD τ).loc main_arg1)) (m ((c : Thread nD τ).loc main_arg2)) (m ((c : Thread nD τ).loc main_arg3)) (m ((c : Thread nD τ).loc main_arg4)) = G
  exact congrArg G (emb11 t y).symm

/-- The value scales after the run. -/
theorem final11 (c : Dev nD) : (dats m 0 c).arrAt 11 cfg0.N = valueScales (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 11 _ (fun t _ => flushed11 m c t) (fun i => ⟨t₀, by decide +kernel, by
    have hm := View.emb_mem_set ((cfg0.win 11).blk t₀).view i
    rw [emb11 t₀ i] at hm
    exact hm⟩)

/-- The run: the results are the closed forms, the arguments are unchanged. -/
theorem run : θ_run defs (onTc (τ := τ) (main (F := Ideal))) ⟨m, fun _ => 0, ρ⟩ fun r => ∀ c : Dev nD,
      r.2.mem ((c : Thread nD τ).loc main_v3_0) = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_1) = keyCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_2) = keyScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v3_3) = valueCodes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_4) = valueScales (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 7).trans (final7 m c), ((h.2 c).1 8).trans (final8 m c), ((h.2 c).1 9).trans (final9 m c), ((h.2 c).1 10).trans (final10 m c), ((h.2 c).1 11).trans (final11 m c), h.1 c⟩)
    (θ_run_and (unchanged m ρ) (run_main m ρ))

end Cert.QkvRefIdeal.Blocks

open Idealize.ShloMosaic Cert.Common in
/-- Kernel and reference leave the same arrays from the same arguments. -/
theorem Cert.QkvIdeal.Blocks.algebraic : Cert.algebraic_QkvIdeal_QkvRefIdeal := by
  intro m g m' g' hpre h
  refine ⟨fun c => _, fun c => _, fun c => _, fun c => _, fun c => _, Cert.QkvIdeal.Blocks.run m g, ?_⟩
  refine (θ_run _ _ _).mono (fun r hr c => ⟨((hr c).1).trans ?_, ((hr c).2.1).trans ?_, ((hr c).2.2.1).trans ?_,
    ((hr c).2.2.2.1).trans ?_, ((hr c).2.2.2.2.1).trans ?_, (hr c).2.2.2.2.2⟩) (Cert.QkvRefIdeal.Blocks.run m' g')
  · obtain ⟨e0, e1, e2, e3, e4, e5, e6⟩ := h c
    rw [e0, e1, e2, e3, e4, e5, e6]
  · obtain ⟨e0, e1, e2, e3, e4, e5, e6⟩ := h c
    rw [e0, e1, e2, e3, e4, e5, e6]
  · obtain ⟨e0, e1, e2, e3, e4, e5, e6⟩ := h c
    rw [e0, e1, e2, e3, e4, e5, e6]
  · obtain ⟨e0, e1, e2, e3, e4, e5, e6⟩ := h c
    rw [e0, e1, e2, e3, e4]
  · obtain ⟨e0, e1, e2, e3, e4, e5, e6⟩ := h c
    rw [e0, e1, e2, e3, e4]
end
-- ==== Proof.SlotsRef.lean ====
/-
  The cache slots: token `j` of a row goes to slot `start + j` modulo the cache's 4096 slots. The frames of the host line,
  what it and its reference leave, and the two compared.
-/
module

public import proofs.«01_k».proof.Defs
public import proofs.«01_k».proof.Proof.Common
public import proofs.«01_k».proof.Proof.Gen.Slots.Run
public import proofs.«01_k».proof.Proof.Gen.SlotsIdeal.Run
public import proofs.«01_k».proof.Proof.Gen.SlotsRefIdeal.Value
public import Idealize.ShloMosaic.Lib.Claim
public import Idealize.ShloMosaic.Lib.Affine

@[expose] public section

set_option maxRecDepth 16384

noncomputable section

namespace Cert.Common

open Idealize.ShloMosaic

/-- The slot of a word: its remainder by 4096 with the divisor's sign, a negative remainder moved up by 4096. -/
def slotOf (x : BitVec 32) : BitVec 32 :=
  if (x.srem 4096#32).slt 0#32 then x.srem 4096#32 + 4096#32 else x.srem 4096#32

/-- The slots: row `b`'s token `j` at the slot of `start b + j`. -/
def slotsOf (x : (⟨1, ![8]⟩ : Shape).Idx → BitVec 32) : (⟨2, ![8, 2048]⟩ : Shape).Idx → BitVec 32 :=
  fun i => slotOf (x (ix1 (i 0)) + BitVec.ofNat 32 (i 1).val)

/-- The remainder by 4096, on either unit: no corner case. -/
theorem rem_eq (u : ArithUnit) (x : BitVec 32) : IntOp.remsi u x 4096#32 = x.srem 4096#32 :=
  IntOp.remsi_of_pos u (by decide)

/-- The divisor behind its guard against zero. -/
theorem guard : (Scalar.select (IntOp.cmpi .eq 4096#32 0#32) 1#32 4096#32 : BitVec 32) = 4096#32 := by decide

/-- The remainder's correction, the two signs compared: a remainder that is not zero and of the other sign than 4096
    is moved up. -/
theorem fix_ne (u : ArithUnit) (x : BitVec 32) :
    Scalar.select (IntOp.andi (IntOp.cmpi .ne (IntOp.cmpi .slt (IntOp.remsi u x 4096#32) 0#32) (IntOp.cmpi .slt 4096#32 0#32))
      (IntOp.cmpi .ne (IntOp.remsi u x 4096#32) 0#32)) (IntOp.addi (IntOp.remsi u x 4096#32) 4096#32) (IntOp.remsi u x 4096#32) = slotOf x := by
  rw [rem_eq]
  unfold slotOf
  generalize x.srem 4096#32 = r
  by_cases h : r.slt 0#32 = true
  · have h0 : r ≠ 0#32 := by rintro rfl; exact absurd h (by decide)
    have h1 : (r != 0#32) = true := by simpa using h0
    simp [Scalar.select, IntOp.addi, IntOp.andi, IntOp.cmpi, h, h1]
  · have h2 : r.slt 0#32 = false := by simpa using h
    simp [Scalar.select, IntOp.addi, IntOp.andi, IntOp.cmpi, h2]

/-- The same with the signs' exclusive or. -/
theorem fix_xor (u : ArithUnit) (x : BitVec 32) :
    Scalar.select (IntOp.andi (IntOp.xori (IntOp.cmpi .slt (IntOp.remsi u x 4096#32) 0#32) (IntOp.cmpi .slt 4096#32 0#32))
      (IntOp.cmpi .ne (IntOp.remsi u x 4096#32) 0#32)) (IntOp.addi (IntOp.remsi u x 4096#32) 4096#32) (IntOp.remsi u x 4096#32) = slotOf x := by
  rw [← fix_ne u x]
  have hx : ∀ a : BitVec 1, IntOp.xori a (IntOp.cmpi .slt 4096#32 0#32) = IntOp.cmpi .ne a (IntOp.cmpi .slt 4096#32 0#32) := by decide
  rw [hx]

end Cert.Common

namespace Cert.Slots.Gen

open Cert.Slots Idealize.ShloMosaic Idealize.ShloMosaic.TcCoe Idealize.SL.Sem

variable {F : FTy → Type} [FloatOps F] (m : (ℓ : Loc nD τ sig) → Buf (Elt F) ℓ) (ρ : Dev nD → PrngReg)

/-- The frame: the argument ends unchanged, and the program has no counter. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (Value.run m ρ)

end Cert.Slots.Gen

namespace Cert.SlotsIdeal.Gen

open Cert.SlotsIdeal Idealize.ShloMosaic Idealize.ShloMosaic.TcCoe Idealize.SL.Sem

variable {F : FTy → Type} [FloatOps F] (m : (ℓ : Loc nD τ sig) → Buf (Elt F) ℓ) (ρ : Dev nD → PrngReg)

/-- The frame: the argument ends unchanged, and the program has no counter. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (Value.run m ρ)

end Cert.SlotsIdeal.Gen

namespace Cert.SlotsIdeal.Blocks

open Cert.SlotsIdeal Cert.SlotsIdeal.Gen Idealize.ShloMosaic Idealize.ShloMosaic.TcCoe Idealize.SL.Sem
open Idealize.ShloMosaic.Pointwise Cert.Common

variable (m : (ℓ : Loc nD τ sig) → Buf (Elt Ideal) ℓ) (ρ : Dev nD → PrngReg)

/-- The run: the result array holds the slots, the argument is unchanged. -/
theorem run : θ_run defs (onTc (τ := τ) (main (F := Ideal))) ⟨m, fun _ => 0, ρ⟩ fun r => ∀ c : Dev nD,
      r.2.mem ((c : Thread nD τ).loc main_v6) = slotsOf (m ((c : Thread nD τ).loc main_arg0))
      ∧ r.2.mem ((c : Thread nD τ).loc main_arg0) = m ((c : Thread nD τ).loc main_arg0) := by
  refine (θ_run defs _ _).mono (fun r h c => ⟨((h c).1).trans ?_, (h c).2⟩) (Value.run m ρ)
  funext i
  change Shape.Idx ⟨2, ![8, 2048]⟩ at i
  idx_vars i
  pointwise
  have hg : (Scalar.select (IntOp.cmpi .eq (id (constantI S_ 32 4096#32) ix0) 0#32) 1#32 (id (constantI S_ 32 4096#32) ix0) : BitVec 32) = 4096#32 := guard
  rw [hg]
  exact fix_ne .host _

end Cert.SlotsIdeal.Blocks

namespace Cert.SlotsRefIdeal.Blocks

open Cert.SlotsRefIdeal Cert.SlotsRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-- The reference's one body, element by element. -/
theorem out_apply (x0 : Vec Ideal S8x1 .i32) (r : Fin 8) (n : Fin 2048) :
    out0_1 x0 (ix2 r n) = slotOf (x0 (ix2 r 0) + BitVec.ofNat 32 n.val) := by
  unfold out0_1
  rw [View.canon_unit_zero hz]
  simp only [View.ld_unit_zero (S := S8x1) hz]
  pointwise [k0_pay1]
  have hg : (Scalar.select (Scalar.cmpi .eq 4096#32 0#32) 1#32 4096#32 : BitVec 32) = 4096#32 := guard
  rw [hg]
  exact fix_xor .vector _

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)

/-- The one point's block of the argument is the whole column. -/
theorem iblk0 (c : Dev nD) (t : Fin cfg0.N) (r : Fin 8) (k : Fin 1) :
    iblk m c 0 t (ix2 r k) = m ((c : Thread nD τ).loc main_arg0) (ix1 r) := by
  have e := idx0 t
  have h : ((cfg0.win 0).blk t).view.emb (ix2 r k) = (ix2 r k : (⟨2, ![8, 1]⟩ : Shape).Idx) := by
    funext a
    apply Fin.ext
    match a with
    | ⟨0, _⟩ => show win0_0.index t (0 : Fin 2) * 8 + 1 * r.val = r.val; rw [e]; show 0 * 8 + 1 * r.val = r.val; omega
    | ⟨1, _⟩ => show win0_0.index t (1 : Fin 2) * 1 + 1 * k.val = k.val; rw [e]; show 0 * 1 + 1 * k.val = k.val; omega
  show V m c main_v0 (((cfg0.win 0).blk t).view.emb (ix2 r k)) = _
  rw [h]
  entry_read
  pointwise

/-- Its block of the result is the whole array. -/
theorem emb_out (t : Fin cfg0.N) (i : (⟨2, ![8, 2048]⟩ : Shape).Idx) : ((cfg0.win 1).blk t).view.emb i = i := by
  have e := idx1 t
  funext a
  apply Fin.ext
  match a with
  | ⟨0, _⟩ => show win0_1.index t (0 : Fin 2) * 8 + 1 * (i 0).val = (i 0).val; rw [e]; show 0 * 8 + 1 * (i 0).val = (i 0).val; omega
  | ⟨1, _⟩ => show win0_1.index t (1 : Fin 2) * 2048 + 1 * (i 1).val = (i 1).val; rw [e]; show 0 * 2048 + 1 * (i 1).val = (i 1).val; omega

/-- What the one point writes back. -/
theorem flushed_eq (c : Dev nD) (t : Fin cfg0.N) :
    (dats m 0 c).flushed 1 t = ((cfg0.win 1).blk t).view.read (Elt Ideal) (slotsOf (m ((c : Thread nD τ).loc main_arg0))) := by
  rw [Value.flushed1]
  funext y
  change Shape.Idx ⟨2, ![8, 2048]⟩ at y
  refine Eq.trans ?_ (congrArg (slotsOf (m ((c : Thread nD τ).loc main_arg0))) (emb_out t y).symm)
  idx_vars y
  refine (out_apply _ y0 y1).trans ?_
  rw [iblk0]
  rfl

/-- The one grid point. -/
def t₀ : Fin cfg0.N := ⟨0, by decide⟩

/-- The result array after the run. -/
theorem final (c : Dev nD) : (dats m 0 c).arrAt 1 cfg0.N = slotsOf (m ((c : Thread nD τ).loc main_arg0)) :=
  (dats m 0 c).arrAt_eq_of_cover 1 _ (fun t _ => flushed_eq m c t) (fun i => ⟨t₀, by decide +kernel, by
    have hm := View.emb_mem_set ((cfg0.win 1).blk t₀).view i
    rw [emb_out t₀ i] at hm
    exact hm⟩)

/-- The run: the result array holds the slots, the argument is unchanged. -/
theorem run : θ_run defs (onTc (τ := τ) (main (F := Ideal))) ⟨m, fun _ => 0, ρ⟩ fun r => ∀ c : Dev nD,
      r.2.mem ((c : Thread nD τ).loc main_v1) = slotsOf (m ((c : Thread nD τ).loc main_arg0))
      ∧ r.2.mem ((c : Thread nD τ).loc main_arg0) = m ((c : Thread nD τ).loc main_arg0) :=
  (θ_run defs _ _).mono (fun r h c => ⟨((h c).1).trans (final m c), (h c).2⟩) (Value.run_blocks m ρ)

end Cert.SlotsRefIdeal.Blocks

open Idealize.ShloMosaic Cert.Common in
/-- Kernel and reference leave the same array from the same arguments. -/
theorem Cert.SlotsIdeal.Blocks.algebraic : Cert.algebraic_SlotsIdeal_SlotsRefIdeal := by
  intro m g m' g' hpre h
  refine ⟨fun c => _, Cert.SlotsIdeal.Blocks.run m g, ?_⟩
  refine (θ_run _ _ _).mono (fun r hr c => ⟨((hr c).1).trans ?_, (hr c).2⟩) (Cert.SlotsRefIdeal.Blocks.run m' g')
  rw [h c]
end
-- ==== Proof.OprojBlock.lean ====
/-
  The first residual product: what one grid point leaves in its output block, read element by element over
  the extended reals. The first point of a row of blocks (case A) widens the int8 codes into the carried scratch; the
  other points (case B) find them there.
-/
module

public import proofs.«01_k».proof.Proof.Gen.OprojIdeal.Frame
public import proofs.«01_k».proof.Proof.Common
public import Idealize.ShloMosaic.Lib.Tactic

@[expose] public section

set_option maxRecDepth 16384

noncomputable section

namespace Cert.OprojIdeal.Blocks

open Cert.OprojIdeal Cert.OprojIdeal.Gen Idealize.ShloMosaic Idealize.ShloMosaic.TcCoe Idealize.SL.Sem
open Idealize.ShloMosaic.Pointwise Cert.Common

/-- What a point leaves in its output block: the residual plus the scaled and biased dot product. -/
def blockOf (s : Vec Ideal S1024x3072 .bf16) (x1 : Vec Ideal S1024x128 .f32) (x2 : Vec Ideal S3072x1024 .i8)
    (x3 x4 : Vec Ideal S1x1024 .f32) (x5 : Vec Ideal S1024x1024 .bf16) : Vec Ideal S1024x1024 .f32 := fun y =>
  x5 y + tileAt s x1 x2 x3 x4 (y 0) (y 1)

/-- Case A: the 8 stores of 128 columns are the column bands of `blockOf`. -/
theorem out_A (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x3072 .bf16) (harg9 : arg9.IsWhole) (hc0 : cond0_0 i)
    (x0 : Vec Ideal S1024x3072 .i8) (x1 : Vec Ideal S1024x128 .f32) (x2 : Vec Ideal S3072x1024 .i8) (x3 : Vec Ideal S1x1024 .f32) (x4 : Vec Ideal S1x1024 .f32) (x5 : Vec Ideal S1024x1024 .bf16) :
    out0_A_6 c i arg2 harg2 arg3 harg3 arg4 harg4 arg5 harg5 arg6 harg6 arg7 harg7 arg8 harg8 arg9 harg9 hc0 x0 x1 x2 x3 x4 x5 = blockOf (k0_pay3 x0) x1 x2 x3 x4 x5 := by
  have hcov := cover0_A_6 c i arg2 harg2 arg3 harg3 arg4 harg4 arg5 harg5 arg6 harg6 arg7 harg7 arg8 harg8 arg9 harg9 hc0 x0 x1 x2 x3 x4 x5
  unfold out0_A_6
  rw [View.read_writes_eq_canon _ _ _ hcov]
  funext y
  refine View.canon_apply_of_pieces (blockOf (k0_pay3 x0) x1 x2 x3 x4 x5) _ ?_ y (hcov y)
  unfold kernelRun0_A
  dsimp only
  sl_unfold_words
  simp only [View.readAt_eq_ld, View.readCov_unit_zero (S := S1024x3072) _ hz, harg2.read_unread, harg3.read_unread, harg4.read_unread, harg5.read_unread, harg6.read_unread, harg7.read_unread, harg9.read_unread,
    View.ld_unit_zero (S := S1024x3072) hz, View.ld_unit_zero (S := S3072x1024) hz, View.ld_unit_zero (S := S1024x128) hz]
  generalize k0_pay3 x0 = s
  intro p hp
  simp only [List.mem_cons, List.not_mem_nil, or_false] at hp
  rcases hp with rfl | rfl | rfl | rfl | rfl | rfl | rfl | rfl
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (896 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (768 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (640 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (512 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (384 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (256 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (128 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (q1.val) % 128 = q1.val by omega)]

/-- Case B: the 8 stores of 128 columns are the column bands of `blockOf`. -/
theorem out_B (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x3072 .bf16) (harg9 : arg9.IsWhole) (hc0 : ¬cond0_0 i)
    (x0 : Vec Ideal S1024x3072 .i8) (x1 : Vec Ideal S1024x128 .f32) (x2 : Vec Ideal S3072x1024 .i8) (x3 : Vec Ideal S1x1024 .f32) (x4 : Vec Ideal S1x1024 .f32) (x5 : Vec Ideal S1024x1024 .bf16) (xs0 : Vec Ideal S1024x3072 .bf16) :
    out0_B_6 c i arg2 harg2 arg3 harg3 arg4 harg4 arg5 harg5 arg6 harg6 arg7 harg7 arg8 harg8 arg9 harg9 hc0 x0 x1 x2 x3 x4 x5 xs0 = blockOf xs0 x1 x2 x3 x4 x5 := by
  have hcov := cover0_B_6 c i arg2 harg2 arg3 harg3 arg4 harg4 arg5 harg5 arg6 harg6 arg7 harg7 arg8 harg8 arg9 harg9 hc0 x0 x1 x2 x3 x4 x5 xs0
  unfold out0_B_6
  rw [View.read_writes_eq_canon _ _ _ hcov]
  funext y
  refine View.canon_apply_of_pieces (blockOf xs0 x1 x2 x3 x4 x5) _ ?_ y (hcov y)
  unfold kernelRun0_B
  dsimp only
  sl_unfold_words
  simp only [View.readAt_eq_ld, View.readCov_unit_zero (S := S1024x3072) _ hz, harg2.read_unread, harg3.read_unread, harg4.read_unread, harg5.read_unread, harg6.read_unread, harg7.read_unread, harg9.read_unread,
    View.ld_unit_zero (S := S1024x3072) hz, View.ld_unit_zero (S := S3072x1024) hz, View.ld_unit_zero (S := S1024x128) hz]
  intro p hp
  simp only [List.mem_cons, List.not_mem_nil, or_false] at hp
  rcases hp with rfl | rfl | rfl | rfl | rfl | rfl | rfl | rfl
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (896 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (768 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (640 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (512 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (384 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (256 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (128 + q1.val) % 128 = q1.val by omega)]
  · intro q
    change Shape.Idx ⟨2, ![1024, 128]⟩ at q
    idx_vars q
    rw [emb_lane]
    pointwise [blockOf, tileAt, k0_pay1, k0_pay2, k0_pay4, k0_pay5, k0_pay6, k0_pay7, k0_pay8, k0_pay9, k0_pay10, k0_pay11, k0_pay12, k0_pay13, k0_pay14]
    rw [lane_eq q1 _ _ (show (q1.val) % 128 = q1.val by omega)]

/-- Case A leaves the widened codes in the carried scratch. -/
theorem sout_A (c : Dev nD) (i : grid0.Coords) (arg2 : Memref sig .tc .vmem S1024x3072 .i8) (harg2 : arg2.IsWhole) (arg3 : Memref sig .tc .vmem S1024x128 .f32) (harg3 : arg3.IsWhole) (arg4 : Memref sig .tc .vmem S3072x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x3072 .bf16) (harg9 : arg9.IsWhole) (hc0 : cond0_0 i)
    (x0 : Vec Ideal S1024x3072 .i8) (x1 : Vec Ideal S1024x128 .f32) (x2 : Vec Ideal S3072x1024 .i8) (x3 : Vec Ideal S1x1024 .f32) (x4 : Vec Ideal S1x1024 .f32) (x5 : Vec Ideal S1024x1024 .bf16) :
    sout0_A_0 c i arg2 harg2 arg3 harg3 arg4 harg4 arg5 harg5 arg6 harg6 arg7 harg7 arg8 harg8 arg9 harg9 hc0 x0 x1 x2 x3 x4 x5 = k0_pay3 x0 := by
  have hcov := scover0_A_0 c i arg2 harg2 arg3 harg3 arg4 harg4 arg5 harg5 arg6 harg6 arg7 harg7 arg8 harg8 arg9 harg9 hc0 x0 x1 x2 x3 x4 x5
  unfold sout0_A_0
  rw [View.read_writes_eq_canon _ _ _ hcov]
  unfold kernelRun0_A
  dsimp only
  sl_unfold_words
  rw [View.canon_unit_zero hz]
  simp only [View.readAt_eq_ld, harg2.read_unread, View.ld_unit_zero (S := S1024x3072) hz]

/-- The widened codes, element by element. -/
theorem widen_apply (x0 : Vec Ideal S1024x3072 .i8) (r : Fin 1024) (k : Fin 3072) :
    k0_pay3 x0 (ix2 r k) = FloatOps.sitofp (F := Ideal) .bf16 (x0 (ix2 r k)) := by
  pointwise [k0_pay3]

end Cert.OprojIdeal.Blocks
end
-- ==== Proof.OprojRun.lean ====
/-
  The first residual product: its result array after the run, as one closed form of the argument arrays.
-/
module

public import proofs.«01_k».proof.Proof.OprojBlock
public import proofs.«01_k».proof.Proof.Gen.OprojIdeal.Value
public import Idealize.ShloMosaic.Lib.Claim

@[expose] public section

set_option maxRecDepth 16384

noncomputable section

namespace Cert.OprojIdeal.Blocks

open Cert.OprojIdeal Cert.OprojIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages at point `t` of the 16 by 6 grid -/

theorem idx0 : ∀ t : Fin cfg0.N, win0_0.index t = ![t.val / 6, 0] := (by decide +kernel : ∀ t : Fin grid0.N, _)
theorem idx1 : ∀ t : Fin cfg0.N, win0_1.index t = ![t.val / 6, 0] := (by decide +kernel : ∀ t : Fin grid0.N, _)
theorem idx2 : ∀ t : Fin cfg0.N, win0_2.index t = ![0, t.val % 6] := (by decide +kernel : ∀ t : Fin grid0.N, _)
theorem idx3 : ∀ t : Fin cfg0.N, win0_3.index t = ![0, t.val % 6] := (by decide +kernel : ∀ t : Fin grid0.N, _)
theorem idx4 : ∀ t : Fin cfg0.N, win0_4.index t = ![0, t.val % 6] := (by decide +kernel : ∀ t : Fin grid0.N, _)
theorem idx5 : ∀ t : Fin cfg0.N, win0_5.index t = ![t.val / 6, t.val % 6] := (by decide +kernel : ∀ t : Fin grid0.N, _)
theorem idx6 : ∀ t : Fin cfg0.N, win0_6.index t = ![t.val / 6, t.val % 6] := (by decide +kernel : ∀ t : Fin grid0.N, _)

/-! ## Each input block, element by element, in the argument arrays -/

theorem iblk0 (c : Dev nD) (t : Fin cfg0.N) (r : Fin 1024) (k : Fin 3072) (R : Fin 16384) (hR : R.val = 1024 * (t.val / 6) + r.val) :
    iblk m c 0 t (ix2 r k) = m ((c : Thread nD τ).loc main_arg0) (ix2 R k) := by
  have e := idx0 t
  have h : ((cfg0.win 0).blk t).view.emb (ix2 r k) = (ix2 R k : (⟨2, ![16384, 3072]⟩ : Shape).Idx) := by
    funext a
    apply Fin.ext
    match a with
    | ⟨0, _⟩ => show win0_0.index t (0 : Fin 2) * 1024 + 1 * r.val = R.val; rw [e]; show t.val / 6 * 1024 + 1 * r.val = R.val; omega
    | ⟨1, _⟩ => show win0_0.index t (1 : Fin 2) * 3072 + 1 * k.val = k.val; rw [e]; show 0 * 3072 + 1 * k.val = k.val; omega
  show V m c main_arg0 (((cfg0.win 0).blk t).view.emb (ix2 r k)) = _
  rw [h]
  rw [V_main_arg0]

theorem iblk1 (c : Dev nD) (t : Fin cfg0.N) (r : Fin 1024) (k : Fin 128) (R : Fin 16384) (hR : R.val = 1024 * (t.val / 6) + r.val) :
    iblk m c 1 t (ix2 r k) = m ((c : Thread nD τ).loc main_arg1) (ix1 R) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 1024 + 1 * r.val = R.val; rw [e]; show t.val / 6 * 1024 + 1 * r.val = R.val; omega
    | ⟨1, _⟩ => show win0_1.index t (1 : Fin 2) * 128 + 1 * k.val = k.val; rw [e]; show 0 * 128 + 1 * k.val = k.val; omega
  show V m c main_v1 (((cfg0.win 1).blk t).view.emb (ix2 r k)) = _
  rw [h]
  entry_read
  pointwise

theorem iblk2 (c : Dev nD) (t : Fin cfg0.N) (r : Fin 3072) (k : Fin 1024) (C : Fin 6144) (hC : C.val = 1024 * (t.val % 6) + k.val) :
    iblk m c 2 t (ix2 r k) = m ((c : Thread nD τ).loc main_arg2) (ix2 r C) := by
  have e := idx2 t
  have h : ((cfg0.win 2).blk t).view.emb (ix2 r k) = (ix2 r C : (⟨2, ![3072, 6144]⟩ : Shape).Idx) := by
    funext a
    apply Fin.ext
    match a with
    | ⟨0, _⟩ => show win0_2.index t (0 : Fin 2) * 3072 + 1 * r.val = r.val; rw [e]; show 0 * 3072 + 1 * r.val = r.val; omega
    | ⟨1, _⟩ => show win0_2.index t (1 : Fin 2) * 1024 + 1 * k.val = C.val; rw [e]; show t.val % 6 * 1024 + 1 * k.val = C.val; omega
  show V m c main_arg2 (((cfg0.win 2).blk t).view.emb (ix2 r k)) = _
  rw [h]
  rw [V_main_arg2]

theorem iblk3 (c : Dev nD) (t : Fin cfg0.N) (r : Fin 1) (k : Fin 1024) (C : Fin 6144) (hC : C.val = 1024 * (t.val % 6) + k.val) :
    iblk m c 3 t (ix2 r k) = m ((c : Thread nD τ).loc main_arg3) (ix1 C) := by
  have e := idx3 t
  have h : ((cfg0.win 3).blk t).view.emb (ix2 r k) = (ix2 r C : (⟨2, ![1, 6144]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 1024 + 1 * k.val = C.val; rw [e]; show t.val % 6 * 1024 + 1 * k.val = C.val; omega
  show V m c main_v2 (((cfg0.win 3).blk t).view.emb (ix2 r k)) = _
  rw [h]
  entry_read
  pointwise

theorem iblk4 (c : Dev nD) (t : Fin cfg0.N) (r : Fin 1) (k : Fin 1024) (C : Fin 6144) (hC : C.val = 1024 * (t.val % 6) + k.val) :
    iblk m c 4 t (ix2 r k) = m ((c : Thread nD τ).loc main_arg4) (ix1 C) := by
  have e := idx4 t
  have h : ((cfg0.win 4).blk t).view.emb (ix2 r k) = (ix2 r C : (⟨2, ![1, 6144]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 1024 + 1 * k.val = C.val; rw [e]; show t.val % 6 * 1024 + 1 * k.val = C.val; omega
  show V m c main_v3 (((cfg0.win 4).blk t).view.emb (ix2 r k)) = _
  rw [h]
  entry_read
  pointwise

theorem iblk5 (c : Dev nD) (t : Fin cfg0.N) (r : Fin 1024) (k : Fin 1024) (R : Fin 16384) (hR : R.val = 1024 * (t.val / 6) + r.val) (C : Fin 6144) (hC : C.val = 1024 * (t.val % 6) + k.val) :
    iblk m c 5 t (ix2 r k) = m ((c : Thread nD τ).loc main_arg5) (ix2 R C) := by
  have e := idx5 t
  have h : ((cfg0.win 5).blk t).view.emb (ix2 r k) = (ix2 R C : (⟨2, ![16384, 6144]⟩ : Shape).Idx) := by
    funext a
    apply Fin.ext
    match a with
    | ⟨0, _⟩ => show win0_5.index t (0 : Fin 2) * 1024 + 1 * r.val = R.val; rw [e]; show t.val / 6 * 1024 + 1 * r.val = R.val; omega
    | ⟨1, _⟩ => show win0_5.index t (1 : Fin 2) * 1024 + 1 * k.val = C.val; rw [e]; show t.val % 6 * 1024 + 1 * k.val = C.val; omega
  show V m c main_arg5 (((cfg0.win 5).blk t).view.emb (ix2 r k)) = _
  rw [h]
  rw [V_main_arg5]

/-! ## What each point leaves -/

/-- The codes of a row of blocks are staged alike at all its points. -/
theorem iblk0_row (c : Dev nD) (t t' : Fin cfg0.N) (h : t.val / 6 = t'.val / 6) : iblk m c 0 t = iblk m c 0 t' := by
  have ht : t.val < 96 := Nat.lt_of_lt_of_eq t.isLt N_0
  funext y
  change Shape.Idx ⟨2, ![1024, 3072]⟩ at y
  idx_vars y
  have hlt : 1024 * (t.val / 6) + y0.val < 16384 := by omega
  exact (iblk0 m c t y0 y1 ⟨1024 * (t.val / 6) + y0.val, hlt⟩ rfl).trans
    (iblk0 m c t' y0 y1 ⟨1024 * (t.val / 6) + y0.val, hlt⟩ (congrArg (fun q => 1024 * q + y0.val) h)).symm

/-- The carried scratch holds the widened codes of the point's row of blocks. -/
theorem scratch_eq (c : Dev nD) : ∀ (n : ℕ) (t : Fin cfg0.N), t.val = n → (outsAt0 m c t.val t.isLt).2 = k0_pay3 (iblk m c 0 t) := by
  intro n
  induction n with
  | zero =>
    intro t e
    rw [outsAt0_A m c t (by omega)]
    dsimp only
    rw [sout_A]
  | succ n ih =>
    intro t e
    by_cases h0 : t.val % 6 = 0
    · rw [outsAt0_A m c t h0]
      dsimp only
      rw [sout_A]
    · rw [outsAt0_B m c t h0]
      dsimp only [sout0_B_0]
      have hp : t.val - 1 < cfg0.N := Nat.lt_of_le_of_lt (Nat.sub_le _ _) t.isLt
      exact (ih ⟨t.val - 1, hp⟩ (by show t.val - 1 = n; omega)).trans
        (congrArg k0_pay3 (iblk0_row m c ⟨t.val - 1, hp⟩ t (by show (t.val - 1) / 6 = t.val / 6; omega)))

/-- The output block after point `t`. -/
theorem out_eq (c : Dev nD) (t : Fin cfg0.N) :
    (outsAt0 m c t.val t.isLt).1 = blockOf (k0_pay3 (iblk m c 0 t)) (iblk m c 1 t) (iblk m c 2 t) (iblk m c 3 t) (iblk m c 4 t) (iblk m c 5 t) := by
  by_cases h0 : t.val % 6 = 0
  · rw [outsAt0_A m c t h0]
    dsimp only
    rw [out_A]
  · have hp : t.val - 1 < cfg0.N := Nat.lt_of_le_of_lt (Nat.sub_le _ _) t.isLt
    have hs : (outsAt0 m c (t.val - 1) hp).2 = k0_pay3 (iblk m c 0 t) := (scratch_eq m c _ ⟨t.val - 1, hp⟩ rfl).trans
      (congrArg k0_pay3 (iblk0_row m c ⟨t.val - 1, hp⟩ t (by show (t.val - 1) / 6 = t.val / 6; omega)))
    rw [outsAt0_B m c t h0]
    dsimp only
    rw [out_B, hs]

/-! ## The whole array -/

/-- A point's block, element by element, is `residual` at the element's place in the array. -/
theorem block_eq (c : Dev nD) (t : Fin cfg0.N) (r : Fin 1024) (k : Fin 1024) (R : Fin 16384) (C : Fin 6144)
    (hR : R.val = 1024 * (t.val / 6) + r.val) (hC : C.val = 1024 * (t.val % 6) + k.val) :
    blockOf (k0_pay3 (iblk m c 0 t)) (iblk m c 1 t) (iblk m c 2 t) (iblk m c 3 t) (iblk m c 4 t) (iblk m c 5 t) (ix2 r k)
      = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R C) := by
  exact congrArg₂ (fun a b : EReal => a + b) (iblk5 m c t r k R hR C hC) (tile_eq_lin
    (fun j => (widen_apply _ r j).trans (congrArg _ (iblk0 m c t r j R hR)))
    (iblk1 m c t r _ R hR) (fun j => iblk2 m c t j k C hC) (iblk3 m c t 0 k C hC) (iblk4 m c t 0 k C hC))

/-- What point `t` writes back is its block of `residual`. -/
theorem flushed_eq (c : Dev nD) (t : Fin cfg0.N) :
    (dats m 0 c).flushed 6 t = ((cfg0.win 6).blk t).view.read (Elt Ideal) (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ht : t.val < 96 := Nat.lt_of_lt_of_eq t.isLt N_0
  rw [Value.flushed6, out_eq]
  funext y
  change Shape.Idx ⟨2, ![1024, 1024]⟩ at y
  idx_vars y
  have hR : 1024 * (t.val / 6) + y0.val < 16384 := by omega
  have hC : 1024 * (t.val % 6) + y1.val < 6144 := by omega
  have e := idx6 t
  have h : ((cfg0.win 6).blk t).view.emb (ix2 y0 y1) = (ix2 (⟨1024 * (t.val / 6) + y0.val, hR⟩ : Fin 16384) (⟨1024 * (t.val % 6) + y1.val, hC⟩ : Fin 6144) : (⟨2, ![16384, 6144]⟩ : Shape).Idx) := by
    funext a
    apply Fin.ext
    match a with
    | ⟨0, _⟩ => show win0_6.index t (0 : Fin 2) * 1024 + 1 * y0.val = _; rw [e]; show t.val / 6 * 1024 + 1 * y0.val = 1024 * (t.val / 6) + y0.val; omega
    | ⟨1, _⟩ => show win0_6.index t (1 : Fin 2) * 1024 + 1 * y1.val = _; rw [e]; show t.val % 6 * 1024 + 1 * y1.val = 1024 * (t.val % 6) + y1.val; omega
  refine (block_eq m c t y0 y1 ⟨1024 * (t.val / 6) + y0.val, hR⟩ ⟨1024 * (t.val % 6) + y1.val, hC⟩ rfl rfl).trans ?_
  exact congrArg (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) h.symm

/-- The result array after the run. -/
theorem final (c : Dev nD) : (dats m 0 c).arrAt 6 cfg0.N = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) (fun i => (Value.covered_iff6 i).2 (by
    have h0 : (i 0).val < 16384 := (i 0).isLt; have h1 : (i 1).val < 6144 := (i 1).isLt; omega))

/-- The run: the result array holds `residual` of the arguments, the arguments are unchanged. -/
theorem run : θ_run defs (onTc (τ := τ) (main (F := Ideal))) ⟨m, fun _ => 0, ρ⟩ fun r => ∀ c : Dev nD,
      r.2.mem ((c : Thread nD τ).loc main_v4) = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1).trans (final m c), (h c).2⟩) (Value.run_blocks m ρ)

end Cert.OprojIdeal.Blocks
end
-- ==== Proof.OprojRef.lean ====
/-
  The first residual product: its reference's result array after the run, and the two programs' results compared.
-/
module

public import proofs.«01_k».proof.Defs
public import proofs.«01_k».proof.Proof.OprojRun
public import proofs.«01_k».proof.Proof.Gen.OprojRefIdeal.Value

@[expose] public section

set_option maxRecDepth 16384

noncomputable section

namespace Cert.OprojRefIdeal.Blocks

open Cert.OprojRefIdeal Cert.OprojRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-- The reference's one body, element by element. -/
theorem out_apply (x0 : Vec Ideal S16384x3072 .i8) (x1 : Vec Ideal S16384x1 .f32) (x2 : Vec Ideal S3072x6144 .i8)
    (x3 x4 : Vec Ideal S1x6144 .f32) (x5 : (⟨2, ![16384, 6144]⟩ : Shape).Idx → EReal) (r : Fin 16384) (n : Fin 6144) :
    out0_6 x0 x1 x2 x3 x4 x5 (ix2 r n) = x5 (ix2 r n)
      + ((∑ k : Fin 3072, (FloatOps.sitofp (F := Ideal) .bf16 (x0 (ix2 r k)) : EReal) * (FloatOps.sitofp (F := Ideal) .bf16 (x2 (ix2 k n)) : EReal))
        * x1 (ix2 r 0) * x3 (ix2 0 n) + x4 (ix2 0 n)) := by
  unfold out0_6
  rw [View.canon_unit_zero hz]
  simp only [View.ld_unit_zero (S := S16384x3072) hz, View.ld_unit_zero (S := S3072x6144) hz, View.ld_unit_zero (S := S16384x6144) hz,
    View.ld_unit_zero (S := S16384x1) hz, View.ld_unit_zero (S := S1x6144) hz]
  pointwise [k0_pay1]

/-! ## The one point's blocks are the whole arrays -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem iblk0 (c : Dev nD) (t : Fin cfg0.N) (r : Fin 16384) (k : Fin 3072) :
    iblk m c 0 t (ix2 r k) = m ((c : Thread nD τ).loc main_arg0) (ix2 r k) := by
  have e := idx0 t
  have h : ((cfg0.win 0).blk t).view.emb (ix2 r k) = (ix2 r k : (⟨2, ![16384, 3072]⟩ : Shape).Idx) := by
    funext a
    apply Fin.ext
    match a with
    | ⟨0, _⟩ => show win0_0.index t (0 : Fin 2) * 16384 + 1 * r.val = r.val; rw [e]; show 0 * 16384 + 1 * r.val = r.val; omega
    | ⟨1, _⟩ => show win0_0.index t (1 : Fin 2) * 3072 + 1 * k.val = k.val; rw [e]; show 0 * 3072 + 1 * k.val = k.val; omega
  show V m c main_arg0 (((cfg0.win 0).blk t).view.emb (ix2 r k)) = _
  rw [h]
  rw [V_main_arg0]

theorem iblk1 (c : Dev nD) (t : Fin cfg0.N) (r : Fin 16384) (k : Fin 1) :
    iblk m c 1 t (ix2 r k) = m ((c : Thread nD τ).loc main_arg1) (ix1 r) := by
  have e := idx1 t
  have h : ((cfg0.win 1).blk t).view.emb (ix2 r k) = (ix2 r k : (⟨2, ![16384, 1]⟩ : Shape).Idx) := by
    funext a
    apply Fin.ext
    match a with
    | ⟨0, _⟩ => show win0_1.index t (0 : Fin 2) * 16384 + 1 * r.val = r.val; rw [e]; show 0 * 16384 + 1 * r.val = r.val; omega
    | ⟨1, _⟩ => show win0_1.index t (1 : Fin 2) * 1 + 1 * k.val = k.val; rw [e]; show 0 * 1 + 1 * k.val = k.val; omega
  show V m c main_v0 (((cfg0.win 1).blk t).view.emb (ix2 r k)) = _
  rw [h]
  entry_read
  pointwise

theorem iblk2 (c : Dev nD) (t : Fin cfg0.N) (r : Fin 3072) (k : Fin 6144) :
    iblk m c 2 t (ix2 r k) = m ((c : Thread nD τ).loc main_arg2) (ix2 r k) := by
  have e := idx2 t
  have h : ((cfg0.win 2).blk t).view.emb (ix2 r k) = (ix2 r k : (⟨2, ![3072, 6144]⟩ : Shape).Idx) := by
    funext a
    apply Fin.ext
    match a with
    | ⟨0, _⟩ => show win0_2.index t (0 : Fin 2) * 3072 + 1 * r.val = r.val; rw [e]; show 0 * 3072 + 1 * r.val = r.val; omega
    | ⟨1, _⟩ => show win0_2.index t (1 : Fin 2) * 6144 + 1 * k.val = k.val; rw [e]; show 0 * 6144 + 1 * k.val = k.val; omega
  show V m c main_arg2 (((cfg0.win 2).blk t).view.emb (ix2 r k)) = _
  rw [h]
  rw [V_main_arg2]

theorem iblk3 (c : Dev nD) (t : Fin cfg0.N) (r : Fin 1) (k : Fin 6144) :
    iblk m c 3 t (ix2 r k) = m ((c : Thread nD τ).loc main_arg3) (ix1 k) := by
  have e := idx3 t
  have h : ((cfg0.win 3).blk t).view.emb (ix2 r k) = (ix2 r k : (⟨2, ![1, 6144]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 6144 + 1 * k.val = k.val; rw [e]; show 0 * 6144 + 1 * k.val = k.val; omega
  show V m c main_v1 (((cfg0.win 3).blk t).view.emb (ix2 r k)) = _
  rw [h]
  entry_read
  pointwise

theorem iblk4 (c : Dev nD) (t : Fin cfg0.N) (r : Fin 1) (k : Fin 6144) :
    iblk m c 4 t (ix2 r k) = m ((c : Thread nD τ).loc main_arg4) (ix1 k) := by
  have e := idx4 t
  have h : ((cfg0.win 4).blk t).view.emb (ix2 r k) = (ix2 r k : (⟨2, ![1, 6144]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 6144 + 1 * k.val = k.val; rw [e]; show 0 * 6144 + 1 * k.val = k.val; omega
  show V m c main_v2 (((cfg0.win 4).blk t).view.emb (ix2 r k)) = _
  rw [h]
  entry_read
  pointwise

theorem iblk5 (c : Dev nD) (t : Fin cfg0.N) (r : Fin 16384) (k : Fin 6144) :
    iblk m c 5 t (ix2 r k) = m ((c : Thread nD τ).loc main_arg5) (ix2 r k) := by
  have e := idx5 t
  have h : ((cfg0.win 5).blk t).view.emb (ix2 r k) = (ix2 r k : (⟨2, ![16384, 6144]⟩ : Shape).Idx) := by
    funext a
    apply Fin.ext
    match a with
    | ⟨0, _⟩ => show win0_5.index t (0 : Fin 2) * 16384 + 1 * r.val = r.val; rw [e]; show 0 * 16384 + 1 * r.val = r.val; omega
    | ⟨1, _⟩ => show win0_5.index t (1 : Fin 2) * 6144 + 1 * k.val = k.val; rw [e]; show 0 * 6144 + 1 * k.val = k.val; omega
  show V m c main_arg5 (((cfg0.win 5).blk t).view.emb (ix2 r k)) = _
  rw [h]
  rw [V_main_arg5]

/-- What the one point writes back. -/
theorem flushed_eq (c : Dev nD) (t : Fin cfg0.N) :
    (dats m 0 c).flushed 6 t = ((cfg0.win 6).blk t).view.read (Elt Ideal) (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext y
  change Shape.Idx ⟨2, ![16384, 6144]⟩ at y
  idx_vars y
  have e := idx6 t
  have h : ((cfg0.win 6).blk t).view.emb (ix2 y0 y1) = (ix2 y0 y1 : (⟨2, ![16384, 6144]⟩ : Shape).Idx) := by
    funext a
    apply Fin.ext
    match a with
    | ⟨0, _⟩ => show win0_6.index t (0 : Fin 2) * 16384 + 1 * y0.val = y0.val; rw [e]; show 0 * 16384 + 1 * y0.val = y0.val; omega
    | ⟨1, _⟩ => show win0_6.index t (1 : Fin 2) * 6144 + 1 * y1.val = y1.val; rw [e]; show 0 * 6144 + 1 * y1.val = y1.val; omega
  refine Eq.trans ?_ (congrArg (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) h.symm)
  refine (out_apply _ _ _ _ _ _ y0 y1).trans ?_
  show _ = (_ : EReal) + linAt _ _ _ _ _ y0 y1
  unfold linAt
  simp only [iblk0, iblk1, iblk2, iblk3, iblk4, iblk5]

/-- The one grid point. -/
def t₀ : Fin cfg0.N := ⟨0, by decide⟩

/-- Its block of the result is the whole array. -/
theorem emb_out (i : (⟨2, ![16384, 6144]⟩ : Shape).Idx) : ((cfg0.win 6).blk t₀).view.emb i = i := by
  have e := idx6 t₀
  funext a
  apply Fin.ext
  match a with
  | ⟨0, _⟩ => show win0_6.index t₀ (0 : Fin 2) * 16384 + 1 * (i 0).val = (i 0).val; rw [e]; show 0 * 16384 + 1 * (i 0).val = (i 0).val; omega
  | ⟨1, _⟩ => show win0_6.index t₀ (1 : Fin 2) * 6144 + 1 * (i 1).val = (i 1).val; rw [e]; show 0 * 6144 + 1 * (i 1).val = (i 1).val; omega

/-- The result array after the run. -/
theorem final (c : Dev nD) : (dats m 0 c).arrAt 6 cfg0.N = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) (fun i => ⟨t₀, by decide +kernel, by
    have hm := View.emb_mem_set ((cfg0.win 6).blk t₀).view i
    rw [emb_out i] at hm
    exact hm⟩)

/-- The run: the result array holds the residual plus the layer, the arguments are unchanged. -/
theorem run : θ_run defs (onTc (τ := τ) (main (F := Ideal))) ⟨m, fun _ => 0, ρ⟩ fun r => ∀ c : Dev nD,
      r.2.mem ((c : Thread nD τ).loc main_v3) = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1).trans (final m c), (h c).2⟩) (Value.run_blocks m ρ)

end Cert.OprojRefIdeal.Blocks

open Idealize.ShloMosaic Cert.Common in
/-- Kernel and reference leave the same array from the same arguments. -/
theorem Cert.OprojIdeal.Blocks.algebraic : Cert.algebraic_OprojIdeal_OprojRefIdeal := by
  intro m g m' g' hpre h
  refine ⟨fun c => _, Cert.OprojIdeal.Blocks.run m g, ?_⟩
  refine (θ_run _ _ _).mono (fun r hr c => ⟨((hr c).1).trans ?_, (hr c).2⟩) (Cert.OprojRefIdeal.Blocks.run m' g')
  obtain ⟨e0, e1, e2, e3, e4, e5⟩ := h c
  rw [e0, e1, e2, e3, e4, e5]
end
-- ==== Proof.Ln2Block.lean ====
/-
  Layer norm and quantisation of a block of rows: what one grid point leaves in its two output blocks, and what the
  reference's one body leaves, element by element over the extended reals.
-/
module

public import proofs.«01_k».proof.Proof.Gen.Ln2Ideal.Frame
public import proofs.«01_k».proof.Proof.Gen.Ln2RefIdeal.Frame
public import proofs.«01_k».proof.Proof.Cols
public import Idealize.ShloMosaic.Lib.Tactic

@[expose] public section

set_option maxRecDepth 16384

noncomputable section

namespace Cert.Ln2Ideal.Blocks

open Cert.Ln2Ideal Cert.Ln2Ideal.Gen Idealize.ShloMosaic Idealize.ShloMosaic.TcCoe Idealize.SL.Sem
open Idealize.ShloMosaic.Pointwise Cert.Common

/-- The normed block, element by element. -/
theorem norm_apply (x0 : Vec Ideal S256x6144 .f32) (x1 x2 : Vec Ideal S1x6144 .f32) (r : Fin 256) (k : Fin 6144) :
    k0_pay3 x0 x1 x2 (ix2 r k) = normAt (fun j => x0 (ix2 r j)) (fun j => x1 (ix2 0 j)) (fun j => x2 (ix2 0 j)) k := by
  unfold k0_pay3
  exact norms_apply x0 x1 x2 _ _ _ _ _ _ _ _ rfl rfl rfl r k

/-- The scale of each of its rows. -/
theorem scale_apply (x0 : Vec Ideal S256x6144 .f32) (x1 x2 : Vec Ideal S1x6144 .f32) (r : Fin 256) :
    k0_pay4 x0 x1 x2 (ix2 r 0) = scaleOf (maxMag (fun j => k0_pay3 x0 x1 x2 (ix2 r j))) := by
  unfold k0_pay4
  generalize k0_pay3 x0 x1 x2 = h
  exact scales_apply h _ _ _ r

/-- Its codes. -/
theorem code_apply (x0 : Vec Ideal S256x6144 .f32) (x1 x2 : Vec Ideal S1x6144 .f32) (r : Fin 256) (k : Fin 6144) :
    k0_pay1 (k0_pay5 x0 x1 x2) (k0_pay6 (F := Ideal)) (ix2 r k) = codeOf (k0_pay3 x0 x1 x2 (ix2 r k)) (k0_pay4 x0 x1 x2 (ix2 r 0)) := by
  unfold k0_pay1 k0_pay5 k0_pay6
  generalize k0_pay4 x0 x1 x2 = s
  generalize k0_pay3 x0 x1 x2 = h
  exact codes_apply h s _ r k

/-- The block of codes the body stores. -/
theorem out3_apply (x0 : Vec Ideal S256x6144 .f32) (x1 x2 : Vec Ideal S1x6144 .f32) (r : Fin 256) (k : Fin 6144) :
    out0_3 x0 x1 x2 (ix2 r k)
      = codeOf (normAt (fun j => x0 (ix2 r j)) (fun j => x1 (ix2 0 j)) (fun j => x2 (ix2 0 j)) k)
          (normScale (fun j => x0 (ix2 r j)) (fun j => x1 (ix2 0 j)) (fun j => x2 (ix2 0 j))) := by
  unfold out0_3
  rw [View.canon_unit_zero hz]
  simp only [View.ld_unit_zero (S := S256x6144) hz, View.ld_unit_zero (S := S1x6144) hz]
  rw [code_apply, scale_apply]
  simp only [norm_apply]
  rfl

/-- The block of scales the body stores. -/
theorem out4_apply (x0 : Vec Ideal S256x6144 .f32) (x1 x2 : Vec Ideal S1x6144 .f32) (r : Fin 256) (l : Fin 128) :
    out0_4 x0 x1 x2 (ix2 r l) = normScale (fun j => x0 (ix2 r j)) (fun j => x1 (ix2 0 j)) (fun j => x2 (ix2 0 j)) := by
  unfold out0_4
  rw [View.canon_unit_zero hz]
  simp only [View.ld_unit_zero (S := S256x6144) hz, View.ld_unit_zero (S := S1x6144) hz]
  refine Eq.trans (b := k0_pay4 x0 x1 x2 (ix2 r 0)) ?_ ?_
  · generalize k0_pay4 x0 x1 x2 = s
    unfold k0_pay2
    refine Eq.trans (col_bcast _ _ r l) (shapeCast_apply s _ _ _ rfl)
  · rw [scale_apply]
    simp only [norm_apply]
    rfl

end Cert.Ln2Ideal.Blocks

namespace Cert.Ln2RefIdeal.Blocks

open Cert.Ln2RefIdeal Cert.Ln2RefIdeal.Gen Idealize.ShloMosaic Idealize.ShloMosaic.TcCoe Idealize.SL.Sem
open Idealize.ShloMosaic.Pointwise Cert.Common

/-- The normed block, element by element. -/
theorem norm_apply (x0 : Vec Ideal S16384x6144 .f32) (x1 x2 : Vec Ideal S1x6144 .f32) (r : Fin 16384) (k : Fin 6144) :
    k0_pay2 x0 x1 x2 (ix2 r k) = normAt (fun j => x0 (ix2 r j)) (fun j => x1 (ix2 0 j)) (fun j => x2 (ix2 0 j)) k := by
  unfold k0_pay2
  exact norms_apply x0 x1 x2 _ _ _ _ _ _ _ _ rfl rfl rfl r k

/-- The scale of each of its rows. -/
theorem scale_apply (x0 : Vec Ideal S16384x6144 .f32) (x1 x2 : Vec Ideal S1x6144 .f32) (r : Fin 16384) :
    k0_pay3 x0 x1 x2 (ix2 r 0) = scaleOf (maxMag (fun j => k0_pay2 x0 x1 x2 (ix2 r j))) := by
  unfold k0_pay3
  generalize k0_pay2 x0 x1 x2 = h
  exact scales_apply h _ _ _ r

/-- Its codes. -/
theorem code_apply (x0 : Vec Ideal S16384x6144 .f32) (x1 x2 : Vec Ideal S1x6144 .f32) (r : Fin 16384) (k : Fin 6144) :
    k0_pay1 (k0_pay4 x0 x1 x2) (ix2 r k) = codeOf (k0_pay2 x0 x1 x2 (ix2 r k)) (k0_pay3 x0 x1 x2 (ix2 r 0)) := by
  unfold k0_pay1 k0_pay4
  generalize k0_pay3 x0 x1 x2 = s
  generalize k0_pay2 x0 x1 x2 = h
  exact codes_apply h s _ r k

/-- The block of codes the body stores. -/
theorem out3_apply (x0 : Vec Ideal S16384x6144 .f32) (x1 x2 : Vec Ideal S1x6144 .f32) (r : Fin 16384) (k : Fin 6144) :
    out0_3 x0 x1 x2 (ix2 r k)
      = codeOf (normAt (fun j => x0 (ix2 r j)) (fun j => x1 (ix2 0 j)) (fun j => x2 (ix2 0 j)) k)
          (normScale (fun j => x0 (ix2 r j)) (fun j => x1 (ix2 0 j)) (fun j => x2 (ix2 0 j))) := by
  unfold out0_3
  rw [View.canon_unit_zero hz]
  simp only [View.ld_unit_zero (S := S16384x6144) hz, View.ld_unit_zero (S := S1x6144) hz]
  rw [code_apply, scale_apply]
  simp only [norm_apply]
  rfl

/-- The block of scales the body stores. -/
theorem out4_apply (x0 : Vec Ideal S16384x6144 .f32) (x1 x2 : Vec Ideal S1x6144 .f32) (r : Fin 16384) (l : Fin 1) :
    out0_4 x0 x1 x2 (ix2 r l) = normScale (fun j => x0 (ix2 r j)) (fun j => x1 (ix2 0 j)) (fun j => x2 (ix2 0 j)) := by
  unfold out0_4
  rw [View.canon_unit_zero hz]
  simp only [View.ld_unit_zero (S := S16384x6144) hz, View.ld_unit_zero (S := S1x6144) hz]
  refine Eq.trans (b := k0_pay3 x0 x1 x2 (ix2 r 0)) ?_ ?_
  · rw [Subsingleton.elim l 0]
  · rw [scale_apply]
    simp only [norm_apply]
    rfl

end Cert.Ln2RefIdeal.Blocks
end
-- ==== Proof.Ln2Run.lean ====
/-
  The second layer norm with its quantiser: its codes and scales after the run, as closed forms of the argument arrays.
-/
module

public import proofs.«01_k».proof.Proof.Ln2Block
public import proofs.«01_k».proof.Proof.Norm
public import Idealize.ShloMosaic.Lib.Claim

@[expose] public section

set_option maxRecDepth 16384

noncomputable section

namespace Cert.Ln2Ideal.Blocks

open Cert.Ln2Ideal Cert.Ln2Ideal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-! ## Each input block, element by element, in the argument arrays -/

theorem iblk0 (c : Dev nD) (t : Fin cfg0.N) (r : Fin 256) (k : Fin 6144) (R : Fin 16384) (hR : R.val = 256 * t.val + r.val) :
    iblk m c 0 t (ix2 r k) = m ((c : Thread nD τ).loc main_arg0) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 256 + 1 * r.val = R.val; rw [e]; show t.val * 256 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h, V_main_arg0]

theorem iblk1 (c : Dev nD) (t : Fin cfg0.N) (k : Fin 6144) :
    iblk m c 1 t (ix2 0 k) = m ((c : Thread nD τ).loc main_arg1) (ix1 k) := by
  have e := idx1 t
  have h : ((cfg0.win 1).blk t).view.emb (ix2 (0 : Fin 1) k) = (ix2 0 k : (⟨2, ![1, 6144]⟩ : Shape).Idx) := by
    funext a
    apply Fin.ext
    match a with
    | ⟨0, _⟩ => show win0_1.index t (0 : Fin 2) * 1 + 1 * 0 = 0; rw [e]; rfl
    | ⟨1, _⟩ => show win0_1.index t (1 : Fin 2) * 6144 + 1 * k.val = k.val; rw [e]; show 0 * 6144 + 1 * k.val = k.val; omega
  show V m c main_v0 (((cfg0.win 1).blk t).view.emb (ix2 0 k)) = _
  rw [h]
  change StableHlo.after hostOps0 _ (Proc.devRef .tc main_v0) (ix2 0 k) = _
  entry_read
  pointwise

theorem iblk2 (c : Dev nD) (t : Fin cfg0.N) (k : Fin 6144) :
    iblk m c 2 t (ix2 0 k) = m ((c : Thread nD τ).loc main_arg2) (ix1 k) := by
  have e := idx2 t
  have h : ((cfg0.win 2).blk t).view.emb (ix2 (0 : Fin 1) k) = (ix2 0 k : (⟨2, ![1, 6144]⟩ : Shape).Idx) := by
    funext a
    apply Fin.ext
    match a with
    | ⟨0, _⟩ => show win0_2.index t (0 : Fin 2) * 1 + 1 * 0 = 0; rw [e]; rfl
    | ⟨1, _⟩ => show win0_2.index t (1 : Fin 2) * 6144 + 1 * k.val = k.val; rw [e]; show 0 * 6144 + 1 * k.val = k.val; omega
  show V m c main_v1 (((cfg0.win 2).blk t).view.emb (ix2 0 k)) = _
  rw [h]
  change StableHlo.after hostOps0 _ (Proc.devRef .tc main_v1) (ix2 0 k) = _
  entry_read
  pointwise

/-- What point `t` writes back of the codes. -/
theorem flushed_codes (c : Dev nD) (t : Fin cfg0.N) :
    (dats m 0 c).flushed 3 t = ((cfg0.win 3).blk t).view.read (Elt Ideal) (normCodes (m ((c : Thread nD τ).loc main_arg0)) (m ((c : Thread nD τ).loc main_arg1)) (m ((c : Thread nD τ).loc main_arg2))) := by
  have ht : t.val < 64 := Nat.lt_of_lt_of_eq t.isLt N_0
  show (cfg0.win 3).cut (grid0.coords t) ((dats m 0 c).after 3 t) = _
  rw [after0_3]
  funext y
  change Shape.Idx ⟨2, ![256, 6144]⟩ at y
  idx_vars y
  have hR : 256 * t.val + y0.val < 16384 := by omega
  have e := idx3 t
  have h : ((cfg0.win 3).blk t).view.emb (ix2 y0 y1) = (ix2 (⟨256 * t.val + y0.val, hR⟩ : Fin 16384) y1 : (⟨2, ![16384, 6144]⟩ : Shape).Idx) := by
    funext a
    apply Fin.ext
    match a with
    | ⟨0, _⟩ => show win0_3.index t (0 : Fin 2) * 256 + 1 * y0.val = _; rw [e]; show t.val * 256 + 1 * y0.val = 256 * t.val + y0.val; omega
    | ⟨1, _⟩ => show win0_3.index t (1 : Fin 2) * 6144 + 1 * y1.val = y1.val; rw [e]; show 0 * 6144 + 1 * y1.val = y1.val; omega
  refine (out3_apply _ _ _ y0 y1).trans ?_
  refine Eq.trans ?_ (congrArg (normCodes (m ((c : Thread nD τ).loc main_arg0)) (m ((c : Thread nD τ).loc main_arg1)) (m ((c : Thread nD τ).loc main_arg2))) h.symm)
  exact normCode_congr y1 (fun j => iblk0 m c t y0 j ⟨256 * t.val + y0.val, hR⟩ rfl) (iblk1 m c t) (iblk2 m c t)

/-- What point `t` writes back of the scales. -/
theorem flushed_scales (c : Dev nD) (t : Fin cfg0.N) :
    (dats m 0 c).flushed 4 t = ((cfg0.win 4).blk t).view.read (Elt Ideal) (normScales 128 (m ((c : Thread nD τ).loc main_arg0)) (m ((c : Thread nD τ).loc main_arg1)) (m ((c : Thread nD τ).loc main_arg2))) := by
  have ht : t.val < 64 := Nat.lt_of_lt_of_eq t.isLt N_0
  show (cfg0.win 4).cut (grid0.coords t) ((dats m 0 c).after 4 t) = _
  rw [after0_4]
  funext y
  change Shape.Idx ⟨2, ![256, 128]⟩ at y
  idx_vars y
  have hR : 256 * t.val + y0.val < 16384 := by omega
  have e := idx4 t
  have h : ((cfg0.win 4).blk t).view.emb (ix2 y0 y1) = (ix2 (⟨256 * t.val + y0.val, hR⟩ : Fin 16384) y1 : (⟨2, ![16384, 128]⟩ : Shape).Idx) := by
    funext a
    apply Fin.ext
    match a with
    | ⟨0, _⟩ => show win0_4.index t (0 : Fin 2) * 256 + 1 * y0.val = _; rw [e]; show t.val * 256 + 1 * y0.val = 256 * t.val + y0.val; omega
    | ⟨1, _⟩ => show win0_4.index t (1 : Fin 2) * 128 + 1 * y1.val = y1.val; rw [e]; show 0 * 128 + 1 * y1.val = y1.val; omega
  refine (out4_apply _ _ _ y0 y1).trans ?_
  refine Eq.trans ?_ (congrArg (normScales 128 (m ((c : Thread nD τ).loc main_arg0)) (m ((c : Thread nD τ).loc main_arg1)) (m ((c : Thread nD τ).loc main_arg2))) h.symm)
  exact normScale_congr (fun j => iblk0 m c t y0 j ⟨256 * t.val + y0.val, hR⟩ rfl) (iblk1 m c t) (iblk2 m c t)

theorem flush3 : ∀ t : Fin cfg0.N, (cfg0.win 3).flush t = true := (by decide +kernel : ∀ t : Fin grid0.N, (cfg0.win 3).flush t = true)

/-- The array of codes after the run. -/
theorem final_codes (c : Dev nD) : (dats m 0 c).arrAt 3 cfg0.N = normCodes (m ((c : Thread nD τ).loc main_arg0)) (m ((c : Thread nD τ).loc main_arg1)) (m ((c : Thread nD τ).loc main_arg2)) :=
  (dats m 0 c).arrAt_eq_of_cover 3 _ (fun t _ => flushed_codes m c t) (fun i => by
    change Shape.Idx ⟨2, ![16384, 6144]⟩ at i
    have h0 : (i 0).val < 16384 := (i 0).isLt
    have hN : (i 0).val / 256 < cfg0.N := Nat.lt_of_lt_of_eq (by omega : (i 0).val / 256 < 64) N_0.symm
    have e := idx3 ⟨(i 0).val / 256, hN⟩
    refine ⟨⟨(i 0).val / 256, hN⟩, flush3 _, ?_⟩
    have hm := View.emb_mem_set ((cfg0.win 3).blk ⟨(i 0).val / 256, hN⟩).view (ix2 (⟨(i 0).val % 256, Nat.mod_lt _ (by decide)⟩ : Fin 256) (i 1) : (⟨2, ![256, 6144]⟩ : Shape).Idx)
    have h : ((cfg0.win 3).blk ⟨(i 0).val / 256, hN⟩).view.emb (ix2 (⟨(i 0).val % 256, Nat.mod_lt _ (by decide)⟩ : Fin 256) (i 1) : (⟨2, ![256, 6144]⟩ : Shape).Idx) = i := by
      funext a
      apply Fin.ext
      match a with
      | ⟨0, _⟩ => show win0_3.index ⟨(i 0).val / 256, hN⟩ (0 : Fin 2) * 256 + 1 * ((i 0).val % 256) = (i 0).val; rw [e]; show (i 0).val / 256 * 256 + 1 * ((i 0).val % 256) = (i 0).val; omega
      | ⟨1, _⟩ => show win0_3.index ⟨(i 0).val / 256, hN⟩ (1 : Fin 2) * 6144 + 1 * (i 1).val = (i 1).val; rw [e]; show 0 * 6144 + 1 * (i 1).val = (i 1).val; omega
    rw [h] at hm
    exact hm)

theorem flush4 : ∀ t : Fin cfg0.N, (cfg0.win 4).flush t = true := (by decide +kernel : ∀ t : Fin grid0.N, (cfg0.win 4).flush t = true)

/-- The array of scales after the run. -/
theorem final_scales (c : Dev nD) : (dats m 0 c).arrAt 4 cfg0.N = normScales 128 (m ((c : Thread nD τ).loc main_arg0)) (m ((c : Thread nD τ).loc main_arg1)) (m ((c : Thread nD τ).loc main_arg2)) :=
  (dats m 0 c).arrAt_eq_of_cover 4 _ (fun t _ => flushed_scales m c t) (fun i => by
    change Shape.Idx ⟨2, ![16384, 128]⟩ at i
    have h0 : (i 0).val < 16384 := (i 0).isLt
    have hN : (i 0).val / 256 < cfg0.N := Nat.lt_of_lt_of_eq (by omega : (i 0).val / 256 < 64) N_0.symm
    have e := idx4 ⟨(i 0).val / 256, hN⟩
    refine ⟨⟨(i 0).val / 256, hN⟩, flush4 _, ?_⟩
    have hm := View.emb_mem_set ((cfg0.win 4).blk ⟨(i 0).val / 256, hN⟩).view (ix2 (⟨(i 0).val % 256, Nat.mod_lt _ (by decide)⟩ : Fin 256) (i 1) : (⟨2, ![256, 128]⟩ : Shape).Idx)
    have h : ((cfg0.win 4).blk ⟨(i 0).val / 256, hN⟩).view.emb (ix2 (⟨(i 0).val % 256, Nat.mod_lt _ (by decide)⟩ : Fin 256) (i 1) : (⟨2, ![256, 128]⟩ : Shape).Idx) = i := by
      funext a
      apply Fin.ext
      match a with
      | ⟨0, _⟩ => show win0_4.index ⟨(i 0).val / 256, hN⟩ (0 : Fin 2) * 256 + 1 * ((i 0).val % 256) = (i 0).val; rw [e]; show (i 0).val / 256 * 256 + 1 * ((i 0).val % 256) = (i 0).val; omega
      | ⟨1, _⟩ => show win0_4.index ⟨(i 0).val / 256, hN⟩ (1 : Fin 2) * 128 + 1 * (i 1).val = (i 1).val; rw [e]; show 0 * 128 + 1 * (i 1).val = (i 1).val; omega
    rw [h] at hm
    exact hm)

/-- The vector of scales the host line after the call reads off. -/
theorem tail_scales (c : Dev nD) : Pipeline.afterTail₀ cfgs (dats m) 0 (V0 m) [hostOps1] c main_v4 = rowScales (m ((c : Thread nD τ).loc main_arg0)) (m ((c : Thread nD τ).loc main_arg1)) (m ((c : Thread nD τ).loc main_arg2)) := by
  have hw : Pipeline.withArrays spec0 c (V0 m c) (fun w => (dats m 0 c).arrAt w cfg0.N) (Proc.devRef .tc main_v2_1)
      = normScales 128 (m ((c : Thread nD τ).loc main_arg0)) (m ((c : Thread nD τ).loc main_arg1)) (m ((c : Thread nD τ).loc main_arg2)) := (Pipeline.withArrays_arr spec0 (by decide) c _ _ 4).trans (final_scales m c)
  unfold Pipeline.afterTail₀
  change StableHlo.after hostOps1 _ (Proc.devRef .tc main_v4) = _
  entry_read
  generalize hX : Pipeline.withArrays (cfgs 0).spec c (V0 m c) (fun w => (dats m 0 c).arrAt w (cfgs 0).N) (Proc.devRef .tc main_v2_1) = X
  have hY : X = normScales 128 (m ((c : Thread nD τ).loc main_arg0)) (m ((c : Thread nD τ).loc main_arg1)) (m ((c : Thread nD τ).loc main_arg2)) := hX.symm.trans hw
  clear hX
  subst hY
  exact first_col (L := 128) (fun r : Fin 16384 => normScale (fun j => (m ((c : Thread nD τ).loc main_arg0) : (⟨2, ![16384, 6144]⟩ : Shape).Idx → EReal) (ix2 r j))
    (fun j => (m ((c : Thread nD τ).loc main_arg1) : (⟨1, ![6144]⟩ : Shape).Idx → EReal) (ix1 j)) (fun j => (m ((c : Thread nD τ).loc main_arg2) : (⟨1, ![6144]⟩ : Shape).Idx → EReal) (ix1 j))) _ _

/-- The run: the two results are the codes and the scales of the normed rows, the arguments are unchanged. -/
theorem run : θ_run defs (onTc (τ := τ) (main (F := Ideal))) ⟨m, fun _ => 0, ρ⟩ fun r => ∀ c : Dev nD,
      r.2.mem ((c : Thread nD τ).loc main_v2_0) = normCodes (m ((c : Thread nD τ).loc main_arg0)) (m ((c : Thread nD τ).loc main_arg1)) (m ((c : Thread nD τ).loc main_arg2))
      ∧ r.2.mem ((c : Thread nD τ).loc main_v4) = rowScales (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.2 c).1 3).trans (final_codes m c),
      (((h.2 c).2 main_v4 (Pipeline.mem_restRefs_of main_v4 (by decide) (by decide))).trans (tail_scales m c)), h.1 c⟩)
    (θ_run_and (unchanged m ρ) (run_main m ρ))

end Cert.Ln2Ideal.Blocks
end
-- ==== Proof.Ln2Ref.lean ====
/-
  The second layer norm with its quantiser: its reference's codes and scales after the run, and the two programs' results compared.
-/
module

public import proofs.«01_k».proof.Defs
public import proofs.«01_k».proof.Proof.Ln2Run
public import Idealize.ShloMosaic.Lib.Claim

@[expose] public section

set_option maxRecDepth 16384

noncomputable section

namespace Cert.Ln2RefIdeal.Blocks

open Cert.Ln2RefIdeal Cert.Ln2RefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-! ## Each input block, element by element, in the argument arrays -/

theorem iblk0 (c : Dev nD) (t : Fin cfg0.N) (r : Fin 16384) (k : Fin 6144) (R : Fin 16384) (hR : R.val = 16384 * 0 + r.val) :
    iblk m c 0 t (ix2 r k) = m ((c : Thread nD τ).loc main_arg0) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 16384 + 1 * r.val = R.val; rw [e]; show 0 * 16384 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h, V_main_arg0]

theorem iblk1 (c : Dev nD) (t : Fin cfg0.N) (k : Fin 6144) :
    iblk m c 1 t (ix2 0 k) = m ((c : Thread nD τ).loc main_arg1) (ix1 k) := by
  have e := idx1 t
  have h : ((cfg0.win 1).blk t).view.emb (ix2 (0 : Fin 1) k) = (ix2 0 k : (⟨2, ![1, 6144]⟩ : Shape).Idx) := by
    funext a
    apply Fin.ext
    match a with
    | ⟨0, _⟩ => show win0_1.index t (0 : Fin 2) * 1 + 1 * 0 = 0; rw [e]; rfl
    | ⟨1, _⟩ => show win0_1.index t (1 : Fin 2) * 6144 + 1 * k.val = k.val; rw [e]; show 0 * 6144 + 1 * k.val = k.val; omega
  show V m c main_v0 (((cfg0.win 1).blk t).view.emb (ix2 0 k)) = _
  rw [h]
  change StableHlo.after hostOps0 _ (Proc.devRef .tc main_v0) (ix2 0 k) = _
  entry_read
  pointwise

theorem iblk2 (c : Dev nD) (t : Fin cfg0.N) (k : Fin 6144) :
    iblk m c 2 t (ix2 0 k) = m ((c : Thread nD τ).loc main_arg2) (ix1 k) := by
  have e := idx2 t
  have h : ((cfg0.win 2).blk t).view.emb (ix2 (0 : Fin 1) k) = (ix2 0 k : (⟨2, ![1, 6144]⟩ : Shape).Idx) := by
    funext a
    apply Fin.ext
    match a with
    | ⟨0, _⟩ => show win0_2.index t (0 : Fin 2) * 1 + 1 * 0 = 0; rw [e]; rfl
    | ⟨1, _⟩ => show win0_2.index t (1 : Fin 2) * 6144 + 1 * k.val = k.val; rw [e]; show 0 * 6144 + 1 * k.val = k.val; omega
  show V m c main_v1 (((cfg0.win 2).blk t).view.emb (ix2 0 k)) = _
  rw [h]
  change StableHlo.after hostOps0 _ (Proc.devRef .tc main_v1) (ix2 0 k) = _
  entry_read
  pointwise

/-- What point `t` writes back of the codes. -/
theorem flushed_codes (c : Dev nD) (t : Fin cfg0.N) :
    (dats m 0 c).flushed 3 t = ((cfg0.win 3).blk t).view.read (Elt Ideal) (normCodes (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext y
  change Shape.Idx ⟨2, ![16384, 6144]⟩ at y
  idx_vars y
  have hR : 16384 * 0 + y0.val < 16384 := by omega
  have e := idx3 t
  have h : ((cfg0.win 3).blk t).view.emb (ix2 y0 y1) = (ix2 (⟨16384 * 0 + y0.val, hR⟩ : Fin 16384) y1 : (⟨2, ![16384, 6144]⟩ : Shape).Idx) := by
    funext a
    apply Fin.ext
    match a with
    | ⟨0, _⟩ => show win0_3.index t (0 : Fin 2) * 16384 + 1 * y0.val = _; rw [e]; show 0 * 16384 + 1 * y0.val = 16384 * 0 + y0.val; omega
    | ⟨1, _⟩ => show win0_3.index t (1 : Fin 2) * 6144 + 1 * y1.val = y1.val; rw [e]; show 0 * 6144 + 1 * y1.val = y1.val; omega
  refine (out3_apply _ _ _ y0 y1).trans ?_
  refine Eq.trans ?_ (congrArg (normCodes (m ((c : Thread nD τ).loc main_arg0)) (m ((c : Thread nD τ).loc main_arg1)) (m ((c : Thread nD τ).loc main_arg2))) h.symm)
  exact normCode_congr y1 (fun j => iblk0 m c t y0 j ⟨16384 * 0 + y0.val, hR⟩ rfl) (iblk1 m c t) (iblk2 m c t)

/-- What point `t` writes back of the scales. -/
theorem flushed_scales (c : Dev nD) (t : Fin cfg0.N) :
    (dats m 0 c).flushed 4 t = ((cfg0.win 4).blk t).view.read (Elt Ideal) (normScales 1 (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext y
  change Shape.Idx ⟨2, ![16384, 1]⟩ at y
  idx_vars y
  have hR : 16384 * 0 + y0.val < 16384 := by omega
  have e := idx4 t
  have h : ((cfg0.win 4).blk t).view.emb (ix2 y0 y1) = (ix2 (⟨16384 * 0 + y0.val, hR⟩ : Fin 16384) y1 : (⟨2, ![16384, 1]⟩ : Shape).Idx) := by
    funext a
    apply Fin.ext
    match a with
    | ⟨0, _⟩ => show win0_4.index t (0 : Fin 2) * 16384 + 1 * y0.val = _; rw [e]; show 0 * 16384 + 1 * y0.val = 16384 * 0 + y0.val; omega
    | ⟨1, _⟩ => show win0_4.index t (1 : Fin 2) * 1 + 1 * y1.val = y1.val; rw [e]; show 0 * 1 + 1 * y1.val = y1.val; omega
  refine (out4_apply _ _ _ y0 y1).trans ?_
  refine Eq.trans ?_ (congrArg (normScales 1 (m ((c : Thread nD τ).loc main_arg0)) (m ((c : Thread nD τ).loc main_arg1)) (m ((c : Thread nD τ).loc main_arg2))) h.symm)
  exact normScale_congr (fun j => iblk0 m c t y0 j ⟨16384 * 0 + y0.val, hR⟩ rfl) (iblk1 m c t) (iblk2 m c t)

/-- The one grid point. -/
def t₀ : Fin cfg0.N := ⟨0, by decide⟩

/-- The one point's block of the codes is the whole array. -/
theorem emb_codes (i : (⟨2, ![16384, 6144]⟩ : Shape).Idx) : ((cfg0.win 3).blk t₀).view.emb i = i := by
  have e := idx3 t₀
  funext a
  apply Fin.ext
  match a with
  | ⟨0, _⟩ => show win0_3.index t₀ (0 : Fin 2) * 16384 + 1 * (i 0).val = (i 0).val; rw [e]; show 0 * 16384 + 1 * (i 0).val = (i 0).val; omega
  | ⟨1, _⟩ => show win0_3.index t₀ (1 : Fin 2) * 6144 + 1 * (i 1).val = (i 1).val; rw [e]; show 0 * 6144 + 1 * (i 1).val = (i 1).val; omega

/-- The array of codes after the run. -/
theorem final_codes (c : Dev nD) : (dats m 0 c).arrAt 3 cfg0.N = normCodes (m ((c : Thread nD τ).loc main_arg0)) (m ((c : Thread nD τ).loc main_arg1)) (m ((c : Thread nD τ).loc main_arg2)) :=
  (dats m 0 c).arrAt_eq_of_cover 3 _ (fun t _ => flushed_codes m c t) (fun i => ⟨t₀, by decide +kernel, by
    have hm := View.emb_mem_set ((cfg0.win 3).blk t₀).view i
    rw [emb_codes i] at hm
    exact hm⟩)

/-- The one point's block of the scales is the whole array. -/
theorem emb_scales (i : (⟨2, ![16384, 1]⟩ : Shape).Idx) : ((cfg0.win 4).blk t₀).view.emb i = i := by
  have e := idx4 t₀
  funext a
  apply Fin.ext
  match a with
  | ⟨0, _⟩ => show win0_4.index t₀ (0 : Fin 2) * 16384 + 1 * (i 0).val = (i 0).val; rw [e]; show 0 * 16384 + 1 * (i 0).val = (i 0).val; omega
  | ⟨1, _⟩ => show win0_4.index t₀ (1 : Fin 2) * 1 + 1 * (i 1).val = (i 1).val; rw [e]; show 0 * 1 + 1 * (i 1).val = (i 1).val; omega

/-- The array of scales after the run. -/
theorem final_scales (c : Dev nD) : (dats m 0 c).arrAt 4 cfg0.N = normScales 1 (m ((c : Thread nD τ).loc main_arg0)) (m ((c : Thread nD τ).loc main_arg1)) (m ((c : Thread nD τ).loc main_arg2)) :=
  (dats m 0 c).arrAt_eq_of_cover 4 _ (fun t _ => flushed_scales m c t) (fun i => ⟨t₀, by decide +kernel, by
    have hm := View.emb_mem_set ((cfg0.win 4).blk t₀).view i
    rw [emb_scales i] at hm
    exact hm⟩)

/-- The vector of scales the host line after the call reads off. -/
theorem tail_scales (c : Dev nD) : Pipeline.afterTail₀ cfgs (dats m) 0 (V0 m) [hostOps1] c main_v3 = rowScales (m ((c : Thread nD τ).loc main_arg0)) (m ((c : Thread nD τ).loc main_arg1)) (m ((c : Thread nD τ).loc main_arg2)) := by
  have hw : Pipeline.withArrays spec0 c (V0 m c) (fun w => (dats m 0 c).arrAt w cfg0.N) (Proc.devRef .tc main_v2_1)
      = normScales 1 (m ((c : Thread nD τ).loc main_arg0)) (m ((c : Thread nD τ).loc main_arg1)) (m ((c : Thread nD τ).loc main_arg2)) := (Pipeline.withArrays_arr spec0 (by decide) c _ _ 4).trans (final_scales m c)
  unfold Pipeline.afterTail₀
  change StableHlo.after hostOps1 _ (Proc.devRef .tc main_v3) = _
  entry_read
  generalize hX : Pipeline.withArrays (cfgs 0).spec c (V0 m c) (fun w => (dats m 0 c).arrAt w (cfgs 0).N) (Proc.devRef .tc main_v2_1) = X
  have hY : X = normScales 1 (m ((c : Thread nD τ).loc main_arg0)) (m ((c : Thread nD τ).loc main_arg1)) (m ((c : Thread nD τ).loc main_arg2)) := hX.symm.trans hw
  clear hX
  subst hY
  exact row_cast (R := 16384) _ _

/-- The run: the two results are the codes and the scales of the normed rows, the arguments are unchanged. -/
theorem run : θ_run defs (onTc (τ := τ) (main (F := Ideal))) ⟨m, fun _ => 0, ρ⟩ fun r => ∀ c : Dev nD,
      r.2.mem ((c : Thread nD τ).loc main_v2_0) = normCodes (m ((c : Thread nD τ).loc main_arg0)) (m ((c : Thread nD τ).loc main_arg1)) (m ((c : Thread nD τ).loc main_arg2))
      ∧ r.2.mem ((c : Thread nD τ).loc main_v3) = rowScales (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.2 c).1 3).trans (final_codes m c),
      (((h.2 c).2 main_v3 (Pipeline.mem_restRefs_of main_v3 (by decide) (by decide))).trans (tail_scales m c)), h.1 c⟩)
    (θ_run_and (unchanged m ρ) (run_main m ρ))

end Cert.Ln2RefIdeal.Blocks

open Idealize.ShloMosaic Cert.Common in
/-- Kernel and reference leave the same codes and scales from the same arguments. -/
theorem Cert.Ln2Ideal.Blocks.algebraic : Cert.algebraic_Ln2Ideal_Ln2RefIdeal := by
  intro m g m' g' hpre h
  refine ⟨fun c => _, fun c => _, Cert.Ln2Ideal.Blocks.run m g, ?_⟩
  refine (θ_run _ _ _).mono (fun r hr c => ⟨((hr c).1).trans ?_, ((hr c).2.1).trans ?_, (hr c).2.2⟩) (Cert.Ln2RefIdeal.Blocks.run m' g')
  · obtain ⟨e0, e1, e2⟩ := h c
    rw [e0, e1, e2]
  · obtain ⟨e0, e1, e2⟩ := h c
    rw [e0, e1, e2]
end
-- ==== Proof.FcBlock.lean ====
/-
  The expansion product with its activation: what one grid point leaves in its two output blocks, read element by element
  over the extended reals. The first point of a row of blocks (case A) widens the int8 codes into the carried scratch and
  starts the lane maxima from zero; the other points (case B) find both as the point before left them.
-/
module

public import proofs.«01_k».proof.Proof.Gen.FcIdeal.Frame
public import proofs.«01_k».proof.Proof.Rows
public import Idealize.ShloMosaic.Lib.Tactic

@[expose] public section

set_option maxRecDepth 16384

noncomputable section

namespace Cert.FcIdeal.Blocks

open Cert.FcIdeal Cert.FcIdeal.Gen Idealize.ShloMosaic Idealize.ShloMosaic.TcCoe Idealize.SL.Sem
open Idealize.ShloMosaic.Pointwise Cert.Common

/-- What a point leaves in its block of activations. -/
def actOf (s : Vec Ideal S1024x6144 .bf16) (x1 : Vec Ideal S1024x128 .f32) (x2 : Vec Ideal S6144x1024 .i8)
    (x3 x4 : Vec Ideal S1x1024 .f32) : (⟨2, ![1024, 1024]⟩ : Shape).Idx → EReal := fun y =>
  gelu (tileAt s x1 x2 x3 x4 (y 0) (y 1))

/-- What a point leaves in its block of lane maxima, over the maxima `p` it starts from: the magnitudes of the eight
    column groups of its block of activations, lane by lane. -/
def laneOf (p : (⟨2, ![1024, 128]⟩ : Shape).Idx → EReal) (a : (⟨2, ![1024, 1024]⟩ : Shape).Idx → EReal) :
    (⟨2, ![1024, 128]⟩ : Shape).Idx → EReal := fun y =>
  have h : (y 1).val < 128 := (y 1).isLt
  max (max (max (max (max (max (max (max (p y) (mag (a (ix2 (y 0) ⟨(y 1).val, by omega⟩)))) (mag (a (ix2 (y 0) ⟨128 + (y 1).val, by omega⟩)))) (mag (a (ix2 (y 0) ⟨256 + (y 1).val, by omega⟩)))) (mag (a (ix2 (y 0) ⟨384 + (y 1).val, by omega⟩)))) (mag (a (ix2 (y 0) ⟨512 + (y 1).val, by omega⟩)))) (mag (a (ix2 (y 0) ⟨640 + (y 1).val, by omega⟩)))) (mag (a (ix2 (y 0) ⟨768 + (y 1).val, by omega⟩)))) (mag (a (ix2 (y 0) ⟨896 + (y 1).val, by omega⟩)))

/-- Case A: the eight stores of 128 columns are the column bands of `actOf`. -/
theorem out5_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x6144 .bf16) (harg9 : arg9.IsWhole) (hc0 : cond0_0 i)
    (x0 : Vec Ideal S1024x6144 .i8) (x1 : Vec Ideal S1024x128 .f32) (x2 : Vec Ideal S6144x1024 .i8) (x3 : Vec Ideal S1x1024 .f32) (x4 : Vec Ideal S1x1024 .f32) :
    out0_A_5 c i arg2 harg2 arg3 harg3 arg4 harg4 arg5 harg5 arg6 harg6 arg7 harg7 arg8 harg8 arg9 harg9 hc0 x0 x1 x2 x3 x4 = actOf (k0_pay4 x0) x1 x2 x3 x4 := by
  have hcov := cover0_A_5 c i arg2 harg2 arg3 harg3 arg4 harg4 arg5 harg5 arg6 harg6 arg7 harg7 arg8 harg8 arg9 harg9 hc0 x0 x1 x2 x3 x4
  unfold out0_A_5
  rw [View.read_writes_eq_canon _ _ _ hcov]
  funext y
  refine View.canon_apply_of_pieces (actOf (k0_pay4 x0) x1 x2 x3 x4) _ ?_ y (hcov y)
  unfold kernelRun0_A
  dsimp only
  sl_unfold_words
  simp only [View.readAt_eq_ld, View.readCov_unit_zero (S := S1024x6144) _ hz, View.readCov_unit_zero (S := S1024x128) _ hz, harg2.read_unread, harg3.read_unread, harg4.read_unread, harg5.read_unread, harg6.read_unread, harg8.read_unread, harg9.read_unread,
    View.ld_unit_zero (S := S1024x6144) hz, View.ld_unit_zero (S := S6144x1024) hz, View.ld_unit_zero (S := S1024x128) hz]
  generalize k0_pay4 x0 = s
  intro p hp
  simp only [List.mem_cons, List.not_mem_nil, or_false] at hp
  rcases hp with rfl | rfl | rfl | rfl | rfl | rfl | rfl | rfl
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (896 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (768 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (640 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (512 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (384 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (256 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (128 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (q1.val) % 128 = q1.val by omega)]

/-- Case A: the last store of the lane maxima is `laneOf` of the point's activations. -/
theorem out6_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x6144 .bf16) (harg9 : arg9.IsWhole) (hc0 : cond0_0 i)
    (x0 : Vec Ideal S1024x6144 .i8) (x1 : Vec Ideal S1024x128 .f32) (x2 : Vec Ideal S6144x1024 .i8) (x3 : Vec Ideal S1x1024 .f32) (x4 : Vec Ideal S1x1024 .f32) :
    out0_A_6 c i arg2 harg2 arg3 harg3 arg4 harg4 arg5 harg5 arg6 harg6 arg7 harg7 arg8 harg8 arg9 harg9 hc0 x0 x1 x2 x3 x4 = laneOf (fun _ => 0) (actOf (k0_pay4 x0) x1 x2 x3 x4) := by
  have hcov := cover0_A_6 c i arg2 harg2 arg3 harg3 arg4 harg4 arg5 harg5 arg6 harg6 arg7 harg7 arg8 harg8 arg9 harg9 hc0 x0 x1 x2 x3 x4
  unfold out0_A_6
  rw [View.read_writes_eq_canon _ _ _ hcov]
  unfold kernelRun0_A
  dsimp only
  sl_unfold_words
  rw [View.canon_cons_unit_zero (S := S1024x128) hz]
  simp only [View.readAt_eq_ld, View.readCov_unit_zero (S := S1024x6144) _ hz, View.readCov_unit_zero (S := S1024x128) _ hz, harg2.read_unread, harg3.read_unread, harg4.read_unread, harg5.read_unread, harg6.read_unread, harg8.read_unread, harg9.read_unread,
    View.ld_unit_zero (S := S1024x6144) hz, View.ld_unit_zero (S := S6144x1024) hz, View.ld_unit_zero (S := S1024x128) hz]
  generalize k0_pay4 x0 = s
  funext y
  change Shape.Idx ⟨2, ![1024, 128]⟩ at y
  idx_vars y
  pointwise [laneOf, mag, actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  rw [lane_eq y1 _ _ (show (y1.val) % 128 = y1.val by omega)]
  rw [lane_eq y1 _ _ (show (128 + y1.val) % 128 = y1.val by omega)]
  rw [lane_eq y1 _ _ (show (256 + y1.val) % 128 = y1.val by omega)]
  rw [lane_eq y1 _ _ (show (384 + y1.val) % 128 = y1.val by omega)]
  rw [lane_eq y1 _ _ (show (512 + y1.val) % 128 = y1.val by omega)]
  rw [lane_eq y1 _ _ (show (640 + y1.val) % 128 = y1.val by omega)]
  rw [lane_eq y1 _ _ (show (768 + y1.val) % 128 = y1.val by omega)]
  rw [lane_eq y1 _ _ (show (896 + y1.val) % 128 = y1.val by omega)]

/-- Case B: the eight stores of 128 columns are the column bands of `actOf`. -/
theorem out5_B (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x6144 .bf16) (harg9 : arg9.IsWhole) (hc0 : ¬cond0_0 i)
    (x0 : Vec Ideal S1024x6144 .i8) (x1 : Vec Ideal S1024x128 .f32) (x2 : Vec Ideal S6144x1024 .i8) (x3 : Vec Ideal S1x1024 .f32) (x4 : Vec Ideal S1x1024 .f32) (xo6 : Vec Ideal S1024x128 .f32) (xs0 : Vec Ideal S1024x6144 .bf16) :
    out0_B_5 c i arg2 harg2 arg3 harg3 arg4 harg4 arg5 harg5 arg6 harg6 arg7 harg7 arg8 harg8 arg9 harg9 hc0 x0 x1 x2 x3 x4 xo6 xs0 = actOf xs0 x1 x2 x3 x4 := by
  have hcov := cover0_B_5 c i arg2 harg2 arg3 harg3 arg4 harg4 arg5 harg5 arg6 harg6 arg7 harg7 arg8 harg8 arg9 harg9 hc0 x0 x1 x2 x3 x4 xo6 xs0
  unfold out0_B_5
  rw [View.read_writes_eq_canon _ _ _ hcov]
  funext y
  refine View.canon_apply_of_pieces (actOf xs0 x1 x2 x3 x4) _ ?_ y (hcov y)
  unfold kernelRun0_B
  dsimp only
  sl_unfold_words
  simp only [View.readAt_eq_ld, View.readCov_unit_zero (S := S1024x6144) _ hz, View.readCov_unit_zero (S := S1024x128) _ hz, harg2.read_unread, harg3.read_unread, harg4.read_unread, harg5.read_unread, harg6.read_unread, harg8.read_unread, harg9.read_unread,
    View.ld_unit_zero (S := S1024x6144) hz, View.ld_unit_zero (S := S6144x1024) hz, View.ld_unit_zero (S := S1024x128) hz]
  intro p hp
  simp only [List.mem_cons, List.not_mem_nil, or_false] at hp
  rcases hp with rfl | rfl | rfl | rfl | rfl | rfl | rfl | rfl
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (896 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (768 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (640 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (512 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (384 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (256 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (128 + q1.val) % 128 = q1.val by omega)]
  · intro q
    change Shape.Idx ⟨2, ![1024, 128]⟩ at q
    idx_vars q
    rw [emb_lane]
    pointwise [actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [lane_eq q1 _ _ (show (q1.val) % 128 = q1.val by omega)]

/-- Case B: the last store of the lane maxima is `laneOf` of the point's activations. -/
theorem out6_B (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x6144 .bf16) (harg9 : arg9.IsWhole) (hc0 : ¬cond0_0 i)
    (x0 : Vec Ideal S1024x6144 .i8) (x1 : Vec Ideal S1024x128 .f32) (x2 : Vec Ideal S6144x1024 .i8) (x3 : Vec Ideal S1x1024 .f32) (x4 : Vec Ideal S1x1024 .f32) (xo6 : Vec Ideal S1024x128 .f32) (xs0 : Vec Ideal S1024x6144 .bf16) :
    out0_B_6 c i arg2 harg2 arg3 harg3 arg4 harg4 arg5 harg5 arg6 harg6 arg7 harg7 arg8 harg8 arg9 harg9 hc0 x0 x1 x2 x3 x4 xo6 xs0 = laneOf xo6 (actOf xs0 x1 x2 x3 x4) := by
  have hcov := cover0_B_6 c i arg2 harg2 arg3 harg3 arg4 harg4 arg5 harg5 arg6 harg6 arg7 harg7 arg8 harg8 arg9 harg9 hc0 x0 x1 x2 x3 x4 xo6 xs0
  unfold out0_B_6
  rw [View.read_writes_eq_canon _ _ _ hcov]
  unfold kernelRun0_B
  dsimp only
  sl_unfold_words
  rw [View.canon_cons_unit_zero (S := S1024x128) hz]
  simp only [View.readAt_eq_ld, View.readCov_unit_zero (S := S1024x6144) _ hz, View.readCov_unit_zero (S := S1024x128) _ hz, harg2.read_unread, harg3.read_unread, harg4.read_unread, harg5.read_unread, harg6.read_unread, harg8.read_unread, harg9.read_unread,
    View.ld_unit_zero (S := S1024x6144) hz, View.ld_unit_zero (S := S6144x1024) hz, View.ld_unit_zero (S := S1024x128) hz]
  funext y
  change Shape.Idx ⟨2, ![1024, 128]⟩ at y
  idx_vars y
  pointwise [laneOf, mag, actOf, gelu, tileAt, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  rw [lane_eq y1 _ _ (show (y1.val) % 128 = y1.val by omega)]
  rw [lane_eq y1 _ _ (show (128 + y1.val) % 128 = y1.val by omega)]
  rw [lane_eq y1 _ _ (show (256 + y1.val) % 128 = y1.val by omega)]
  rw [lane_eq y1 _ _ (show (384 + y1.val) % 128 = y1.val by omega)]
  rw [lane_eq y1 _ _ (show (512 + y1.val) % 128 = y1.val by omega)]
  rw [lane_eq y1 _ _ (show (640 + y1.val) % 128 = y1.val by omega)]
  rw [lane_eq y1 _ _ (show (768 + y1.val) % 128 = y1.val by omega)]
  rw [lane_eq y1 _ _ (show (896 + y1.val) % 128 = y1.val by omega)]

/-- Case A leaves the widened codes in the carried scratch. -/
theorem sout_A (c : Dev nD) (i : grid0.Coords) (arg2 : Memref sig .tc .vmem S1024x6144 .i8) (harg2 : arg2.IsWhole) (arg3 : Memref sig .tc .vmem S1024x128 .f32) (harg3 : arg3.IsWhole) (arg4 : Memref sig .tc .vmem S6144x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1024x6144 .bf16) (harg9 : arg9.IsWhole) (hc0 : cond0_0 i)
    (x0 : Vec Ideal S1024x6144 .i8) (x1 : Vec Ideal S1024x128 .f32) (x2 : Vec Ideal S6144x1024 .i8) (x3 : Vec Ideal S1x1024 .f32) (x4 : Vec Ideal S1x1024 .f32) :
    sout0_A_0 c i arg2 harg2 arg3 harg3 arg4 harg4 arg5 harg5 arg6 harg6 arg7 harg7 arg8 harg8 arg9 harg9 hc0 x0 x1 x2 x3 x4 = k0_pay4 x0 := by
  have hcov := scover0_A_0 c i arg2 harg2 arg3 harg3 arg4 harg4 arg5 harg5 arg6 harg6 arg7 harg7 arg8 harg8 arg9 harg9 hc0 x0 x1 x2 x3 x4
  unfold sout0_A_0
  rw [View.read_writes_eq_canon _ _ _ hcov]
  unfold kernelRun0_A
  dsimp only
  sl_unfold_words
  rw [View.canon_unit_zero hz]
  simp only [View.readAt_eq_ld, harg2.read_unread, View.ld_unit_zero (S := S1024x6144) hz]

/-- The widened codes, element by element. -/
theorem widen_apply (x0 : Vec Ideal S1024x6144 .i8) (r : Fin 1024) (k : Fin 6144) :
    k0_pay4 x0 (ix2 r k) = FloatOps.sitofp (F := Ideal) .bf16 (x0 (ix2 r k)) := by
  pointwise [k0_pay4]

end Cert.FcIdeal.Blocks
end
-- ==== Proof.FcRun.lean ====
/-
  The expansion product with its activation: its two result arrays after the run, as closed forms of the argument arrays.
-/
module

public import proofs.«01_k».proof.Proof.FcBlock
public import proofs.«01_k».proof.Proof.Gen.FcIdeal.Value
public import Idealize.ShloMosaic.Lib.Claim

@[expose] public section

set_option maxRecDepth 16384

noncomputable section

namespace Cert.Common

open Idealize.ShloMosaic Idealize.ShloMosaic.Pointwise

/-- The activated layer, as an array. -/
def activated {M K N : ℕ} (a : Vec Ideal ⟨2, ![M, K]⟩ .i8) (s : Vec Ideal ⟨1, ![M]⟩ .f32)
    (w : Vec Ideal ⟨2, ![K, N]⟩ .i8) (sw b : Vec Ideal ⟨1, ![N]⟩ .f32) : (⟨2, ![M, N]⟩ : Shape).Idx → EReal :=
  fun i => gelu (linAt a s w sw b (i 0) (i 1))

/-- Each row's largest magnitude, lane by lane: over the columns with the same number modulo 128. -/
def laneMax (g : (⟨2, ![16384, 12288]⟩ : Shape).Idx → EReal) : (⟨2, ![16384, 128]⟩ : Shape).Idx → EReal := fun i =>
  have h : (i 1).val < 128 := (i 1).isLt
  maxMag (fun j : Fin 96 => g (ix2 (i 0) ⟨128 * j.val + (i 1).val, by omega⟩))

end Cert.Common

namespace Cert.FcIdeal.Blocks

open Cert.FcIdeal Cert.FcIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages at point `t` of the 16 by 12 grid -/

theorem idx0 : ∀ t : Fin cfg0.N, win0_0.index t = ![t.val / 12, 0] := (by decide +kernel : ∀ t : Fin grid0.N, _)
theorem idx1 : ∀ t : Fin cfg0.N, win0_1.index t = ![t.val / 12, 0] := (by decide +kernel : ∀ t : Fin grid0.N, _)
theorem idx2 : ∀ t : Fin cfg0.N, win0_2.index t = ![0, t.val % 12] := (by decide +kernel : ∀ t : Fin grid0.N, _)
theorem idx3 : ∀ t : Fin cfg0.N, win0_3.index t = ![0, t.val % 12] := (by decide +kernel : ∀ t : Fin grid0.N, _)
theorem idx4 : ∀ t : Fin cfg0.N, win0_4.index t = ![0, t.val % 12] := (by decide +kernel : ∀ t : Fin grid0.N, _)
theorem idx5 : ∀ t : Fin cfg0.N, win0_5.index t = ![t.val / 12, t.val % 12] := (by decide +kernel : ∀ t : Fin grid0.N, _)
theorem idx6 : ∀ t : Fin cfg0.N, win0_6.index t = ![t.val / 12, 0] := (by decide +kernel : ∀ t : Fin grid0.N, _)

/-! ## Each input block, element by element, in the argument arrays -/

theorem iblk0 (c : Dev nD) (t : Fin cfg0.N) (r : Fin 1024) (k : Fin 6144) (R : Fin 16384) (hR : R.val = 1024 * (t.val / 12) + r.val) :
    iblk m c 0 t (ix2 r k) = m ((c : Thread nD τ).loc main_arg0) (ix2 R k) := by
  have e := idx0 t
  have h : ((cfg0.win 0).blk t).view.emb (ix2 r k) = (ix2 R k : (⟨2, ![16384, 6144]⟩ : Shape).Idx) := by
    funext a
    apply Fin.ext
    match a with
    | ⟨0, _⟩ => show win0_0.index t (0 : Fin 2) * 1024 + 1 * r.val = R.val; rw [e]; show t.val / 12 * 1024 + 1 * r.val = R.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h]
  rw [V_main_arg0]

theorem iblk1 (c : Dev nD) (t : Fin cfg0.N) (r : Fin 1024) (k : Fin 128) (R : Fin 16384) (hR : R.val = 1024 * (t.val / 12) + r.val) :
    iblk m c 1 t (ix2 r k) = m ((c : Thread nD τ).loc main_arg1) (ix1 R) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 1024 + 1 * r.val = R.val; rw [e]; show t.val / 12 * 1024 + 1 * r.val = R.val; omega
    | ⟨1, _⟩ => show win0_1.index t (1 : Fin 2) * 128 + 1 * k.val = k.val; rw [e]; show 0 * 128 + 1 * k.val = k.val; omega
  show V m c main_v1 (((cfg0.win 1).blk t).view.emb (ix2 r k)) = _
  rw [h]
  entry_read
  pointwise

theorem iblk2 (c : Dev nD) (t : Fin cfg0.N) (r : Fin 6144) (k : Fin 1024) (C : Fin 12288) (hC : C.val = 1024 * (t.val % 12) + k.val) :
    iblk m c 2 t (ix2 r k) = m ((c : Thread nD τ).loc main_arg2) (ix2 r C) := by
  have e := idx2 t
  have h : ((cfg0.win 2).blk t).view.emb (ix2 r k) = (ix2 r C : (⟨2, ![6144, 12288]⟩ : Shape).Idx) := by
    funext a
    apply Fin.ext
    match a with
    | ⟨0, _⟩ => show win0_2.index t (0 : Fin 2) * 6144 + 1 * r.val = r.val; rw [e]; show 0 * 6144 + 1 * r.val = r.val; omega
    | ⟨1, _⟩ => show win0_2.index t (1 : Fin 2) * 1024 + 1 * k.val = C.val; rw [e]; show t.val % 12 * 1024 + 1 * k.val = C.val; omega
  show V m c main_arg2 (((cfg0.win 2).blk t).view.emb (ix2 r k)) = _
  rw [h]
  rw [V_main_arg2]

theorem iblk3 (c : Dev nD) (t : Fin cfg0.N) (r : Fin 1) (k : Fin 1024) (C : Fin 12288) (hC : C.val = 1024 * (t.val % 12) + k.val) :
    iblk m c 3 t (ix2 r k) = m ((c : Thread nD τ).loc main_arg3) (ix1 C) := by
  have e := idx3 t
  have h : ((cfg0.win 3).blk t).view.emb (ix2 r k) = (ix2 r C : (⟨2, ![1, 12288]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 1024 + 1 * k.val = C.val; rw [e]; show t.val % 12 * 1024 + 1 * k.val = C.val; omega
  show V m c main_v2 (((cfg0.win 3).blk t).view.emb (ix2 r k)) = _
  rw [h]
  entry_read
  pointwise

theorem iblk4 (c : Dev nD) (t : Fin cfg0.N) (r : Fin 1) (k : Fin 1024) (C : Fin 12288) (hC : C.val = 1024 * (t.val % 12) + k.val) :
    iblk m c 4 t (ix2 r k) = m ((c : Thread nD τ).loc main_arg4) (ix1 C) := by
  have e := idx4 t
  have h : ((cfg0.win 4).blk t).view.emb (ix2 r k) = (ix2 r C : (⟨2, ![1, 12288]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 1024 + 1 * k.val = C.val; rw [e]; show t.val % 12 * 1024 + 1 * k.val = C.val; omega
  show V m c main_v3 (((cfg0.win 4).blk t).view.emb (ix2 r k)) = _
  rw [h]
  entry_read
  pointwise

/-! ## What each point leaves -/

/-- The codes of a row of blocks are staged alike at all its points. -/
theorem iblk0_row (c : Dev nD) (t t' : Fin cfg0.N) (h : t.val / 12 = t'.val / 12) : iblk m c 0 t = iblk m c 0 t' := by
  have ht : t.val < 192 := Nat.lt_of_lt_of_eq t.isLt N_0
  funext y
  change Shape.Idx ⟨2, ![1024, 6144]⟩ at y
  idx_vars y
  have hlt : 1024 * (t.val / 12) + y0.val < 16384 := by omega
  exact (iblk0 m c t y0 y1 ⟨1024 * (t.val / 12) + y0.val, hlt⟩ rfl).trans
    (iblk0 m c t' y0 y1 ⟨1024 * (t.val / 12) + y0.val, hlt⟩ (congrArg (fun q => 1024 * q + y0.val) h)).symm

/-- The carried scratch holds the widened codes of the point's row of blocks. -/
theorem scratch_eq (c : Dev nD) : ∀ (n : ℕ) (t : Fin cfg0.N), t.val = n → (outsAt0 m c t.val t.isLt).2.2 = k0_pay4 (iblk m c 0 t) := by
  intro n
  induction n with
  | zero =>
    intro t e
    rw [outsAt0_A m c t (by omega)]
    dsimp only
    rw [sout_A]
  | succ n ih =>
    intro t e
    by_cases h0 : t.val % 12 = 0
    · rw [outsAt0_A m c t h0]
      dsimp only
      rw [sout_A]
    · rw [outsAt0_B m c t h0]
      dsimp only [sout0_B_0]
      have hp : t.val - 1 < cfg0.N := Nat.lt_of_le_of_lt (Nat.sub_le _ _) t.isLt
      exact (ih ⟨t.val - 1, hp⟩ (by show t.val - 1 = n; omega)).trans
        (congrArg k0_pay4 (iblk0_row m c ⟨t.val - 1, hp⟩ t (by show (t.val - 1) / 12 = t.val / 12; omega)))

/-- … so it is already there when a later point of the row starts. -/
theorem scratch_prev (c : Dev nD) (t : Fin cfg0.N) (h0 : ¬t.val % 12 = 0) (hp : t.val - 1 < cfg0.N) :
    (outsAt0 m c (t.val - 1) hp).2.2 = k0_pay4 (iblk m c 0 t) :=
  (scratch_eq m c _ ⟨t.val - 1, hp⟩ rfl).trans
    (congrArg k0_pay4 (iblk0_row m c ⟨t.val - 1, hp⟩ t (by show (t.val - 1) / 12 = t.val / 12; omega)))

/-- The block of activations after point `t`. -/
theorem act_eq (c : Dev nD) (t : Fin cfg0.N) :
    (outsAt0 m c t.val t.isLt).1 = actOf (k0_pay4 (iblk m c 0 t)) (iblk m c 1 t) (iblk m c 2 t) (iblk m c 3 t) (iblk m c 4 t) := by
  by_cases h0 : t.val % 12 = 0
  · rw [outsAt0_A m c t h0]
    dsimp only
    rw [out5_A]
  · have hp : t.val - 1 < cfg0.N := Nat.lt_of_le_of_lt (Nat.sub_le _ _) t.isLt
    have hs := scratch_prev m c t h0 hp
    rw [outsAt0_B m c t h0]
    dsimp only
    rw [out5_B, hs]

/-- The block of lane maxima after the first point of a row. -/
theorem lanes_A (c : Dev nD) (t : Fin cfg0.N) (h0 : t.val % 12 = 0) :
    (outsAt0 m c t.val t.isLt).2.1 = laneOf (fun _ => 0) (actOf (k0_pay4 (iblk m c 0 t)) (iblk m c 1 t) (iblk m c 2 t) (iblk m c 3 t) (iblk m c 4 t)) := by
  rw [outsAt0_A m c t h0]
  dsimp only
  rw [out6_A]

/-- The block of lane maxima after a later point. -/
theorem lanes_B (c : Dev nD) (t : Fin cfg0.N) (h0 : ¬t.val % 12 = 0) (hp : t.val - 1 < cfg0.N) :
    (outsAt0 m c t.val t.isLt).2.1 = laneOf (outsAt0 m c (t.val - 1) hp).2.1 (actOf (k0_pay4 (iblk m c 0 t)) (iblk m c 1 t) (iblk m c 2 t) (iblk m c 3 t) (iblk m c 4 t)) := by
  have hs := scratch_prev m c t h0 hp
  rw [outsAt0_B m c t h0]
  dsimp only
  rw [out6_B, hs]

/-- A point's block, element by element, is the activated layer at the element's place in the array. -/
theorem block_eq (c : Dev nD) (t : Fin cfg0.N) (r : Fin 1024) (k : Fin 1024) (R : Fin 16384) (C : Fin 12288)
    (hR : R.val = 1024 * (t.val / 12) + r.val) (hC : C.val = 1024 * (t.val % 12) + k.val) :
    (actOf (k0_pay4 (iblk m c 0 t)) (iblk m c 1 t) (iblk m c 2 t) (iblk m c 3 t) (iblk m c 4 t)) (ix2 r k) = activated (m ((c : Thread nD τ).loc main_arg0)) (m ((c : Thread nD τ).loc main_arg1)) (m ((c : Thread nD τ).loc main_arg2)) (m ((c : Thread nD τ).loc main_arg3)) (m ((c : Thread nD τ).loc main_arg4)) (ix2 R C) := by
  exact congrArg gelu (tile_eq_lin
    (fun j => (widen_apply _ r j).trans (congrArg _ (iblk0 m c t r j R hR)))
    (iblk1 m c t r _ R hR) (fun j => iblk2 m c t j k C hC) (iblk3 m c t 0 k C hC) (iblk4 m c t 0 k C hC))

/-! ## The lane maxima, bounded -/

/-- An upper bound of what `laneOf` leaves bounds what it started from and the eight magnitudes it took in. -/
theorem laneOf_le (p : (⟨2, ![1024, 128]⟩ : Shape).Idx → EReal) (a : (⟨2, ![1024, 1024]⟩ : Shape).Idx → EReal) (r : Fin 1024)
    (l : Fin 128) (x : EReal) :
    laneOf p a (ix2 r l) ≤ x ↔ p (ix2 r l) ≤ x ∧ ∀ k : Fin 8, mag (a (ix2 r ⟨128 * k.val + l.val, by omega⟩)) ≤ x := by
  have e0 : (⟨128 * 0 + l.val, by omega⟩ : Fin 1024) = ⟨l.val, by omega⟩ := Fin.ext (by show 128 * 0 + l.val = l.val; omega)
  constructor
  · intro h
    obtain ⟨h, h7⟩ := max_le_iff.1 h
    obtain ⟨h, h6⟩ := max_le_iff.1 h
    obtain ⟨h, h5⟩ := max_le_iff.1 h
    obtain ⟨h, h4⟩ := max_le_iff.1 h
    obtain ⟨h, h3⟩ := max_le_iff.1 h
    obtain ⟨h, h2⟩ := max_le_iff.1 h
    obtain ⟨h, h1⟩ := max_le_iff.1 h
    obtain ⟨h, h0⟩ := max_le_iff.1 h
    refine ⟨h, fun k => ?_⟩
    match k with
    | ⟨0, _⟩ => exact (congrArg (fun q => mag (a (ix2 r q))) e0).trans_le h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
  · intro ⟨h, hk⟩
    exact max_le (max_le (max_le (max_le (max_le (max_le (max_le (max_le h
      ((congrArg (fun q => mag (a (ix2 r q))) e0).symm.trans_le (hk 0))) (hk 1)) (hk 2)) (hk 3)) (hk 4)) (hk 5)) (hk 6)) (hk 7)

/-- One point takes in the column groups of its block. -/
theorem lanes_step (c : Dev nD) (t : Fin cfg0.N) (p : (⟨2, ![1024, 128]⟩ : Shape).Idx → EReal) (r : Fin 1024) (l : Fin 128)
    (R : Fin 16384) (hR : R.val = 1024 * (t.val / 12) + r.val) (x : EReal) :
    laneOf p (actOf (k0_pay4 (iblk m c 0 t)) (iblk m c 1 t) (iblk m c 2 t) (iblk m c 3 t) (iblk m c 4 t)) (ix2 r l) ≤ x
      ↔ p (ix2 r l) ≤ x ∧ ∀ j : Fin 96, 8 * (t.val % 12) ≤ j.val → j.val < 8 * (t.val % 12 + 1) →
          mag (activated (m ((c : Thread nD τ).loc main_arg0)) (m ((c : Thread nD τ).loc main_arg1)) (m ((c : Thread nD τ).loc main_arg2)) (m ((c : Thread nD τ).loc main_arg3)) (m ((c : Thread nD τ).loc main_arg4)) (ix2 R ⟨128 * j.val + l.val, by omega⟩)) ≤ x := by
  rw [laneOf_le]
  refine and_congr Iff.rfl ⟨fun h j h1 h2 => ?_, fun h k => ?_⟩
  · have hk := h ⟨j.val - 8 * (t.val % 12), by omega⟩
    rw [block_eq m c t r _ R ⟨128 * j.val + l.val, by omega⟩ hR (by
      show 128 * j.val + l.val = 1024 * (t.val % 12) + (128 * (j.val - 8 * (t.val % 12)) + l.val); omega)] at hk
    exact hk
  · have hj : 8 * (t.val % 12) + k.val < 96 := by omega
    have hx := h ⟨8 * (t.val % 12) + k.val, hj⟩ (by show 8 * (t.val % 12) ≤ 8 * (t.val % 12) + k.val; omega)
      (by show 8 * (t.val % 12) + k.val < 8 * (t.val % 12 + 1); omega)
    rw [block_eq m c t r _ R ⟨128 * (8 * (t.val % 12) + k.val) + l.val, by omega⟩ hR (by
      show 128 * (8 * (t.val % 12) + k.val) + l.val = 1024 * (t.val % 12) + (128 * k.val + l.val); omega)]
    exact hx

/-- After point `t` of a row of blocks the lane maxima bound the magnitudes of the column groups met so far. -/
theorem lanes_le (c : Dev nD) : ∀ (n : ℕ) (t : Fin cfg0.N), t.val = n → ∀ (r : Fin 1024) (l : Fin 128)
    (R : Fin 16384) (_ : R.val = 1024 * (t.val / 12) + r.val) (x : EReal),
    (outsAt0 m c t.val t.isLt).2.1 (ix2 r l) ≤ x
      ↔ 0 ≤ x ∧ ∀ j : Fin 96, j.val < 8 * (t.val % 12 + 1) →
          mag (activated (m ((c : Thread nD τ).loc main_arg0)) (m ((c : Thread nD τ).loc main_arg1)) (m ((c : Thread nD τ).loc main_arg2)) (m ((c : Thread nD τ).loc main_arg3)) (m ((c : Thread nD τ).loc main_arg4)) (ix2 R ⟨128 * j.val + l.val, by omega⟩)) ≤ x := by
  intro n
  induction n with
  | zero =>
    intro t e r l R hR x
    rw [lanes_A m c t (by omega)]
    refine (lanes_step m c t _ r l R hR x).trans ?_
    exact and_congr Iff.rfl ⟨fun h j h2 => h j (by omega) h2, fun h j _ h2 => h j h2⟩
  | succ n ih =>
    intro t e r l R hR x
    by_cases h0 : t.val % 12 = 0
    · rw [lanes_A m c t h0]
      refine (lanes_step m c t _ r l R hR x).trans ?_
      exact and_congr Iff.rfl ⟨fun h j h2 => h j (by omega) h2, fun h j _ h2 => h j h2⟩
    · have hp : t.val - 1 < cfg0.N := Nat.lt_of_le_of_lt (Nat.sub_le _ _) t.isLt
      rw [lanes_B m c t h0 hp]
      refine (lanes_step m c t _ r l R hR x).trans ?_
      have hprev := ih ⟨t.val - 1, hp⟩ (by show t.val - 1 = n; omega) r l R (by
        show R.val = 1024 * ((t.val - 1) / 12) + r.val; omega) x
      refine (and_congr hprev Iff.rfl).trans ?_
      have hm : (t.val - 1) % 12 + 1 = t.val % 12 := by omega
      constructor
      · rintro ⟨⟨hx, hlo⟩, hhi⟩
        refine ⟨hx, fun j hj => ?_⟩
        by_cases hc : j.val < 8 * (t.val % 12)
        · exact hlo j (by show j.val < 8 * ((t.val - 1) % 12 + 1); omega)
        · exact hhi j (by omega) hj
      · rintro ⟨hx, h⟩
        refine ⟨⟨hx, fun j hj => h j ?_⟩, fun j _ hj => h j hj⟩
        have hj' : j.val < 8 * ((t.val - 1) % 12 + 1) := hj
        omega

/-- At the last point of a row of blocks they are the row's lane maxima. -/
theorem lanes_eq (c : Dev nD) (t : Fin cfg0.N) (ht : t.val % 12 = 11) (r : Fin 1024) (l : Fin 128)
    (R : Fin 16384) (hR : R.val = 1024 * (t.val / 12) + r.val) :
    (outsAt0 m c t.val t.isLt).2.1 (ix2 r l) = laneMax (activated (m ((c : Thread nD τ).loc main_arg0)) (m ((c : Thread nD τ).loc main_arg1)) (m ((c : Thread nD τ).loc main_arg2)) (m ((c : Thread nD τ).loc main_arg3)) (m ((c : Thread nD τ).loc main_arg4))) (ix2 R l) := by
  refine eq_of_forall_ge_iff fun x => (lanes_le m c _ t rfl r l R hR x).trans (Iff.trans ?_ (maxMag_le _ x).symm)
  constructor
  · rintro ⟨hx, h⟩
    exact ⟨bot_le_zero.trans hx, fun j => h j (by omega)⟩
  · rintro ⟨_, h⟩
    exact ⟨(mag_nonneg _).trans (h 0), fun j _ => h j⟩

/-! ## The whole arrays -/

/-- What point `t` writes back of the activations. -/
theorem flushed_act (c : Dev nD) (t : Fin cfg0.N) :
    (dats m 0 c).flushed 5 t = ((cfg0.win 5).blk t).view.read (Elt Ideal) (activated (m ((c : Thread nD τ).loc main_arg0)) (m ((c : Thread nD τ).loc main_arg1)) (m ((c : Thread nD τ).loc main_arg2)) (m ((c : Thread nD τ).loc main_arg3)) (m ((c : Thread nD τ).loc main_arg4))) := by
  have ht : t.val < 192 := Nat.lt_of_lt_of_eq t.isLt N_0
  rw [Value.flushed5, act_eq]
  funext y
  change Shape.Idx ⟨2, ![1024, 1024]⟩ at y
  idx_vars y
  have hR : 1024 * (t.val / 12) + y0.val < 16384 := by omega
  have hC : 1024 * (t.val % 12) + y1.val < 12288 := by omega
  have e := idx5 t
  have h : ((cfg0.win 5).blk t).view.emb (ix2 y0 y1) = (ix2 (⟨1024 * (t.val / 12) + y0.val, hR⟩ : Fin 16384) (⟨1024 * (t.val % 12) + y1.val, hC⟩ : Fin 12288) : (⟨2, ![16384, 12288]⟩ : Shape).Idx) := by
    funext a
    apply Fin.ext
    match a with
    | ⟨0, _⟩ => show win0_5.index t (0 : Fin 2) * 1024 + 1 * y0.val = _; rw [e]; show t.val / 12 * 1024 + 1 * y0.val = 1024 * (t.val / 12) + y0.val; omega
    | ⟨1, _⟩ => show win0_5.index t (1 : Fin 2) * 1024 + 1 * y1.val = _; rw [e]; show t.val % 12 * 1024 + 1 * y1.val = 1024 * (t.val % 12) + y1.val; omega
  refine (block_eq m c t y0 y1 ⟨1024 * (t.val / 12) + y0.val, hR⟩ ⟨1024 * (t.val % 12) + y1.val, hC⟩ rfl rfl).trans ?_
  exact congrArg (activated (m ((c : Thread nD τ).loc main_arg0)) (m ((c : Thread nD τ).loc main_arg1)) (m ((c : Thread nD τ).loc main_arg2)) (m ((c : Thread nD τ).loc main_arg3)) (m ((c : Thread nD τ).loc main_arg4))) h.symm

/-- What the last point of a row of blocks writes back of the lane maxima. -/
theorem flushed_lanes (c : Dev nD) (t : Fin cfg0.N) (hf : (cfg0.win 6).flush t = true) :
    (dats m 0 c).flushed 6 t = ((cfg0.win 6).blk t).view.read (Elt Ideal) (laneMax (activated (m ((c : Thread nD τ).loc main_arg0)) (m ((c : Thread nD τ).loc main_arg1)) (m ((c : Thread nD τ).loc main_arg2)) (m ((c : Thread nD τ).loc main_arg3)) (m ((c : Thread nD τ).loc main_arg4)))) := by
  have ht : t.val < 192 := Nat.lt_of_lt_of_eq t.isLt N_0
  have hm := (flush0_6 t).1 hf
  rw [Value.flushed6]
  funext y
  change Shape.Idx ⟨2, ![1024, 128]⟩ at y
  idx_vars y
  have hR : 1024 * (t.val / 12) + y0.val < 16384 := by omega
  have e := idx6 t
  have h : ((cfg0.win 6).blk t).view.emb (ix2 y0 y1) = (ix2 (⟨1024 * (t.val / 12) + y0.val, hR⟩ : Fin 16384) y1 : (⟨2, ![16384, 128]⟩ : Shape).Idx) := by
    funext a
    apply Fin.ext
    match a with
    | ⟨0, _⟩ => show win0_6.index t (0 : Fin 2) * 1024 + 1 * y0.val = _; rw [e]; show t.val / 12 * 1024 + 1 * y0.val = 1024 * (t.val / 12) + y0.val; omega
    | ⟨1, _⟩ => show win0_6.index t (1 : Fin 2) * 128 + 1 * y1.val = y1.val; rw [e]; show 0 * 128 + 1 * y1.val = y1.val; omega
  refine (lanes_eq m c t hm y0 y1 ⟨1024 * (t.val / 12) + y0.val, hR⟩ rfl).trans ?_
  exact congrArg (laneMax (activated (m ((c : Thread nD τ).loc main_arg0)) (m ((c : Thread nD τ).loc main_arg1)) (m ((c : Thread nD τ).loc main_arg2)) (m ((c : Thread nD τ).loc main_arg3)) (m ((c : Thread nD τ).loc main_arg4)))) h.symm

/-- The array of activations after the run. -/
theorem final_act (c : Dev nD) : (dats m 0 c).arrAt 5 cfg0.N = activated (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_act m c t) (fun i => (Value.covered_iff5 i).2 (by
    have h0 : (i 0).val < 16384 := (i 0).isLt; have h1 : (i 1).val < 12288 := (i 1).isLt; omega))

/-- The array of lane maxima after the run. -/
theorem final_lanes (c : Dev nD) : (dats m 0 c).arrAt 6 cfg0.N = laneMax (activated (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 6 _ (fun t hf => flushed_lanes m c t hf) (fun i => (Value.covered_iff6 i).2 (by
    have h0 : (i 0).val < 16384 := (i 0).isLt; have h1 : (i 1).val < 128 := (i 1).isLt; omega))

/-- The run: the two result arrays hold the closed forms, the arguments are unchanged. -/
theorem run : θ_run defs (onTc (τ := τ) (main (F := Ideal))) ⟨m, fun _ => 0, ρ⟩ fun r => ∀ c : Dev nD,
      r.2.mem ((c : Thread nD τ).loc main_v4_0) = activated (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v4_1) = laneMax (activated (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final_act m c), ((h c).2.1).trans (final_lanes m c), (h c).2.2⟩)
    (Value.run_blocks m ρ)

end Cert.FcIdeal.Blocks
end
-- ==== Proof.FcRef.lean ====
/-
  The expansion product with its activation: its reference's result arrays after the run, and the two programs' results
  compared.
-/
module

public import proofs.«01_k».proof.Defs
public import proofs.«01_k».proof.Proof.FcRun
public import proofs.«01_k».proof.Proof.Gen.FcRefIdeal.Value

@[expose] public section

set_option maxRecDepth 16384

noncomputable section

namespace Cert.FcRefIdeal.Blocks

open Cert.FcRefIdeal Cert.FcRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-- The reference's activated element. -/
theorem act_apply (x0 : Vec Ideal S16384x6144 .i8) (x1 : Vec Ideal S16384x1 .f32) (x2 : Vec Ideal S6144x12288 .i8)
    (x3 x4 : Vec Ideal S1x12288 .f32) (r : Fin 16384) (n : Fin 12288) :
    k0_pay1 x0 x1 x2 x3 x4 (ix2 r n)
      = gelu ((∑ k : Fin 6144, (FloatOps.sitofp (F := Ideal) .bf16 (x0 (ix2 r k)) : EReal) * (FloatOps.sitofp (F := Ideal) .bf16 (x2 (ix2 k n)) : EReal))
        * x1 (ix2 r 0) * x3 (ix2 0 n) + x4 (ix2 0 n)) := by
  pointwise [k0_pay1, gelu]

/-- The reference's lane maximum, over the 96 columns with the same number modulo 128. -/
theorem lane_apply (x0 : Vec Ideal S16384x6144 .i8) (x1 : Vec Ideal S16384x1 .f32) (x2 : Vec Ideal S6144x12288 .i8)
    (x3 x4 : Vec Ideal S1x12288 .f32) (r : Fin 16384) (l : Fin 128) :
    k0_pay2 x0 x1 x2 x3 x4 (ix2 r l)
      = maxMag (fun j : Fin 96 => k0_pay1 x0 x1 x2 x3 x4 (ix2 r ⟨128 * j.val + l.val, by omega⟩)) := by
  unfold k0_pay2
  generalize k0_pay1 x0 x1 x2 x3 x4 = g
  pointwise [maxMag, mag, bot]
  simp only [Nat.mul_comm 128]

/-- The array of activations the one body stores. -/
theorem out5_eq (x0 : Vec Ideal S16384x6144 .i8) (x1 : Vec Ideal S16384x1 .f32) (x2 : Vec Ideal S6144x12288 .i8)
    (x3 x4 : Vec Ideal S1x12288 .f32) : out0_5 x0 x1 x2 x3 x4 = k0_pay1 x0 x1 x2 x3 x4 := by
  unfold out0_5
  rw [View.canon_unit_zero hz]
  simp only [View.ld_unit_zero (S := S16384x6144) hz, View.ld_unit_zero (S := S6144x12288) hz,
    View.ld_unit_zero (S := S16384x1) hz, View.ld_unit_zero (S := S1x12288) hz]

/-- The array of lane maxima the one body stores. -/
theorem out6_eq (x0 : Vec Ideal S16384x6144 .i8) (x1 : Vec Ideal S16384x1 .f32) (x2 : Vec Ideal S6144x12288 .i8)
    (x3 x4 : Vec Ideal S1x12288 .f32) : out0_6 x0 x1 x2 x3 x4 = k0_pay2 x0 x1 x2 x3 x4 := by
  unfold out0_6
  rw [View.canon_unit_zero hz]
  simp only [View.ld_unit_zero (S := S16384x6144) hz, View.ld_unit_zero (S := S6144x12288) hz,
    View.ld_unit_zero (S := S16384x1) hz, View.ld_unit_zero (S := S1x12288) hz]

/-! ## The one point's blocks are the whole arrays -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem iblk0 (c : Dev nD) (t : Fin cfg0.N) (r : Fin 16384) (k : Fin 6144) :
    iblk m c 0 t (ix2 r k) = m ((c : Thread nD τ).loc main_arg0) (ix2 r k) := by
  have e := idx0 t
  have h : ((cfg0.win 0).blk t).view.emb (ix2 r k) = (ix2 r k : (⟨2, ![16384, 6144]⟩ : Shape).Idx) := by
    funext a
    apply Fin.ext
    match a with
    | ⟨0, _⟩ => show win0_0.index t (0 : Fin 2) * 16384 + 1 * r.val = r.val; rw [e]; show 0 * 16384 + 1 * r.val = r.val; omega
    | ⟨1, _⟩ => show win0_0.index t (1 : Fin 2) * 6144 + 1 * k.val = k.val; rw [e]; show 0 * 6144 + 1 * k.val = k.val; omega
  show V m c main_arg0 (((cfg0.win 0).blk t).view.emb (ix2 r k)) = _
  rw [h]
  rw [V_main_arg0]

theorem iblk1 (c : Dev nD) (t : Fin cfg0.N) (r : Fin 16384) (k : Fin 1) :
    iblk m c 1 t (ix2 r k) = m ((c : Thread nD τ).loc main_arg1) (ix1 r) := by
  have e := idx1 t
  have h : ((cfg0.win 1).blk t).view.emb (ix2 r k) = (ix2 r k : (⟨2, ![16384, 1]⟩ : Shape).Idx) := by
    funext a
    apply Fin.ext
    match a with
    | ⟨0, _⟩ => show win0_1.index t (0 : Fin 2) * 16384 + 1 * r.val = r.val; rw [e]; show 0 * 16384 + 1 * r.val = r.val; omega
    | ⟨1, _⟩ => show win0_1.index t (1 : Fin 2) * 1 + 1 * k.val = k.val; rw [e]; show 0 * 1 + 1 * k.val = k.val; omega
  show V m c main_v0 (((cfg0.win 1).blk t).view.emb (ix2 r k)) = _
  rw [h]
  entry_read
  pointwise

theorem iblk2 (c : Dev nD) (t : Fin cfg0.N) (r : Fin 6144) (k : Fin 12288) :
    iblk m c 2 t (ix2 r k) = m ((c : Thread nD τ).loc main_arg2) (ix2 r k) := by
  have e := idx2 t
  have h : ((cfg0.win 2).blk t).view.emb (ix2 r k) = (ix2 r k : (⟨2, ![6144, 12288]⟩ : Shape).Idx) := by
    funext a
    apply Fin.ext
    match a with
    | ⟨0, _⟩ => show win0_2.index t (0 : Fin 2) * 6144 + 1 * r.val = r.val; rw [e]; show 0 * 6144 + 1 * r.val = r.val; omega
    | ⟨1, _⟩ => show win0_2.index t (1 : Fin 2) * 12288 + 1 * k.val = k.val; rw [e]; show 0 * 12288 + 1 * k.val = k.val; omega
  show V m c main_arg2 (((cfg0.win 2).blk t).view.emb (ix2 r k)) = _
  rw [h]
  rw [V_main_arg2]

theorem iblk3 (c : Dev nD) (t : Fin cfg0.N) (r : Fin 1) (k : Fin 12288) :
    iblk m c 3 t (ix2 r k) = m ((c : Thread nD τ).loc main_arg3) (ix1 k) := by
  have e := idx3 t
  have h : ((cfg0.win 3).blk t).view.emb (ix2 r k) = (ix2 r k : (⟨2, ![1, 12288]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 12288 + 1 * k.val = k.val; rw [e]; show 0 * 12288 + 1 * k.val = k.val; omega
  show V m c main_v1 (((cfg0.win 3).blk t).view.emb (ix2 r k)) = _
  rw [h]
  entry_read
  pointwise

theorem iblk4 (c : Dev nD) (t : Fin cfg0.N) (r : Fin 1) (k : Fin 12288) :
    iblk m c 4 t (ix2 r k) = m ((c : Thread nD τ).loc main_arg4) (ix1 k) := by
  have e := idx4 t
  have h : ((cfg0.win 4).blk t).view.emb (ix2 r k) = (ix2 r k : (⟨2, ![1, 12288]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 12288 + 1 * k.val = k.val; rw [e]; show 0 * 12288 + 1 * k.val = k.val; omega
  show V m c main_v2 (((cfg0.win 4).blk t).view.emb (ix2 r k)) = _
  rw [h]
  entry_read
  pointwise

/-- The activations, element by element, in the argument arrays. -/
theorem act_block (c : Dev nD) (t : Fin cfg0.N) (r : Fin 16384) (n : Fin 12288) :
    k0_pay1 (iblk m c 0 t) (iblk m c 1 t) (iblk m c 2 t) (iblk m c 3 t) (iblk m c 4 t) (ix2 r n) = activated (m ((c : Thread nD τ).loc main_arg0)) (m ((c : Thread nD τ).loc main_arg1)) (m ((c : Thread nD τ).loc main_arg2)) (m ((c : Thread nD τ).loc main_arg3)) (m ((c : Thread nD τ).loc main_arg4)) (ix2 r n) := by
  refine (act_apply _ _ _ _ _ r n).trans ?_
  show _ = gelu (linAt _ _ _ _ _ r n)
  unfold linAt
  simp only [iblk0, iblk1, iblk2, iblk3, iblk4]

/-- The one grid point. -/
def t₀ : Fin cfg0.N := ⟨0, by decide⟩

/-- What the one point writes back. -/
theorem flushed_act (c : Dev nD) (t : Fin cfg0.N) :
    (dats m 0 c).flushed 5 t = ((cfg0.win 5).blk t).view.read (Elt Ideal) (activated (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  funext y
  change Shape.Idx ⟨2, ![16384, 12288]⟩ at y
  idx_vars y
  have e := idx5 t
  have h : ((cfg0.win 5).blk t).view.emb (ix2 y0 y1) = (ix2 y0 y1 : (⟨2, ![16384, 12288]⟩ : Shape).Idx) := by
    funext a
    apply Fin.ext
    match a with
    | ⟨0, _⟩ => show win0_5.index t (0 : Fin 2) * 16384 + 1 * y0.val = y0.val; rw [e]; show 0 * 16384 + 1 * y0.val = y0.val; omega
    | ⟨1, _⟩ => show win0_5.index t (1 : Fin 2) * 12288 + 1 * y1.val = y1.val; rw [e]; show 0 * 12288 + 1 * y1.val = y1.val; omega
  refine Eq.trans ?_ (congrArg (activated (m ((c : Thread nD τ).loc main_arg0)) (m ((c : Thread nD τ).loc main_arg1)) (m ((c : Thread nD τ).loc main_arg2)) (m ((c : Thread nD τ).loc main_arg3)) (m ((c : Thread nD τ).loc main_arg4))) h.symm)
  refine (congrFun (out5_eq _ _ _ _ _) _).trans ?_
  exact act_block m c t y0 y1

/-- The point's block of the result is the whole array. -/
theorem emb_act (i : (⟨2, ![16384, 12288]⟩ : Shape).Idx) : ((cfg0.win 5).blk t₀).view.emb i = i := by
  have e := idx5 t₀
  funext a
  apply Fin.ext
  match a with
  | ⟨0, _⟩ => show win0_5.index t₀ (0 : Fin 2) * 16384 + 1 * (i 0).val = (i 0).val; rw [e]; show 0 * 16384 + 1 * (i 0).val = (i 0).val; omega
  | ⟨1, _⟩ => show win0_5.index t₀ (1 : Fin 2) * 12288 + 1 * (i 1).val = (i 1).val; rw [e]; show 0 * 12288 + 1 * (i 1).val = (i 1).val; omega

/-- The result array after the run. -/
theorem final_act (c : Dev nD) : (dats m 0 c).arrAt 5 cfg0.N = activated (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_act m c t) (fun i => ⟨t₀, by decide +kernel, by
    have hm := View.emb_mem_set ((cfg0.win 5).blk t₀).view i
    rw [emb_act i] at hm
    exact hm⟩)

/-- What the one point writes back. -/
theorem flushed_lanes (c : Dev nD) (t : Fin cfg0.N) :
    (dats m 0 c).flushed 6 t = ((cfg0.win 6).blk t).view.read (Elt Ideal) (laneMax (activated (m ((c : Thread nD τ).loc main_arg0)) (m ((c : Thread nD τ).loc main_arg1)) (m ((c : Thread nD τ).loc main_arg2)) (m ((c : Thread nD τ).loc main_arg3)) (m ((c : Thread nD τ).loc main_arg4)))) := by
  rw [Value.flushed6]
  funext y
  change Shape.Idx ⟨2, ![16384, 128]⟩ at y
  idx_vars y
  have e := idx6 t
  have h : ((cfg0.win 6).blk t).view.emb (ix2 y0 y1) = (ix2 y0 y1 : (⟨2, ![16384, 128]⟩ : Shape).Idx) := by
    funext a
    apply Fin.ext
    match a with
    | ⟨0, _⟩ => show win0_6.index t (0 : Fin 2) * 16384 + 1 * y0.val = y0.val; rw [e]; show 0 * 16384 + 1 * y0.val = y0.val; omega
    | ⟨1, _⟩ => show win0_6.index t (1 : Fin 2) * 128 + 1 * y1.val = y1.val; rw [e]; show 0 * 128 + 1 * y1.val = y1.val; omega
  refine Eq.trans ?_ (congrArg (laneMax (activated (m ((c : Thread nD τ).loc main_arg0)) (m ((c : Thread nD τ).loc main_arg1)) (m ((c : Thread nD τ).loc main_arg2)) (m ((c : Thread nD τ).loc main_arg3)) (m ((c : Thread nD τ).loc main_arg4)))) h.symm)
  refine (congrFun (out6_eq _ _ _ _ _) _).trans ((lane_apply _ _ _ _ _ y0 y1).trans ?_)
  exact congrArg maxMag (funext fun j => act_block m c t y0 ⟨128 * j.val + y1.val, by omega⟩)

/-- The point's block of the result is the whole array. -/
theorem emb_lanes (i : (⟨2, ![16384, 128]⟩ : Shape).Idx) : ((cfg0.win 6).blk t₀).view.emb i = i := by
  have e := idx6 t₀
  funext a
  apply Fin.ext
  match a with
  | ⟨0, _⟩ => show win0_6.index t₀ (0 : Fin 2) * 16384 + 1 * (i 0).val = (i 0).val; rw [e]; show 0 * 16384 + 1 * (i 0).val = (i 0).val; omega
  | ⟨1, _⟩ => show win0_6.index t₀ (1 : Fin 2) * 128 + 1 * (i 1).val = (i 1).val; rw [e]; show 0 * 128 + 1 * (i 1).val = (i 1).val; omega

/-- The result array after the run. -/
theorem final_lanes (c : Dev nD) : (dats m 0 c).arrAt 6 cfg0.N = laneMax (activated (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 6 _ (fun t _ => flushed_lanes m c t) (fun i => ⟨t₀, by decide +kernel, by
    have hm := View.emb_mem_set ((cfg0.win 6).blk t₀).view i
    rw [emb_lanes i] at hm
    exact hm⟩)

/-- The run: the result arrays hold the closed forms, the arguments are unchanged. -/
theorem run : θ_run defs (onTc (τ := τ) (main (F := Ideal))) ⟨m, fun _ => 0, ρ⟩ fun r => ∀ c : Dev nD,
      r.2.mem ((c : Thread nD τ).loc main_v3_0) = activated (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = laneMax (activated (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final_act m c), ((h c).2.1).trans (final_lanes m c), (h c).2.2⟩)
    (Value.run_blocks m ρ)

end Cert.FcRefIdeal.Blocks

open Idealize.ShloMosaic Cert.Common in
/-- Kernel and reference leave the same arrays from the same arguments. -/
theorem Cert.FcIdeal.Blocks.algebraic : Cert.algebraic_FcIdeal_FcRefIdeal := by
  intro m g m' g' hpre h
  refine ⟨fun c => _, fun c => _, Cert.FcIdeal.Blocks.run m g, ?_⟩
  refine (θ_run _ _ _).mono (fun r hr c => ⟨((hr c).1).trans ?_, ((hr c).2.1).trans ?_, (hr c).2.2⟩) (Cert.FcRefIdeal.Blocks.run m' g')
  · obtain ⟨e0, e1, e2, e3, e4⟩ := h c
    rw [e0, e1, e2, e3, e4]
  · obtain ⟨e0, e1, e2, e3, e4⟩ := h c
    rw [e0, e1, e2, e3, e4]
end
-- ==== Proof.GquantBlock.lean ====
/-
  Quantisation of a block of rows from the maxima per lane: what one grid point leaves in its two output blocks, and what
  the reference's one body leaves, element by element over the extended reals.
-/
module

public import proofs.«01_k».proof.Proof.Gen.GquantIdeal.Frame
public import proofs.«01_k».proof.Proof.Gen.GquantRefIdeal.Frame
public import proofs.«01_k».proof.Proof.Cols
public import Idealize.ShloMosaic.Lib.Tactic

@[expose] public section

set_option maxRecDepth 16384

noncomputable section

namespace Cert.Common

open Idealize.ShloMosaic Idealize.ShloMosaic.Pointwise

/-- The scale of a row whose magnitudes' maxima per lane are given. -/
def laneScale {n : ℕ} (a : Fin n → EReal) : EReal := scaleOf (Finset.fold max bot a Finset.univ)

theorem laneScale_congr {n : ℕ} {a a' : Fin n → EReal} (h : ∀ j, a j = a' j) : laneScale a = laneScale a' := by rw [funext h]

/-- The array of codes of `g` under the scales of the lane maxima `a`. -/
def laneCodes {M K n : ℕ} (g : (⟨2, ![M, K]⟩ : Shape).Idx → EReal) (a : (⟨2, ![M, n]⟩ : Shape).Idx → EReal) :
    (⟨2, ![M, K]⟩ : Shape).Idx → BitVec 8 := fun i => codeOf (g i) (laneScale fun j => a (ix2 (i 0) j))

/-- The array of scales, every row's repeated over `L` columns. -/
def laneScales {M n : ℕ} (L : ℕ) (a : (⟨2, ![M, n]⟩ : Shape).Idx → EReal) : (⟨2, ![M, L]⟩ : Shape).Idx → EReal :=
  fun i => laneScale fun j => a (ix2 (i 0) j)

/-- The vector of scales. -/
def laneRowScales {M n : ℕ} (a : (⟨2, ![M, n]⟩ : Shape).Idx → EReal) : (⟨1, ![M]⟩ : Shape).Idx → EReal :=
  fun i => laneScale fun j => a (ix2 (i 0) j)

end Cert.Common

namespace Cert.GquantIdeal.Blocks

open Cert.GquantIdeal Cert.GquantIdeal.Gen Idealize.ShloMosaic Idealize.ShloMosaic.TcCoe Idealize.SL.Sem
open Idealize.ShloMosaic.Pointwise Cert.Common

/-- The scale of each row of a block. -/
theorem scale_apply (x1 : Vec Ideal S128x128 .f32) (r : Fin 128) :
    k0_pay1 x1 (ix2 r 0) = laneScale (fun j => x1 (ix2 r j)) := by
  unfold k0_pay1
  rw [col_cast]
  pointwise [laneScale, scaleOf, bot]

/-- The block of codes the body stores. -/
theorem out2_apply (x0 : Vec Ideal S128x12288 .f32) (x1 : Vec Ideal S128x128 .f32) (r : Fin 128) (k : Fin 12288) :
    out0_2 x0 x1 (ix2 r k) = codeOf (x0 (ix2 r k)) (laneScale (fun j => x1 (ix2 r j))) := by
  unfold out0_2
  rw [View.canon_unit_zero hz]
  simp only [View.ld_unit_zero (S := S128x12288) hz, View.ld_unit_zero (S := S128x128) hz]
  rw [← scale_apply x1 r]
  unfold k0_pay2
  generalize k0_pay1 x1 = s
  exact codes_apply x0 s _ r k

/-- The block of scales the body stores. -/
theorem out3_apply (x0 : Vec Ideal S128x12288 .f32) (x1 : Vec Ideal S128x128 .f32) (r : Fin 128) (l : Fin 128) :
    out0_3 x0 x1 (ix2 r l) = laneScale (fun j => x1 (ix2 r j)) := by
  unfold out0_3
  rw [View.canon_unit_zero hz]
  simp only [View.ld_unit_zero (S := S128x12288) hz, View.ld_unit_zero (S := S128x128) hz]
  refine Eq.trans (b := k0_pay1 x1 (ix2 r 0)) ?_ (scale_apply x1 r)
  unfold k0_pay3
  generalize k0_pay1 x1 = s
  exact Eq.trans (col_bcast _ _ r l) (shapeCast_apply s _ _ _ rfl)

end Cert.GquantIdeal.Blocks

namespace Cert.GquantRefIdeal.Blocks

open Cert.GquantRefIdeal Cert.GquantRefIdeal.Gen Idealize.ShloMosaic Idealize.ShloMosaic.TcCoe Idealize.SL.Sem
open Idealize.ShloMosaic.Pointwise Cert.Common

/-- The scale of each row of a block. -/
theorem scale_apply (x1 : Vec Ideal S16384x128 .f32) (r : Fin 16384) :
    k0_pay1 x1 (ix2 r 0) = laneScale (fun j => x1 (ix2 r j)) := by
  unfold k0_pay1
  rw [col_cast]
  pointwise [laneScale, scaleOf, bot]

/-- The block of codes the body stores. -/
theorem out2_apply (x0 : Vec Ideal S16384x12288 .f32) (x1 : Vec Ideal S16384x128 .f32) (r : Fin 16384) (k : Fin 12288) :
    out0_2 x0 x1 (ix2 r k) = codeOf (x0 (ix2 r k)) (laneScale (fun j => x1 (ix2 r j))) := by
  unfold out0_2
  rw [View.canon_unit_zero hz]
  simp only [View.ld_unit_zero (S := S16384x12288) hz, View.ld_unit_zero (S := S16384x128) hz]
  rw [← scale_apply x1 r]
  unfold k0_pay2
  generalize k0_pay1 x1 = s
  exact codes_apply x0 s _ r k

/-- The block of scales the body stores. -/
theorem out3_apply (x0 : Vec Ideal S16384x12288 .f32) (x1 : Vec Ideal S16384x128 .f32) (r : Fin 16384) (l : Fin 1) :
    out0_3 x0 x1 (ix2 r l) = laneScale (fun j => x1 (ix2 r j)) := by
  unfold out0_3
  rw [View.canon_unit_zero hz]
  simp only [View.ld_unit_zero (S := S16384x12288) hz, View.ld_unit_zero (S := S16384x128) hz]
  refine Eq.trans (b := k0_pay1 x1 (ix2 r 0)) ?_ (scale_apply x1 r)
  rw [Subsingleton.elim l 0]

end Cert.GquantRefIdeal.Blocks

end
-- ==== Proof.GquantRun.lean ====
/-
  Quantisation of the activations: its codes and scales after the run, as closed forms of the argument arrays.
-/
module

public import proofs.«01_k».proof.Proof.GquantBlock
public import Idealize.ShloMosaic.Lib.Claim

@[expose] public section

set_option maxRecDepth 16384

noncomputable section

namespace Cert.GquantIdeal.Blocks

open Cert.GquantIdeal Cert.GquantIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-! ## Each input block, element by element, in the argument arrays -/

theorem iblk0 (c : Dev nD) (t : Fin cfg0.N) (r : Fin 128) (k : Fin 12288) (R : Fin 16384) (hR : R.val = 128 * t.val + r.val) :
    iblk m c 0 t (ix2 r k) = m ((c : Thread nD τ).loc main_arg0) (ix2 R k) := by
  have e := idx0 t
  have h : ((cfg0.win 0).blk t).view.emb (ix2 r k) = (ix2 R k : (⟨2, ![16384, 12288]⟩ : Shape).Idx) := by
    funext a
    apply Fin.ext
    match a with
    | ⟨0, _⟩ => show win0_0.index t (0 : Fin 2) * 128 + 1 * r.val = R.val; rw [e]; show t.val * 128 + 1 * r.val = R.val; omega
    | ⟨1, _⟩ => show win0_0.index t (1 : Fin 2) * 12288 + 1 * k.val = k.val; rw [e]; show 0 * 12288 + 1 * k.val = k.val; omega
  show V m c main_arg0 (((cfg0.win 0).blk t).view.emb (ix2 r k)) = _
  rw [h, V_main_arg0]

theorem iblk1 (c : Dev nD) (t : Fin cfg0.N) (r : Fin 128) (k : Fin 128) (R : Fin 16384) (hR : R.val = 128 * t.val + r.val) :
    iblk m c 1 t (ix2 r k) = m ((c : Thread nD τ).loc main_arg1) (ix2 R k) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 128 + 1 * r.val = R.val; rw [e]; show t.val * 128 + 1 * r.val = R.val; omega
    | ⟨1, _⟩ => show win0_1.index t (1 : Fin 2) * 128 + 1 * k.val = k.val; rw [e]; show 0 * 128 + 1 * k.val = k.val; omega
  show V m c main_arg1 (((cfg0.win 1).blk t).view.emb (ix2 r k)) = _
  rw [h, V_main_arg1]

/-- What point `t` writes back of the codes. -/
theorem flushed_codes (c : Dev nD) (t : Fin cfg0.N) :
    (dats m 0 c).flushed 2 t = ((cfg0.win 2).blk t).view.read (Elt Ideal) (laneCodes (m ((c : Thread nD τ).loc main_arg0)) (m ((c : Thread nD τ).loc main_arg1))) := by
  have ht : t.val < 128 := Nat.lt_of_lt_of_eq t.isLt N_0
  show (cfg0.win 2).cut (grid0.coords t) ((dats m 0 c).after 2 t) = _
  rw [after0_2]
  funext y
  change Shape.Idx ⟨2, ![128, 12288]⟩ at y
  idx_vars y
  have hR : 128 * t.val + y0.val < 16384 := by omega
  have e := idx2 t
  have h : ((cfg0.win 2).blk t).view.emb (ix2 y0 y1) = (ix2 (⟨128 * t.val + y0.val, hR⟩ : Fin 16384) y1 : (⟨2, ![16384, 12288]⟩ : Shape).Idx) := by
    funext a
    apply Fin.ext
    match a with
    | ⟨0, _⟩ => show win0_2.index t (0 : Fin 2) * 128 + 1 * y0.val = _; rw [e]; show t.val * 128 + 1 * y0.val = 128 * t.val + y0.val; omega
    | ⟨1, _⟩ => show win0_2.index t (1 : Fin 2) * 12288 + 1 * y1.val = y1.val; rw [e]; show 0 * 12288 + 1 * y1.val = y1.val; omega
  refine (out2_apply _ _ y0 y1).trans ?_
  refine Eq.trans ?_ (congrArg (laneCodes (m ((c : Thread nD τ).loc main_arg0)) (m ((c : Thread nD τ).loc main_arg1))) h.symm)
  exact (congrArg₂ codeOf (iblk0 m c t y0 y1 ⟨128 * t.val + y0.val, hR⟩ rfl) (laneScale_congr fun j => iblk1 m c t y0 j ⟨128 * t.val + y0.val, hR⟩ rfl))

/-- What point `t` writes back of the scales. -/
theorem flushed_scales (c : Dev nD) (t : Fin cfg0.N) :
    (dats m 0 c).flushed 3 t = ((cfg0.win 3).blk t).view.read (Elt Ideal) (laneScales 128 (m ((c : Thread nD τ).loc main_arg1))) := by
  have ht : t.val < 128 := Nat.lt_of_lt_of_eq t.isLt N_0
  show (cfg0.win 3).cut (grid0.coords t) ((dats m 0 c).after 3 t) = _
  rw [after0_3]
  funext y
  change Shape.Idx ⟨2, ![128, 128]⟩ at y
  idx_vars y
  have hR : 128 * t.val + y0.val < 16384 := by omega
  have e := idx3 t
  have h : ((cfg0.win 3).blk t).view.emb (ix2 y0 y1) = (ix2 (⟨128 * t.val + y0.val, hR⟩ : Fin 16384) y1 : (⟨2, ![16384, 128]⟩ : Shape).Idx) := by
    funext a
    apply Fin.ext
    match a with
    | ⟨0, _⟩ => show win0_3.index t (0 : Fin 2) * 128 + 1 * y0.val = _; rw [e]; show t.val * 128 + 1 * y0.val = 128 * t.val + y0.val; omega
    | ⟨1, _⟩ => show win0_3.index t (1 : Fin 2) * 128 + 1 * y1.val = y1.val; rw [e]; show 0 * 128 + 1 * y1.val = y1.val; omega
  refine (out3_apply _ _ y0 y1).trans ?_
  refine Eq.trans ?_ (congrArg (laneScales 128 (m ((c : Thread nD τ).loc main_arg1))) h.symm)
  exact (laneScale_congr fun j => iblk1 m c t y0 j ⟨128 * t.val + y0.val, hR⟩ rfl)

theorem flush2 : ∀ t : Fin cfg0.N, (cfg0.win 2).flush t = true := (by decide +kernel : ∀ t : Fin grid0.N, (cfg0.win 2).flush t = true)

/-- The array of codes after the run. -/
theorem final_codes (c : Dev nD) : (dats m 0 c).arrAt 2 cfg0.N = laneCodes (m ((c : Thread nD τ).loc main_arg0)) (m ((c : Thread nD τ).loc main_arg1)) :=
  (dats m 0 c).arrAt_eq_of_cover 2 _ (fun t _ => flushed_codes m c t) (fun i => by
    change Shape.Idx ⟨2, ![16384, 12288]⟩ at i
    have h0 : (i 0).val < 16384 := (i 0).isLt
    have hN : (i 0).val / 128 < cfg0.N := Nat.lt_of_lt_of_eq (by omega : (i 0).val / 128 < 128) N_0.symm
    have e := idx2 ⟨(i 0).val / 128, hN⟩
    refine ⟨⟨(i 0).val / 128, hN⟩, flush2 _, ?_⟩
    have hm := View.emb_mem_set ((cfg0.win 2).blk ⟨(i 0).val / 128, hN⟩).view (ix2 (⟨(i 0).val % 128, Nat.mod_lt _ (by decide)⟩ : Fin 128) (i 1) : (⟨2, ![128, 12288]⟩ : Shape).Idx)
    have h : ((cfg0.win 2).blk ⟨(i 0).val / 128, hN⟩).view.emb (ix2 (⟨(i 0).val % 128, Nat.mod_lt _ (by decide)⟩ : Fin 128) (i 1) : (⟨2, ![128, 12288]⟩ : Shape).Idx) = i := by
      funext a
      apply Fin.ext
      match a with
      | ⟨0, _⟩ => show win0_2.index ⟨(i 0).val / 128, hN⟩ (0 : Fin 2) * 128 + 1 * ((i 0).val % 128) = (i 0).val; rw [e]; show (i 0).val / 128 * 128 + 1 * ((i 0).val % 128) = (i 0).val; omega
      | ⟨1, _⟩ => show win0_2.index ⟨(i 0).val / 128, hN⟩ (1 : Fin 2) * 12288 + 1 * (i 1).val = (i 1).val; rw [e]; show 0 * 12288 + 1 * (i 1).val = (i 1).val; omega
    rw [h] at hm
    exact hm)

theorem flush3 : ∀ t : Fin cfg0.N, (cfg0.win 3).flush t = true := (by decide +kernel : ∀ t : Fin grid0.N, (cfg0.win 3).flush t = true)

/-- The array of scales after the run. -/
theorem final_scales (c : Dev nD) : (dats m 0 c).arrAt 3 cfg0.N = laneScales 128 (m ((c : Thread nD τ).loc main_arg1)) :=
  (dats m 0 c).arrAt_eq_of_cover 3 _ (fun t _ => flushed_scales m c t) (fun i => by
    change Shape.Idx ⟨2, ![16384, 128]⟩ at i
    have h0 : (i 0).val < 16384 := (i 0).isLt
    have hN : (i 0).val / 128 < cfg0.N := Nat.lt_of_lt_of_eq (by omega : (i 0).val / 128 < 128) N_0.symm
    have e := idx3 ⟨(i 0).val / 128, hN⟩
    refine ⟨⟨(i 0).val / 128, hN⟩, flush3 _, ?_⟩
    have hm := View.emb_mem_set ((cfg0.win 3).blk ⟨(i 0).val / 128, hN⟩).view (ix2 (⟨(i 0).val % 128, Nat.mod_lt _ (by decide)⟩ : Fin 128) (i 1) : (⟨2, ![128, 128]⟩ : Shape).Idx)
    have h : ((cfg0.win 3).blk ⟨(i 0).val / 128, hN⟩).view.emb (ix2 (⟨(i 0).val % 128, Nat.mod_lt _ (by decide)⟩ : Fin 128) (i 1) : (⟨2, ![128, 128]⟩ : Shape).Idx) = i := by
      funext a
      apply Fin.ext
      match a with
      | ⟨0, _⟩ => show win0_3.index ⟨(i 0).val / 128, hN⟩ (0 : Fin 2) * 128 + 1 * ((i 0).val % 128) = (i 0).val; rw [e]; show (i 0).val / 128 * 128 + 1 * ((i 0).val % 128) = (i 0).val; omega
      | ⟨1, _⟩ => show win0_3.index ⟨(i 0).val / 128, hN⟩ (1 : Fin 2) * 128 + 1 * (i 1).val = (i 1).val; rw [e]; show 0 * 128 + 1 * (i 1).val = (i 1).val; omega
    rw [h] at hm
    exact hm)

/-- The vector of scales the host line after the call reads off. -/
theorem tail_scales (c : Dev nD) : Pipeline.afterTail₀ cfgs (dats m) 0 (V0 m) [hostOps1] c main_v2 = laneRowScales (m ((c : Thread nD τ).loc main_arg1)) := by
  have hw : Pipeline.withArrays spec0 c (V0 m c) (fun w => (dats m 0 c).arrAt w cfg0.N) (Proc.devRef .tc main_v0_1)
      = laneScales 128 (m ((c : Thread nD τ).loc main_arg1)) := (Pipeline.withArrays_arr spec0 (by decide) c _ _ 3).trans (final_scales m c)
  unfold Pipeline.afterTail₀
  change StableHlo.after hostOps1 _ (Proc.devRef .tc main_v2) = _
  entry_read
  generalize hX : Pipeline.withArrays (cfgs 0).spec c (V0 m c) (fun w => (dats m 0 c).arrAt w (cfgs 0).N) (Proc.devRef .tc main_v0_1) = X
  have hY : X = laneScales 128 (m ((c : Thread nD τ).loc main_arg1)) := hX.symm.trans hw
  clear hX
  subst hY
  exact first_col (L := 128) (fun r : Fin 16384 => laneScale fun j => (m ((c : Thread nD τ).loc main_arg1) : (⟨2, ![16384, 128]⟩ : Shape).Idx → EReal) (ix2 r j)) _ _

/-- The run: the two results are the codes and the scales, the arguments are unchanged. -/
theorem run : θ_run defs (onTc (τ := τ) (main (F := Ideal))) ⟨m, fun _ => 0, ρ⟩ fun r => ∀ c : Dev nD,
      r.2.mem ((c : Thread nD τ).loc main_v0_0) = laneCodes (m ((c : Thread nD τ).loc main_arg0)) (m ((c : Thread nD τ).loc main_arg1))
      ∧ r.2.mem ((c : Thread nD τ).loc main_v2) = laneRowScales (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.2 c).1 2).trans (final_codes m c),
      (((h.2 c).2 main_v2 (Pipeline.mem_restRefs_of main_v2 (by decide) (by decide))).trans (tail_scales m c)), h.1 c⟩)
    (θ_run_and (unchanged m ρ) (run_main m ρ))

end Cert.GquantIdeal.Blocks
end
-- ==== Proof.GquantRef.lean ====
/-
  Quantisation of the activations: its reference's codes and scales after the run, and the two programs' results compared.
-/
module

public import proofs.«01_k».proof.Defs
public import proofs.«01_k».proof.Proof.GquantRun
public import Idealize.ShloMosaic.Lib.Claim

@[expose] public section

set_option maxRecDepth 16384

noncomputable section

namespace Cert.GquantRefIdeal.Blocks

open Cert.GquantRefIdeal Cert.GquantRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

/-! ## Each input block, element by element, in the argument arrays -/

theorem iblk0 (c : Dev nD) (t : Fin cfg0.N) (r : Fin 16384) (k : Fin 12288) (R : Fin 16384) (hR : R.val = 16384 * 0 + r.val) :
    iblk m c 0 t (ix2 r k) = m ((c : Thread nD τ).loc main_arg0) (ix2 R k) := by
  have e := idx0 t
  have h : ((cfg0.win 0).blk t).view.emb (ix2 r k) = (ix2 R k : (⟨2, ![16384, 12288]⟩ : Shape).Idx) := by
    funext a
    apply Fin.ext
    match a with
    | ⟨0, _⟩ => show win0_0.index t (0 : Fin 2) * 16384 + 1 * r.val = R.val; rw [e]; show 0 * 16384 + 1 * r.val = R.val; omega
    | ⟨1, _⟩ => show win0_0.index t (1 : Fin 2) * 12288 + 1 * k.val = k.val; rw [e]; show 0 * 12288 + 1 * k.val = k.val; omega
  show V m c main_arg0 (((cfg0.win 0).blk t).view.emb (ix2 r k)) = _
  rw [h, V_main_arg0]

theorem iblk1 (c : Dev nD) (t : Fin cfg0.N) (r : Fin 16384) (k : Fin 128) (R : Fin 16384) (hR : R.val = 16384 * 0 + r.val) :
    iblk m c 1 t (ix2 r k) = m ((c : Thread nD τ).loc main_arg1) (ix2 R k) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 16384 + 1 * r.val = R.val; rw [e]; show 0 * 16384 + 1 * r.val = R.val; omega
    | ⟨1, _⟩ => show win0_1.index t (1 : Fin 2) * 128 + 1 * k.val = k.val; rw [e]; show 0 * 128 + 1 * k.val = k.val; omega
  show V m c main_arg1 (((cfg0.win 1).blk t).view.emb (ix2 r k)) = _
  rw [h, V_main_arg1]

/-- What point `t` writes back of the codes. -/
theorem flushed_codes (c : Dev nD) (t : Fin cfg0.N) :
    (dats m 0 c).flushed 2 t = ((cfg0.win 2).blk t).view.read (Elt Ideal) (laneCodes (m ((c : Thread nD τ).loc main_arg0)) (m ((c : Thread nD τ).loc main_arg1))) := by
  show (cfg0.win 2).cut (grid0.coords t) ((dats m 0 c).after 2 t) = _
  rw [after0_2]
  funext y
  change Shape.Idx ⟨2, ![16384, 12288]⟩ at y
  idx_vars y
  have hR : 16384 * 0 + y0.val < 16384 := by omega
  have e := idx2 t
  have h : ((cfg0.win 2).blk t).view.emb (ix2 y0 y1) = (ix2 (⟨16384 * 0 + y0.val, hR⟩ : Fin 16384) y1 : (⟨2, ![16384, 12288]⟩ : Shape).Idx) := by
    funext a
    apply Fin.ext
    match a with
    | ⟨0, _⟩ => show win0_2.index t (0 : Fin 2) * 16384 + 1 * y0.val = _; rw [e]; show 0 * 16384 + 1 * y0.val = 16384 * 0 + y0.val; omega
    | ⟨1, _⟩ => show win0_2.index t (1 : Fin 2) * 12288 + 1 * y1.val = y1.val; rw [e]; show 0 * 12288 + 1 * y1.val = y1.val; omega
  refine (out2_apply _ _ y0 y1).trans ?_
  refine Eq.trans ?_ (congrArg (laneCodes (m ((c : Thread nD τ).loc main_arg0)) (m ((c : Thread nD τ).loc main_arg1))) h.symm)
  exact (congrArg₂ codeOf (iblk0 m c t y0 y1 ⟨16384 * 0 + y0.val, hR⟩ rfl) (laneScale_congr fun j => iblk1 m c t y0 j ⟨16384 * 0 + y0.val, hR⟩ rfl))

/-- What point `t` writes back of the scales. -/
theorem flushed_scales (c : Dev nD) (t : Fin cfg0.N) :
    (dats m 0 c).flushed 3 t = ((cfg0.win 3).blk t).view.read (Elt Ideal) (laneScales 1 (m ((c : Thread nD τ).loc main_arg1))) := by
  show (cfg0.win 3).cut (grid0.coords t) ((dats m 0 c).after 3 t) = _
  rw [after0_3]
  funext y
  change Shape.Idx ⟨2, ![16384, 1]⟩ at y
  idx_vars y
  have hR : 16384 * 0 + y0.val < 16384 := by omega
  have e := idx3 t
  have h : ((cfg0.win 3).blk t).view.emb (ix2 y0 y1) = (ix2 (⟨16384 * 0 + y0.val, hR⟩ : Fin 16384) y1 : (⟨2, ![16384, 1]⟩ : Shape).Idx) := by
    funext a
    apply Fin.ext
    match a with
    | ⟨0, _⟩ => show win0_3.index t (0 : Fin 2) * 16384 + 1 * y0.val = _; rw [e]; show 0 * 16384 + 1 * y0.val = 16384 * 0 + y0.val; omega
    | ⟨1, _⟩ => show win0_3.index t (1 : Fin 2) * 1 + 1 * y1.val = y1.val; rw [e]; show 0 * 1 + 1 * y1.val = y1.val; omega
  refine (out3_apply _ _ y0 y1).trans ?_
  refine Eq.trans ?_ (congrArg (laneScales 1 (m ((c : Thread nD τ).loc main_arg1))) h.symm)
  exact (laneScale_congr fun j => iblk1 m c t y0 j ⟨16384 * 0 + y0.val, hR⟩ rfl)

/-- The one grid point. -/
def t₀ : Fin cfg0.N := ⟨0, by decide⟩

/-- The one point's block of the codes is the whole array. -/
theorem emb_codes (i : (⟨2, ![16384, 12288]⟩ : Shape).Idx) : ((cfg0.win 2).blk t₀).view.emb i = i := by
  have e := idx2 t₀
  funext a
  apply Fin.ext
  match a with
  | ⟨0, _⟩ => show win0_2.index t₀ (0 : Fin 2) * 16384 + 1 * (i 0).val = (i 0).val; rw [e]; show 0 * 16384 + 1 * (i 0).val = (i 0).val; omega
  | ⟨1, _⟩ => show win0_2.index t₀ (1 : Fin 2) * 12288 + 1 * (i 1).val = (i 1).val; rw [e]; show 0 * 12288 + 1 * (i 1).val = (i 1).val; omega

/-- The array of codes after the run. -/
theorem final_codes (c : Dev nD) : (dats m 0 c).arrAt 2 cfg0.N = laneCodes (m ((c : Thread nD τ).loc main_arg0)) (m ((c : Thread nD τ).loc main_arg1)) :=
  (dats m 0 c).arrAt_eq_of_cover 2 _ (fun t _ => flushed_codes m c t) (fun i => ⟨t₀, by decide +kernel, by
    have hm := View.emb_mem_set ((cfg0.win 2).blk t₀).view i
    rw [emb_codes i] at hm
    exact hm⟩)

/-- The one point's block of the scales is the whole array. -/
theorem emb_scales (i : (⟨2, ![16384, 1]⟩ : Shape).Idx) : ((cfg0.win 3).blk t₀).view.emb i = i := by
  have e := idx3 t₀
  funext a
  apply Fin.ext
  match a with
  | ⟨0, _⟩ => show win0_3.index t₀ (0 : Fin 2) * 16384 + 1 * (i 0).val = (i 0).val; rw [e]; show 0 * 16384 + 1 * (i 0).val = (i 0).val; omega
  | ⟨1, _⟩ => show win0_3.index t₀ (1 : Fin 2) * 1 + 1 * (i 1).val = (i 1).val; rw [e]; show 0 * 1 + 1 * (i 1).val = (i 1).val; omega

/-- The array of scales after the run. -/
theorem final_scales (c : Dev nD) : (dats m 0 c).arrAt 3 cfg0.N = laneScales 1 (m ((c : Thread nD τ).loc main_arg1)) :=
  (dats m 0 c).arrAt_eq_of_cover 3 _ (fun t _ => flushed_scales m c t) (fun i => ⟨t₀, by decide +kernel, by
    have hm := View.emb_mem_set ((cfg0.win 3).blk t₀).view i
    rw [emb_scales i] at hm
    exact hm⟩)

/-- The vector of scales the host line after the call reads off. -/
theorem tail_scales (c : Dev nD) : Pipeline.afterTail₀ cfgs (dats m) 0 (V0 m) [hostOps1] c main_v1 = laneRowScales (m ((c : Thread nD τ).loc main_arg1)) := by
  have hw : Pipeline.withArrays spec0 c (V0 m c) (fun w => (dats m 0 c).arrAt w cfg0.N) (Proc.devRef .tc main_v0_1)
      = laneScales 1 (m ((c : Thread nD τ).loc main_arg1)) := (Pipeline.withArrays_arr spec0 (by decide) c _ _ 3).trans (final_scales m c)
  unfold Pipeline.afterTail₀
  change StableHlo.after hostOps1 _ (Proc.devRef .tc main_v1) = _
  entry_read
  generalize hX : Pipeline.withArrays (cfgs 0).spec c (V0 m c) (fun w => (dats m 0 c).arrAt w (cfgs 0).N) (Proc.devRef .tc main_v0_1) = X
  have hY : X = laneScales 1 (m ((c : Thread nD τ).loc main_arg1)) := hX.symm.trans hw
  clear hX
  subst hY
  exact row_cast (R := 16384) _ _

/-- The run: the two results are the codes and the scales, the arguments are unchanged. -/
theorem run : θ_run defs (onTc (τ := τ) (main (F := Ideal))) ⟨m, fun _ => 0, ρ⟩ fun r => ∀ c : Dev nD,
      r.2.mem ((c : Thread nD τ).loc main_v0_0) = laneCodes (m ((c : Thread nD τ).loc main_arg0)) (m ((c : Thread nD τ).loc main_arg1))
      ∧ r.2.mem ((c : Thread nD τ).loc main_v1) = laneRowScales (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.2 c).1 2).trans (final_codes m c),
      (((h.2 c).2 main_v1 (Pipeline.mem_restRefs_of main_v1 (by decide) (by decide))).trans (tail_scales m c)), h.1 c⟩)
    (θ_run_and (unchanged m ρ) (run_main m ρ))

end Cert.GquantRefIdeal.Blocks

open Idealize.ShloMosaic Cert.Common in
/-- Kernel and reference leave the same codes and scales from the same arguments. -/
theorem Cert.GquantIdeal.Blocks.algebraic : Cert.algebraic_GquantIdeal_GquantRefIdeal := by
  intro m g m' g' hpre h
  refine ⟨fun c => _, fun c => _, Cert.GquantIdeal.Blocks.run m g, ?_⟩
  refine (θ_run _ _ _).mono (fun r hr c => ⟨((hr c).1).trans ?_, ((hr c).2.1).trans ?_, (hr c).2.2⟩) (Cert.GquantRefIdeal.Blocks.run m' g')
  · obtain ⟨e0, e1⟩ := h c
    rw [e0, e1]
  · obtain ⟨e0, e1⟩ := h c
    rw [e1]
end
-- ==== Proof.ProjBlock.lean ====
/-
  The second residual product: what one grid point leaves in its output block, read element by element over
  the extended reals. The first point of a row of blocks (case A) widens the int8 codes into the carried scratch; the
  other points (case B) find them there.
-/
module

public import proofs.«01_k».proof.Proof.Gen.ProjIdeal.Frame
public import proofs.«01_k».proof.Proof.Common
public import Idealize.ShloMosaic.Lib.Tactic

@[expose] public section

set_option maxRecDepth 16384

noncomputable section

namespace Cert.ProjIdeal.Blocks

open Cert.ProjIdeal Cert.ProjIdeal.Gen Idealize.ShloMosaic Idealize.ShloMosaic.TcCoe Idealize.SL.Sem
open Idealize.ShloMosaic.Pointwise Cert.Common

/-- What a point leaves in its output block: the residual plus the scaled and biased dot product. -/
def blockOf (s : Vec Ideal S512x12288 .bf16) (x1 : Vec Ideal S512x128 .f32) (x2 : Vec Ideal S12288x512 .i8)
    (x3 x4 : Vec Ideal S1x512 .f32) (x5 : Vec Ideal S512x512 .f32) : Vec Ideal S512x512 .bf16 := fun y =>
  x5 y + tileAt s x1 x2 x3 x4 (y 0) (y 1)

/-- Case A: the 4 stores of 128 columns are the column bands of `blockOf`. -/
theorem out_A (c : Dev nD) (i : grid0.Coords) (arg2 : Memref sig .tc .vmem S512x12288 .i8) (harg2 : arg2.IsWhole) (arg3 : Memref sig .tc .vmem S512x128 .f32) (harg3 : arg3.IsWhole) (arg4 : Memref sig .tc .vmem S12288x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x12288 .bf16) (harg9 : arg9.IsWhole) (hc0 : cond0_0 i)
    (x0 : Vec Ideal S512x12288 .i8) (x1 : Vec Ideal S512x128 .f32) (x2 : Vec Ideal S12288x512 .i8) (x3 : Vec Ideal S1x512 .f32) (x4 : Vec Ideal S1x512 .f32) (x5 : Vec Ideal S512x512 .f32) :
    out0_A_6 c i arg2 harg2 arg3 harg3 arg4 harg4 arg5 harg5 arg6 harg6 arg7 harg7 arg8 harg8 arg9 harg9 hc0 x0 x1 x2 x3 x4 x5 = blockOf (k0_pay2 x0) x1 x2 x3 x4 x5 := by
  have hcov := cover0_A_6 c i arg2 harg2 arg3 harg3 arg4 harg4 arg5 harg5 arg6 harg6 arg7 harg7 arg8 harg8 arg9 harg9 hc0 x0 x1 x2 x3 x4 x5
  unfold out0_A_6
  rw [View.read_writes_eq_canon _ _ _ hcov]
  funext y
  refine View.canon_apply_of_pieces (blockOf (k0_pay2 x0) x1 x2 x3 x4 x5) _ ?_ y (hcov y)
  unfold kernelRun0_A
  dsimp only
  sl_unfold_words
  simp only [View.readAt_eq_ld, View.readCov_unit_zero (S := S512x12288) _ hz, harg2.read_unread, harg3.read_unread, harg4.read_unread, harg5.read_unread, harg6.read_unread, harg7.read_unread, harg9.read_unread,
    View.ld_unit_zero (S := S512x12288) hz, View.ld_unit_zero (S := S12288x512) hz, View.ld_unit_zero (S := S512x128) hz]
  generalize k0_pay2 x0 = s
  intro p hp
  simp only [List.mem_cons, List.not_mem_nil, or_false] at hp
  rcases hp with rfl | rfl | rfl | rfl
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (384 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (256 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (128 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (q1.val) % 128 = q1.val by omega)]

/-- Case B: the 4 stores of 128 columns are the column bands of `blockOf`. -/
theorem out_B (c : Dev nD) (i : grid0.Coords) (arg2 : Memref sig .tc .vmem S512x12288 .i8) (harg2 : arg2.IsWhole) (arg3 : Memref sig .tc .vmem S512x128 .f32) (harg3 : arg3.IsWhole) (arg4 : Memref sig .tc .vmem S12288x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x12288 .bf16) (harg9 : arg9.IsWhole) (hc0 : ¬cond0_0 i)
    (x0 : Vec Ideal S512x12288 .i8) (x1 : Vec Ideal S512x128 .f32) (x2 : Vec Ideal S12288x512 .i8) (x3 : Vec Ideal S1x512 .f32) (x4 : Vec Ideal S1x512 .f32) (x5 : Vec Ideal S512x512 .f32) (xs0 : Vec Ideal S512x12288 .bf16) :
    out0_B_6 c i arg2 harg2 arg3 harg3 arg4 harg4 arg5 harg5 arg6 harg6 arg7 harg7 arg8 harg8 arg9 harg9 hc0 x0 x1 x2 x3 x4 x5 xs0 = blockOf xs0 x1 x2 x3 x4 x5 := by
  have hcov := cover0_B_6 c i arg2 harg2 arg3 harg3 arg4 harg4 arg5 harg5 arg6 harg6 arg7 harg7 arg8 harg8 arg9 harg9 hc0 x0 x1 x2 x3 x4 x5 xs0
  unfold out0_B_6
  rw [View.read_writes_eq_canon _ _ _ hcov]
  funext y
  refine View.canon_apply_of_pieces (blockOf xs0 x1 x2 x3 x4 x5) _ ?_ y (hcov y)
  unfold kernelRun0_B
  dsimp only
  sl_unfold_words
  simp only [View.readAt_eq_ld, View.readCov_unit_zero (S := S512x12288) _ hz, harg2.read_unread, harg3.read_unread, harg4.read_unread, harg5.read_unread, harg6.read_unread, harg7.read_unread, harg9.read_unread,
    View.ld_unit_zero (S := S512x12288) hz, View.ld_unit_zero (S := S12288x512) hz, View.ld_unit_zero (S := S512x128) hz]
  intro p hp
  simp only [List.mem_cons, List.not_mem_nil, or_false] at hp
  rcases hp with rfl | rfl | rfl | rfl
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (384 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (256 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (128 + q1.val) % 128 = q1.val by omega)]
  · intro q
    change Shape.Idx ⟨2, ![512, 128]⟩ at q
    idx_vars q
    rw [emb_lane]
    pointwise [blockOf, tileAt, k0_pay1, k0_pay3, k0_pay4, k0_pay5, k0_pay6, k0_pay7, k0_pay8]
    rw [lane_eq q1 _ _ (show (q1.val) % 128 = q1.val by omega)]

/-- Case A leaves the widened codes in the carried scratch. -/
theorem sout_A (c : Dev nD) (i : grid0.Coords) (arg2 : Memref sig .tc .vmem S512x12288 .i8) (harg2 : arg2.IsWhole) (arg3 : Memref sig .tc .vmem S512x128 .f32) (harg3 : arg3.IsWhole) (arg4 : Memref sig .tc .vmem S12288x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x12288 .bf16) (harg9 : arg9.IsWhole) (hc0 : cond0_0 i)
    (x0 : Vec Ideal S512x12288 .i8) (x1 : Vec Ideal S512x128 .f32) (x2 : Vec Ideal S12288x512 .i8) (x3 : Vec Ideal S1x512 .f32) (x4 : Vec Ideal S1x512 .f32) (x5 : Vec Ideal S512x512 .f32) :
    sout0_A_0 c i arg2 harg2 arg3 harg3 arg4 harg4 arg5 harg5 arg6 harg6 arg7 harg7 arg8 harg8 arg9 harg9 hc0 x0 x1 x2 x3 x4 x5 = k0_pay2 x0 := by
  have hcov := scover0_A_0 c i arg2 harg2 arg3 harg3 arg4 harg4 arg5 harg5 arg6 harg6 arg7 harg7 arg8 harg8 arg9 harg9 hc0 x0 x1 x2 x3 x4 x5
  unfold sout0_A_0
  rw [View.read_writes_eq_canon _ _ _ hcov]
  unfold kernelRun0_A
  dsimp only
  sl_unfold_words
  rw [View.canon_unit_zero hz]
  simp only [View.readAt_eq_ld, harg2.read_unread, View.ld_unit_zero (S := S512x12288) hz]

/-- The widened codes, element by element. -/
theorem widen_apply (x0 : Vec Ideal S512x12288 .i8) (r : Fin 512) (k : Fin 12288) :
    k0_pay2 x0 (ix2 r k) = FloatOps.sitofp (F := Ideal) .bf16 (x0 (ix2 r k)) := by
  pointwise [k0_pay2]

end Cert.ProjIdeal.Blocks
end
-- ==== Proof.ProjRun.lean ====
/-
  The second residual product: its result array after the run, as one closed form of the argument arrays.
-/
module

public import proofs.«01_k».proof.Proof.ProjBlock
public import proofs.«01_k».proof.Proof.Gen.ProjIdeal.Value
public import Idealize.ShloMosaic.Lib.Claim

@[expose] public section

set_option maxRecDepth 16384

noncomputable section

namespace Cert.ProjIdeal.Blocks

open Cert.ProjIdeal Cert.ProjIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-! ## Which block each window stages at point `t` of the 32 by 12 grid -/

theorem idx0 : ∀ t : Fin cfg0.N, win0_0.index t = ![t.val / 12, 0] := (by decide +kernel : ∀ t : Fin grid0.N, _)
theorem idx1 : ∀ t : Fin cfg0.N, win0_1.index t = ![t.val / 12, 0] := (by decide +kernel : ∀ t : Fin grid0.N, _)
theorem idx2 : ∀ t : Fin cfg0.N, win0_2.index t = ![0, t.val % 12] := (by decide +kernel : ∀ t : Fin grid0.N, _)
theorem idx3 : ∀ t : Fin cfg0.N, win0_3.index t = ![0, t.val % 12] := (by decide +kernel : ∀ t : Fin grid0.N, _)
theorem idx4 : ∀ t : Fin cfg0.N, win0_4.index t = ![0, t.val % 12] := (by decide +kernel : ∀ t : Fin grid0.N, _)
theorem idx5 : ∀ t : Fin cfg0.N, win0_5.index t = ![t.val / 12, t.val % 12] := (by decide +kernel : ∀ t : Fin grid0.N, _)
theorem idx6 : ∀ t : Fin cfg0.N, win0_6.index t = ![t.val / 12, t.val % 12] := (by decide +kernel : ∀ t : Fin grid0.N, _)

/-! ## Each input block, element by element, in the argument arrays -/

theorem iblk0 (c : Dev nD) (t : Fin cfg0.N) (r : Fin 512) (k : Fin 12288) (R : Fin 16384) (hR : R.val = 512 * (t.val / 12) + r.val) :
    iblk m c 0 t (ix2 r k) = m ((c : Thread nD τ).loc main_arg0) (ix2 R k) := by
  have e := idx0 t
  have h : ((cfg0.win 0).blk t).view.emb (ix2 r k) = (ix2 R k : (⟨2, ![16384, 12288]⟩ : Shape).Idx) := by
    funext a
    apply Fin.ext
    match a with
    | ⟨0, _⟩ => show win0_0.index t (0 : Fin 2) * 512 + 1 * r.val = R.val; rw [e]; show t.val / 12 * 512 + 1 * r.val = R.val; omega
    | ⟨1, _⟩ => show win0_0.index t (1 : Fin 2) * 12288 + 1 * k.val = k.val; rw [e]; show 0 * 12288 + 1 * k.val = k.val; omega
  show V m c main_arg0 (((cfg0.win 0).blk t).view.emb (ix2 r k)) = _
  rw [h]
  rw [V_main_arg0]

theorem iblk1 (c : Dev nD) (t : Fin cfg0.N) (r : Fin 512) (k : Fin 128) (R : Fin 16384) (hR : R.val = 512 * (t.val / 12) + r.val) :
    iblk m c 1 t (ix2 r k) = m ((c : Thread nD τ).loc main_arg1) (ix1 R) := by
  have e := idx1 t
  have h : ((cfg0.win 1).blk t).view.emb (ix2 r k) = (ix2 R k : (⟨2, ![16384, 128]⟩ : Shape).Idx) := by
    funext a
    apply Fin.ext
    match a with
    | ⟨0, _⟩ => show win0_1.index t (0 : Fin 2) * 512 + 1 * r.val = R.val; rw [e]; show t.val / 12 * 512 + 1 * r.val = R.val; omega
    | ⟨1, _⟩ => show win0_1.index t (1 : Fin 2) * 128 + 1 * k.val = k.val; rw [e]; show 0 * 128 + 1 * k.val = k.val; omega
  show V m c main_v1 (((cfg0.win 1).blk t).view.emb (ix2 r k)) = _
  rw [h]
  entry_read
  pointwise

theorem iblk2 (c : Dev nD) (t : Fin cfg0.N) (r : Fin 12288) (k : Fin 512) (C : Fin 6144) (hC : C.val = 512 * (t.val % 12) + k.val) :
    iblk m c 2 t (ix2 r k) = m ((c : Thread nD τ).loc main_arg2) (ix2 r C) := by
  have e := idx2 t
  have h : ((cfg0.win 2).blk t).view.emb (ix2 r k) = (ix2 r C : (⟨2, ![12288, 6144]⟩ : Shape).Idx) := by
    funext a
    apply Fin.ext
    match a with
    | ⟨0, _⟩ => show win0_2.index t (0 : Fin 2) * 12288 + 1 * r.val = r.val; rw [e]; show 0 * 12288 + 1 * r.val = r.val; omega
    | ⟨1, _⟩ => show win0_2.index t (1 : Fin 2) * 512 + 1 * k.val = C.val; rw [e]; show t.val % 12 * 512 + 1 * k.val = C.val; omega
  show V m c main_arg2 (((cfg0.win 2).blk t).view.emb (ix2 r k)) = _
  rw [h]
  rw [V_main_arg2]

theorem iblk3 (c : Dev nD) (t : Fin cfg0.N) (r : Fin 1) (k : Fin 512) (C : Fin 6144) (hC : C.val = 512 * (t.val % 12) + k.val) :
    iblk m c 3 t (ix2 r k) = m ((c : Thread nD τ).loc main_arg3) (ix1 C) := by
  have e := idx3 t
  have h : ((cfg0.win 3).blk t).view.emb (ix2 r k) = (ix2 r C : (⟨2, ![1, 6144]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 512 + 1 * k.val = C.val; rw [e]; show t.val % 12 * 512 + 1 * k.val = C.val; omega
  show V m c main_v2 (((cfg0.win 3).blk t).view.emb (ix2 r k)) = _
  rw [h]
  entry_read
  pointwise

theorem iblk4 (c : Dev nD) (t : Fin cfg0.N) (r : Fin 1) (k : Fin 512) (C : Fin 6144) (hC : C.val = 512 * (t.val % 12) + k.val) :
    iblk m c 4 t (ix2 r k) = m ((c : Thread nD τ).loc main_arg4) (ix1 C) := by
  have e := idx4 t
  have h : ((cfg0.win 4).blk t).view.emb (ix2 r k) = (ix2 r C : (⟨2, ![1, 6144]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 512 + 1 * k.val = C.val; rw [e]; show t.val % 12 * 512 + 1 * k.val = C.val; omega
  show V m c main_v3 (((cfg0.win 4).blk t).view.emb (ix2 r k)) = _
  rw [h]
  entry_read
  pointwise

theorem iblk5 (c : Dev nD) (t : Fin cfg0.N) (r : Fin 512) (k : Fin 512) (R : Fin 16384) (hR : R.val = 512 * (t.val / 12) + r.val) (C : Fin 6144) (hC : C.val = 512 * (t.val % 12) + k.val) :
    iblk m c 5 t (ix2 r k) = m ((c : Thread nD τ).loc main_arg5) (ix2 R C) := by
  have e := idx5 t
  have h : ((cfg0.win 5).blk t).view.emb (ix2 r k) = (ix2 R C : (⟨2, ![16384, 6144]⟩ : Shape).Idx) := by
    funext a
    apply Fin.ext
    match a with
    | ⟨0, _⟩ => show win0_5.index t (0 : Fin 2) * 512 + 1 * r.val = R.val; rw [e]; show t.val / 12 * 512 + 1 * r.val = R.val; omega
    | ⟨1, _⟩ => show win0_5.index t (1 : Fin 2) * 512 + 1 * k.val = C.val; rw [e]; show t.val % 12 * 512 + 1 * k.val = C.val; omega
  show V m c main_arg5 (((cfg0.win 5).blk t).view.emb (ix2 r k)) = _
  rw [h]
  rw [V_main_arg5]

/-! ## What each point leaves -/

/-- The codes of a row of blocks are staged alike at all its points. -/
theorem iblk0_row (c : Dev nD) (t t' : Fin cfg0.N) (h : t.val / 12 = t'.val / 12) : iblk m c 0 t = iblk m c 0 t' := by
  have ht : t.val < 384 := Nat.lt_of_lt_of_eq t.isLt N_0
  funext y
  change Shape.Idx ⟨2, ![512, 12288]⟩ at y
  idx_vars y
  have hlt : 512 * (t.val / 12) + y0.val < 16384 := by omega
  exact (iblk0 m c t y0 y1 ⟨512 * (t.val / 12) + y0.val, hlt⟩ rfl).trans
    (iblk0 m c t' y0 y1 ⟨512 * (t.val / 12) + y0.val, hlt⟩ (congrArg (fun q => 512 * q + y0.val) h)).symm

/-- The carried scratch holds the widened codes of the point's row of blocks. -/
theorem scratch_eq (c : Dev nD) : ∀ (n : ℕ) (t : Fin cfg0.N), t.val = n → (outsAt0 m c t.val t.isLt).2 = k0_pay2 (iblk m c 0 t) := by
  intro n
  induction n with
  | zero =>
    intro t e
    rw [outsAt0_A m c t (by omega)]
    dsimp only
    rw [sout_A]
  | succ n ih =>
    intro t e
    by_cases h0 : t.val % 12 = 0
    · rw [outsAt0_A m c t h0]
      dsimp only
      rw [sout_A]
    · rw [outsAt0_B m c t h0]
      dsimp only [sout0_B_0]
      have hp : t.val - 1 < cfg0.N := Nat.lt_of_le_of_lt (Nat.sub_le _ _) t.isLt
      exact (ih ⟨t.val - 1, hp⟩ (by show t.val - 1 = n; omega)).trans
        (congrArg k0_pay2 (iblk0_row m c ⟨t.val - 1, hp⟩ t (by show (t.val - 1) / 12 = t.val / 12; omega)))

/-- The output block after point `t`. -/
theorem out_eq (c : Dev nD) (t : Fin cfg0.N) :
    (outsAt0 m c t.val t.isLt).1 = blockOf (k0_pay2 (iblk m c 0 t)) (iblk m c 1 t) (iblk m c 2 t) (iblk m c 3 t) (iblk m c 4 t) (iblk m c 5 t) := by
  by_cases h0 : t.val % 12 = 0
  · rw [outsAt0_A m c t h0]
    dsimp only
    rw [out_A]
  · have hp : t.val - 1 < cfg0.N := Nat.lt_of_le_of_lt (Nat.sub_le _ _) t.isLt
    have hs : (outsAt0 m c (t.val - 1) hp).2 = k0_pay2 (iblk m c 0 t) := (scratch_eq m c _ ⟨t.val - 1, hp⟩ rfl).trans
      (congrArg k0_pay2 (iblk0_row m c ⟨t.val - 1, hp⟩ t (by show (t.val - 1) / 12 = t.val / 12; omega)))
    rw [outsAt0_B m c t h0]
    dsimp only
    rw [out_B, hs]

/-! ## The whole array -/

/-- A point's block, element by element, is `residual` at the element's place in the array. -/
theorem block_eq (c : Dev nD) (t : Fin cfg0.N) (r : Fin 512) (k : Fin 512) (R : Fin 16384) (C : Fin 6144)
    (hR : R.val = 512 * (t.val / 12) + r.val) (hC : C.val = 512 * (t.val % 12) + k.val) :
    blockOf (k0_pay2 (iblk m c 0 t)) (iblk m c 1 t) (iblk m c 2 t) (iblk m c 3 t) (iblk m c 4 t) (iblk m c 5 t) (ix2 r k)
      = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R C) := by
  exact congrArg₂ (fun a b : EReal => a + b) (iblk5 m c t r k R hR C hC) (tile_eq_lin
    (fun j => (widen_apply _ r j).trans (congrArg _ (iblk0 m c t r j R hR)))
    (iblk1 m c t r _ R hR) (fun j => iblk2 m c t j k C hC) (iblk3 m c t 0 k C hC) (iblk4 m c t 0 k C hC))

/-- What point `t` writes back is its block of `residual`. -/
theorem flushed_eq (c : Dev nD) (t : Fin cfg0.N) :
    (dats m 0 c).flushed 6 t = ((cfg0.win 6).blk t).view.read (Elt Ideal) (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have ht : t.val < 384 := Nat.lt_of_lt_of_eq t.isLt N_0
  rw [Value.flushed6, out_eq]
  funext y
  change Shape.Idx ⟨2, ![512, 512]⟩ at y
  idx_vars y
  have hR : 512 * (t.val / 12) + y0.val < 16384 := by omega
  have hC : 512 * (t.val % 12) + y1.val < 6144 := by omega
  have e := idx6 t
  have h : ((cfg0.win 6).blk t).view.emb (ix2 y0 y1) = (ix2 (⟨512 * (t.val / 12) + y0.val, hR⟩ : Fin 16384) (⟨512 * (t.val % 12) + y1.val, hC⟩ : Fin 6144) : (⟨2, ![16384, 6144]⟩ : Shape).Idx) := by
    funext a
    apply Fin.ext
    match a with
    | ⟨0, _⟩ => show win0_6.index t (0 : Fin 2) * 512 + 1 * y0.val = _; rw [e]; show t.val / 12 * 512 + 1 * y0.val = 512 * (t.val / 12) + y0.val; omega
    | ⟨1, _⟩ => show win0_6.index t (1 : Fin 2) * 512 + 1 * y1.val = _; rw [e]; show t.val % 12 * 512 + 1 * y1.val = 512 * (t.val % 12) + y1.val; omega
  refine (block_eq m c t y0 y1 ⟨512 * (t.val / 12) + y0.val, hR⟩ ⟨512 * (t.val % 12) + y1.val, hC⟩ rfl rfl).trans ?_
  exact congrArg (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) h.symm

/-- The result array after the run. -/
theorem final (c : Dev nD) : (dats m 0 c).arrAt 6 cfg0.N = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) (fun i => (Value.covered_iff6 i).2 (by
    have h0 : (i 0).val < 16384 := (i 0).isLt; have h1 : (i 1).val < 6144 := (i 1).isLt; omega))

/-- The run: the result array holds `residual` of the arguments, the arguments are unchanged. -/
theorem run : θ_run defs (onTc (τ := τ) (main (F := Ideal))) ⟨m, fun _ => 0, ρ⟩ fun r => ∀ c : Dev nD,
      r.2.mem ((c : Thread nD τ).loc main_v4) = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1).trans (final m c), (h c).2⟩) (Value.run_blocks m ρ)

end Cert.ProjIdeal.Blocks
end
-- ==== Proof.ProjRef.lean ====
/-
  The second residual product: its reference's result array after the run, and the two programs' results compared.
-/
module

public import proofs.«01_k».proof.Defs
public import proofs.«01_k».proof.Proof.ProjRun
public import proofs.«01_k».proof.Proof.Gen.ProjRefIdeal.Value

@[expose] public section

set_option maxRecDepth 16384

noncomputable section

namespace Cert.ProjRefIdeal.Blocks

open Cert.ProjRefIdeal Cert.ProjRefIdeal.Gen Idealize.ShloMosaic Idealize.ShloMosaic.TcCoe Idealize.SL.Sem
open Idealize.ShloMosaic.Pointwise Cert.Common
open Idealize.ShloMosaic.Pipeline (Dat)

variable (m : (ℓ : Loc nD τ sig) → Buf (Elt Ideal) ℓ) (ρ : Dev nD → PrngReg)

/-- The reference's one body, element by element. -/
theorem out_apply (x0 : Vec Ideal S16384x12288 .i8) (x1 : Vec Ideal S16384x1 .f32) (x2 : Vec Ideal S12288x6144 .i8)
    (x3 x4 : Vec Ideal S1x6144 .f32) (x5 : (⟨2, ![16384, 6144]⟩ : Shape).Idx → EReal) (r : Fin 16384) (n : Fin 6144) :
    out0_6 x0 x1 x2 x3 x4 x5 (ix2 r n) = x5 (ix2 r n)
      + ((∑ k : Fin 12288, (FloatOps.sitofp (F := Ideal) .bf16 (x0 (ix2 r k)) : EReal) * (FloatOps.sitofp (F := Ideal) .bf16 (x2 (ix2 k n)) : EReal))
        * x1 (ix2 r 0) * x3 (ix2 0 n) + x4 (ix2 0 n)) := by
  unfold out0_6
  rw [View.canon_unit_zero hz]
  simp only [View.ld_unit_zero (S := S16384x12288) hz, View.ld_unit_zero (S := S12288x6144) hz, View.ld_unit_zero (S := S16384x6144) hz,
    View.ld_unit_zero (S := S16384x1) hz, View.ld_unit_zero (S := S1x6144) hz]
  pointwise [k0_pay1]

/-! ## The one point's blocks are the whole arrays -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem iblk0 (c : Dev nD) (t : Fin cfg0.N) (r : Fin 16384) (k : Fin 12288) :
    iblk m c 0 t (ix2 r k) = m ((c : Thread nD τ).loc main_arg0) (ix2 r k) := by
  have e := idx0 t
  have h : ((cfg0.win 0).blk t).view.emb (ix2 r k) = (ix2 r k : (⟨2, ![16384, 12288]⟩ : Shape).Idx) := by
    funext a
    apply Fin.ext
    match a with
    | ⟨0, _⟩ => show win0_0.index t (0 : Fin 2) * 16384 + 1 * r.val = r.val; rw [e]; show 0 * 16384 + 1 * r.val = r.val; omega
    | ⟨1, _⟩ => show win0_0.index t (1 : Fin 2) * 12288 + 1 * k.val = k.val; rw [e]; show 0 * 12288 + 1 * k.val = k.val; omega
  show V m c main_arg0 (((cfg0.win 0).blk t).view.emb (ix2 r k)) = _
  rw [h]
  rw [V_main_arg0]

theorem iblk1 (c : Dev nD) (t : Fin cfg0.N) (r : Fin 16384) (k : Fin 1) :
    iblk m c 1 t (ix2 r k) = m ((c : Thread nD τ).loc main_arg1) (ix1 r) := by
  have e := idx1 t
  have h : ((cfg0.win 1).blk t).view.emb (ix2 r k) = (ix2 r k : (⟨2, ![16384, 1]⟩ : Shape).Idx) := by
    funext a
    apply Fin.ext
    match a with
    | ⟨0, _⟩ => show win0_1.index t (0 : Fin 2) * 16384 + 1 * r.val = r.val; rw [e]; show 0 * 16384 + 1 * r.val = r.val; omega
    | ⟨1, _⟩ => show win0_1.index t (1 : Fin 2) * 1 + 1 * k.val = k.val; rw [e]; show 0 * 1 + 1 * k.val = k.val; omega
  show V m c main_v0 (((cfg0.win 1).blk t).view.emb (ix2 r k)) = _
  rw [h]
  entry_read
  pointwise

theorem iblk2 (c : Dev nD) (t : Fin cfg0.N) (r : Fin 12288) (k : Fin 6144) :
    iblk m c 2 t (ix2 r k) = m ((c : Thread nD τ).loc main_arg2) (ix2 r k) := by
  have e := idx2 t
  have h : ((cfg0.win 2).blk t).view.emb (ix2 r k) = (ix2 r k : (⟨2, ![12288, 6144]⟩ : Shape).Idx) := by
    funext a
    apply Fin.ext
    match a with
    | ⟨0, _⟩ => show win0_2.index t (0 : Fin 2) * 12288 + 1 * r.val = r.val; rw [e]; show 0 * 12288 + 1 * r.val = r.val; omega
    | ⟨1, _⟩ => show win0_2.index t (1 : Fin 2) * 6144 + 1 * k.val = k.val; rw [e]; show 0 * 6144 + 1 * k.val = k.val; omega
  show V m c main_arg2 (((cfg0.win 2).blk t).view.emb (ix2 r k)) = _
  rw [h]
  rw [V_main_arg2]

theorem iblk3 (c : Dev nD) (t : Fin cfg0.N) (r : Fin 1) (k : Fin 6144) :
    iblk m c 3 t (ix2 r k) = m ((c : Thread nD τ).loc main_arg3) (ix1 k) := by
  have e := idx3 t
  have h : ((cfg0.win 3).blk t).view.emb (ix2 r k) = (ix2 r k : (⟨2, ![1, 6144]⟩ : Shape).Idx) := by
    funext a
    apply Fin.ext
    match a with
    | ⟨0, _⟩ => show win0_3.index t (0 : Fin 2) * 1 + 1 * r.val = r.val; rw [e]; show 0 * 1 + 1 * r.val = r.val; omega
    | ⟨1, _⟩ => show win0_3.index t (1 : Fin 2) * 6144 + 1 * k.val = k.val; rw [e]; show 0 * 6144 + 1 * k.val = k.val; omega
  show V m c main_v1 (((cfg0.win 3).blk t).view.emb (ix2 r k)) = _
  rw [h]
  entry_read
  pointwise

theorem iblk4 (c : Dev nD) (t : Fin cfg0.N) (r : Fin 1) (k : Fin 6144) :
    iblk m c 4 t (ix2 r k) = m ((c : Thread nD τ).loc main_arg4) (ix1 k) := by
  have e := idx4 t
  have h : ((cfg0.win 4).blk t).view.emb (ix2 r k) = (ix2 r k : (⟨2, ![1, 6144]⟩ : Shape).Idx) := by
    funext a
    apply Fin.ext
    match a with
    | ⟨0, _⟩ => show win0_4.index t (0 : Fin 2) * 1 + 1 * r.val = r.val; rw [e]; show 0 * 1 + 1 * r.val = r.val; omega
    | ⟨1, _⟩ => show win0_4.index t (1 : Fin 2) * 6144 + 1 * k.val = k.val; rw [e]; show 0 * 6144 + 1 * k.val = k.val; omega
  show V m c main_v2 (((cfg0.win 4).blk t).view.emb (ix2 r k)) = _
  rw [h]
  entry_read
  pointwise

theorem iblk5 (c : Dev nD) (t : Fin cfg0.N) (r : Fin 16384) (k : Fin 6144) :
    iblk m c 5 t (ix2 r k) = m ((c : Thread nD τ).loc main_arg5) (ix2 r k) := by
  have e := idx5 t
  have h : ((cfg0.win 5).blk t).view.emb (ix2 r k) = (ix2 r k : (⟨2, ![16384, 6144]⟩ : Shape).Idx) := by
    funext a
    apply Fin.ext
    match a with
    | ⟨0, _⟩ => show win0_5.index t (0 : Fin 2) * 16384 + 1 * r.val = r.val; rw [e]; show 0 * 16384 + 1 * r.val = r.val; omega
    | ⟨1, _⟩ => show win0_5.index t (1 : Fin 2) * 6144 + 1 * k.val = k.val; rw [e]; show 0 * 6144 + 1 * k.val = k.val; omega
  show V m c main_arg5 (((cfg0.win 5).blk t).view.emb (ix2 r k)) = _
  rw [h]
  rw [V_main_arg5]

/-- What the one point writes back. -/
theorem flushed_eq (c : Dev nD) (t : Fin cfg0.N) :
    (dats m 0 c).flushed 6 t = ((cfg0.win 6).blk t).view.read (Elt Ideal) (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  funext y
  change Shape.Idx ⟨2, ![16384, 6144]⟩ at y
  idx_vars y
  have e := idx6 t
  have h : ((cfg0.win 6).blk t).view.emb (ix2 y0 y1) = (ix2 y0 y1 : (⟨2, ![16384, 6144]⟩ : Shape).Idx) := by
    funext a
    apply Fin.ext
    match a with
    | ⟨0, _⟩ => show win0_6.index t (0 : Fin 2) * 16384 + 1 * y0.val = y0.val; rw [e]; show 0 * 16384 + 1 * y0.val = y0.val; omega
    | ⟨1, _⟩ => show win0_6.index t (1 : Fin 2) * 6144 + 1 * y1.val = y1.val; rw [e]; show 0 * 6144 + 1 * y1.val = y1.val; omega
  refine Eq.trans ?_ (congrArg (residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) h.symm)
  refine (out_apply _ _ _ _ _ _ y0 y1).trans ?_
  show _ = (_ : EReal) + linAt _ _ _ _ _ y0 y1
  unfold linAt
  simp only [iblk0, iblk1, iblk2, iblk3, iblk4, iblk5]

/-- The one grid point. -/
def t₀ : Fin cfg0.N := ⟨0, by decide⟩

/-- Its block of the result is the whole array. -/
theorem emb_out (i : (⟨2, ![16384, 6144]⟩ : Shape).Idx) : ((cfg0.win 6).blk t₀).view.emb i = i := by
  have e := idx6 t₀
  funext a
  apply Fin.ext
  match a with
  | ⟨0, _⟩ => show win0_6.index t₀ (0 : Fin 2) * 16384 + 1 * (i 0).val = (i 0).val; rw [e]; show 0 * 16384 + 1 * (i 0).val = (i 0).val; omega
  | ⟨1, _⟩ => show win0_6.index t₀ (1 : Fin 2) * 6144 + 1 * (i 1).val = (i 1).val; rw [e]; show 0 * 6144 + 1 * (i 1).val = (i 1).val; omega

/-- The result array after the run. -/
theorem final (c : Dev nD) : (dats m 0 c).arrAt 6 cfg0.N = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) (fun i => ⟨t₀, by decide +kernel, by
    have hm := View.emb_mem_set ((cfg0.win 6).blk t₀).view i
    rw [emb_out i] at hm
    exact hm⟩)

/-- The run: the result array holds the residual plus the layer, the arguments are unchanged. -/
theorem run : θ_run defs (onTc (τ := τ) (main (F := Ideal))) ⟨m, fun _ => 0, ρ⟩ fun r => ∀ c : Dev nD,
      r.2.mem ((c : Thread nD τ).loc main_v3) = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1).trans (final m c), (h c).2⟩) (Value.run_blocks m ρ)

end Cert.ProjRefIdeal.Blocks

open Idealize.ShloMosaic Cert.Common in
/-- Kernel and reference leave the same array from the same arguments. -/
theorem Cert.ProjIdeal.Blocks.algebraic : Cert.algebraic_ProjIdeal_ProjRefIdeal := by
  intro m g m' g' hpre h
  refine ⟨fun c => _, Cert.ProjIdeal.Blocks.run m g, ?_⟩
  refine (θ_run _ _ _).mono (fun r hr c => ⟨((hr c).1).trans ?_, (hr c).2⟩) (Cert.ProjRefIdeal.Blocks.run m' g')
  obtain ⟨e0, e1, e2, e3, e4, e5⟩ := h c
  rw [e0, e1, e2, e3, e4, e5]
end
-- ==== Proof.lean ====
/-
  The claims, assembled: for every call the frames of the program, of its idealization and of the reference; that the
  idealization changed nothing; and that kernel and reference leave the same arrays.
-/
module

public import proofs.«01_k».proof.Defs
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.Ln1RefIdeal
public import proofs.«01_k».proof.Proof.Gen.Ln1RefIdeal.Skeleton
public import proofs.«01_k».proof.Proof.Gen.Ln1RefIdeal.Launch
public import proofs.«01_k».proof.Proof.Gen.Ln1RefIdeal.Points
public import proofs.«01_k».proof.Proof.Gen.Ln1RefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Slots
public import proofs.«01_k».proof.Proof.Gen.Slots.Run
public import proofs.«01_k».proof.Proof.Gen.SlotsIdeal
public import proofs.«01_k».proof.Proof.Gen.SlotsIdeal.Run
public import proofs.«01_k».proof.Proof.Gen.SlotsRefIdeal
public import proofs.«01_k».proof.Proof.Gen.SlotsRefIdeal.Skeleton
public import proofs.«01_k».proof.Proof.Gen.SlotsRefIdeal.Launch
public import proofs.«01_k».proof.Proof.Gen.SlotsRefIdeal.Points
public import proofs.«01_k».proof.Proof.Gen.SlotsRefIdeal.Frame
public import proofs.«01_k».proof.Proof.Gen.SlotsRefIdeal.Value
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojIdeal.Value
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.Gen.Ln2
public import proofs.«01_k».proof.Proof.Gen.Ln2.Skeleton
public import proofs.«01_k».proof.Proof.Gen.Ln2.Launch
public import proofs.«01_k».proof.Proof.Gen.Ln2.Points
public import proofs.«01_k».proof.Proof.Gen.Ln2.Frame
public import proofs.«01_k».proof.Proof.Gen.Ln2Ideal
public import proofs.«01_k».proof.Proof.Gen.Ln2Ideal.Skeleton
public import proofs.«01_k».proof.Proof.Gen.Ln2Ideal.Launch
public import proofs.«01_k».proof.Proof.Gen.Ln2Ideal.Points
public import proofs.«01_k».proof.Proof.Gen.Ln2Ideal.Frame
public import proofs.«01_k».proof.Proof.Gen.Ln2RefIdeal
public import proofs.«01_k».proof.Proof.Gen.Ln2RefIdeal.Skeleton
public import proofs.«01_k».proof.Proof.Gen.Ln2RefIdeal.Launch
public import proofs.«01_k».proof.Proof.Gen.Ln2RefIdeal.Points
public import proofs.«01_k».proof.Proof.Gen.Ln2RefIdeal.Frame
public import proofs.«01_k».proof.Proof.Gen.Fc
public import proofs.«01_k».proof.Proof.Gen.Fc.Skeleton
public import proofs.«01_k».proof.Proof.Gen.Fc.Launch
public import proofs.«01_k».proof.Proof.Gen.Fc.Points
public import proofs.«01_k».proof.Proof.Gen.Fc.Frame
public import proofs.«01_k».proof.Proof.Gen.FcIdeal
public import proofs.«01_k».proof.Proof.Gen.FcIdeal.Skeleton
public import proofs.«01_k».proof.Proof.Gen.FcIdeal.Launch
public import proofs.«01_k».proof.Proof.Gen.FcIdeal.Points
public import proofs.«01_k».proof.Proof.Gen.FcIdeal.Frame
public import proofs.«01_k».proof.Proof.Gen.FcIdeal.Value
public import proofs.«01_k».proof.Proof.Gen.FcRefIdeal
public import proofs.«01_k».proof.Proof.Gen.FcRefIdeal.Skeleton
public import proofs.«01_k».proof.Proof.Gen.FcRefIdeal.Launch
public import proofs.«01_k».proof.Proof.Gen.FcRefIdeal.Points
public import proofs.«01_k».proof.Proof.Gen.FcRefIdeal.Frame
public import proofs.«01_k».proof.Proof.Gen.FcRefIdeal.Value
public import proofs.«01_k».proof.Proof.Gen.Gquant
public import proofs.«01_k».proof.Proof.Gen.Gquant.Skeleton
public import proofs.«01_k».proof.Proof.Gen.Gquant.Launch
public import proofs.«01_k».proof.Proof.Gen.Gquant.Points
public import proofs.«01_k».proof.Proof.Gen.Gquant.Frame
public import proofs.«01_k».proof.Proof.Gen.GquantIdeal
public import proofs.«01_k».proof.Proof.Gen.GquantIdeal.Skeleton
public import proofs.«01_k».proof.Proof.Gen.GquantIdeal.Launch
public import proofs.«01_k».proof.Proof.Gen.GquantIdeal.Points
public import proofs.«01_k».proof.Proof.Gen.GquantIdeal.Frame
public import proofs.«01_k».proof.Proof.Gen.GquantRefIdeal
public import proofs.«01_k».proof.Proof.Gen.GquantRefIdeal.Skeleton
public import proofs.«01_k».proof.Proof.Gen.GquantRefIdeal.Launch
public import proofs.«01_k».proof.Proof.Gen.GquantRefIdeal.Points
public import proofs.«01_k».proof.Proof.Gen.GquantRefIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Skeleton
public import proofs.«01_k».proof.Proof.Gen.ProjRefIdeal.Launch
public import proofs.«01_k».proof.Proof.Gen.ProjRefIdeal.Points
public import proofs.«01_k».proof.Proof.Gen.ProjRefIdeal.Frame
public import proofs.«01_k».proof.Proof.Gen.ProjRefIdeal.Value
public import proofs.«01_k».proof.Proof.QkvFrame
public import proofs.«01_k».proof.Proof.QkvIdealFrame
public import proofs.«01_k».proof.Proof.Ln1Ref
public import proofs.«01_k».proof.Proof.QkvRef
public import proofs.«01_k».proof.Proof.SlotsRef
public import proofs.«01_k».proof.Proof.OprojRef
public import proofs.«01_k».proof.Proof.Ln2Ref
public import proofs.«01_k».proof.Proof.FcRef
public import proofs.«01_k».proof.Proof.GquantRef
public import proofs.«01_k».proof.Proof.ProjRef

@[expose] public section

set_option maxRecDepth 16384

namespace Cert.Proof

open Idealize.ShloMosaic Idealize.SL.Sem

theorem claim : Cert.Claim :=
  ⟨Cert.Ln1.Gen.facts,
    Cert.Ln1Ideal.Gen.facts,
    Cert.Ln1RefIdeal.Gen.facts,
    Cert.Qkv.Gen.facts,
    Cert.QkvIdeal.Gen.facts,
    Cert.QkvRefIdeal.Gen.facts,
    Cert.Slots.Gen.facts,
    Cert.SlotsIdeal.Gen.facts,
    Cert.SlotsRefIdeal.Gen.facts,
    Cert.Oproj.Gen.facts,
    Cert.OprojIdeal.Gen.facts,
    Cert.OprojRefIdeal.Gen.facts,
    Cert.Ln2.Gen.facts,
    Cert.Ln2Ideal.Gen.facts,
    Cert.Ln2RefIdeal.Gen.facts,
    Cert.Fc.Gen.facts,
    Cert.FcIdeal.Gen.facts,
    Cert.FcRefIdeal.Gen.facts,
    Cert.Gquant.Gen.facts,
    Cert.GquantIdeal.Gen.facts,
    Cert.GquantRefIdeal.Gen.facts,
    Cert.Proj.Gen.facts,
    Cert.ProjIdeal.Gen.facts,
    Cert.ProjRefIdeal.Gen.facts,
    fun m ρ _ => Cert.Ln1.Gen.frame m ρ,
    fun m ρ _ => Cert.Ln1Ideal.Gen.frame m ρ,
    fun m ρ _ => Cert.Ln1RefIdeal.Gen.frame m ρ,
    fun m ρ _ => Cert.Qkv.Gen.frame m ρ,
    fun m ρ _ => Cert.QkvIdeal.Gen.frame m ρ,
    fun m ρ _ => Cert.QkvRefIdeal.Gen.frame m ρ,
    fun m ρ _ => Cert.Slots.Gen.frame m ρ,
    fun m ρ _ => Cert.SlotsIdeal.Gen.frame m ρ,
    fun m ρ _ => Cert.SlotsRefIdeal.Gen.frame m ρ,
    fun m ρ _ => Cert.Oproj.Gen.frame m ρ,
    fun m ρ _ => Cert.OprojIdeal.Gen.frame m ρ,
    fun m ρ _ => Cert.OprojRefIdeal.Gen.frame m ρ,
    fun m ρ _ => Cert.Ln2.Gen.frame m ρ,
    fun m ρ _ => Cert.Ln2Ideal.Gen.frame m ρ,
    fun m ρ _ => Cert.Ln2RefIdeal.Gen.frame m ρ,
    fun m ρ _ => Cert.Fc.Gen.frame m ρ,
    fun m ρ _ => Cert.FcIdeal.Gen.frame m ρ,
    fun m ρ _ => Cert.FcRefIdeal.Gen.frame m ρ,
    fun m ρ _ => Cert.Gquant.Gen.frame m ρ,
    fun m ρ _ => Cert.GquantIdeal.Gen.frame m ρ,
    fun m ρ _ => Cert.GquantRefIdeal.Gen.frame m ρ,
    fun m ρ _ => Cert.Proj.Gen.frame m ρ,
    fun m ρ _ => Cert.ProjIdeal.Gen.frame m ρ,
    fun m ρ _ => Cert.ProjRefIdeal.Gen.frame m ρ,
    trivial, Cert.Ln1Ideal.Blocks.algebraic,
    trivial, Cert.QkvIdeal.Blocks.algebraic,
    trivial, Cert.SlotsIdeal.Blocks.algebraic,
    trivial, Cert.OprojIdeal.Blocks.algebraic,
    trivial, Cert.Ln2Ideal.Blocks.algebraic,
    trivial, Cert.FcIdeal.Blocks.algebraic,
    trivial, Cert.GquantIdeal.Blocks.algebraic,
    trivial, Cert.ProjIdeal.Blocks.algebraic⟩

end Cert.Proof

end
